-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_scans_finite [hPre_scans_finite : Cert.Pre_scans_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_scans_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_scans_finite [hPre_scans_finite : Cert.Pre_scans_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_scans_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_prep_finite [hPre_prep_finite : Cert.Pre_prep_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_prep_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_prep_finite [hPre_prep_finite : Cert.Pre_prep_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_prep_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel3Ideal_pre_scans_finite [hKernel3Ideal : Cert.Kernel3Ideal.Facts] [hPre_scans_finite : Cert.Pre_scans_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_scans_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Reference3Ideal_pre_scans_finite [hReference3Ideal : Cert.Reference3Ideal.Facts] [hPre_scans_finite : Cert.Pre_scans_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_scans_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_prep_finite [hKernel4Ideal : Cert.Kernel4Ideal.Facts] [hPre_prep_finite : Cert.Pre_prep_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_prep_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_prep_finite [hReference4Ideal : Cert.Reference4Ideal.Facts] [hPre_prep_finite : Cert.Pre_prep_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_prep_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_v65) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_scans_finite [hKernel3Ideal : Cert.Kernel3Ideal.Facts] [hReference3Ideal : Cert.Reference3Ideal.Facts] [hPre_scans_finite : Cert.Pre_scans_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_scans_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v116) = v0 c
          ∧ r.2.mem ((c.tc : Thread Cert.Reference3Ideal.nD Cert.Reference3Ideal.τ).loc Cert.Reference3Ideal.main_v140) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal_pre_prep_finite [hKernel4Ideal : Cert.Kernel4Ideal.Facts] [hReference4Ideal : Cert.Reference4Ideal.Facts] [hPre_prep_finite : Cert.Pre_prep_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_prep_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v49_0)) (v1 : (c : Dev Cert.Kernel4Ideal.nD) → Buf (Elt Ideal) ((c.tc : Thread Cert.Kernel4Ideal.nD Cert.Kernel4Ideal.τ).loc Cert.Kernel4Ideal.main_v49_1)) (v2 : (c : Dev Cert.Kernel4Ideal.nD) → Buf (Elt Ideal) ((c.tc : Thread Cert.Kernel4Ideal.nD Cert.Kernel4Ideal.τ).loc Cert.Kernel4Ideal.main_v49_2)) (v3 : (c : Dev Cert.Kernel4Ideal.nD) → Buf (Elt Ideal) ((c.tc : Thread Cert.Kernel4Ideal.nD Cert.Kernel4Ideal.τ).loc Cert.Kernel4Ideal.main_v49_3)) (v4 : (c : Dev Cert.Kernel4Ideal.nD) → Buf (Elt Ideal) ((c.tc : Thread Cert.Kernel4Ideal.nD Cert.Kernel4Ideal.τ).loc Cert.Kernel4Ideal.main_v49_4)) (v5 : (c : Dev Cert.Kernel4Ideal.nD) → Buf (Elt Ideal) ((c.tc : Thread Cert.Kernel4Ideal.nD Cert.Kernel4Ideal.τ).loc Cert.Kernel4Ideal.main_v49_5)) (v6 : (c : Dev Cert.Kernel4Ideal.nD) → Buf (Elt Ideal) ((c.tc : Thread Cert.Kernel4Ideal.nD Cert.Kernel4Ideal.τ).loc Cert.Kernel4Ideal.main_v49_6)) (v7 : (c : Dev Cert.Kernel4Ideal.nD) → Buf (Elt Ideal) ((c.tc : Thread Cert.Kernel4Ideal.nD Cert.Kernel4Ideal.τ).loc Cert.Kernel4Ideal.main_v49_7)) (v8 : (c : Dev Cert.Kernel4Ideal.nD) → Buf (Elt Ideal) ((c.tc : Thread Cert.Kernel4Ideal.nD Cert.Kernel4Ideal.τ).loc Cert.Kernel4Ideal.main_v49_8)) (v9 : (c : Dev Cert.Kernel4Ideal.nD) → Buf (Elt Ideal) ((c.tc : Thread Cert.Kernel4Ideal.nD Cert.Kernel4Ideal.τ).loc Cert.Kernel4Ideal.main_v49_9)) (v10 : (c : Dev Cert.Kernel4Ideal.nD) → Buf (Elt Ideal) ((c.tc : Thread Cert.Kernel4Ideal.nD Cert.Kernel4Ideal.τ).loc Cert.Kernel4Ideal.main_v49_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v49_0) = v0 c
          ∧ r.2.mem ((c.tc : Thread Cert.Kernel4Ideal.nD Cert.Kernel4Ideal.τ).loc Cert.Kernel4Ideal.main_v49_1) = v1 c
          ∧ r.2.mem ((c.tc : Thread Cert.Kernel4Ideal.nD Cert.Kernel4Ideal.τ).loc Cert.Kernel4Ideal.main_v49_2) = v2 c
          ∧ r.2.mem ((c.tc : Thread Cert.Kernel4Ideal.nD Cert.Kernel4Ideal.τ).loc Cert.Kernel4Ideal.main_v49_3) = v3 c
          ∧ r.2.mem ((c.tc : Thread Cert.Kernel4Ideal.nD Cert.Kernel4Ideal.τ).loc Cert.Kernel4Ideal.main_v49_4) = v4 c
          ∧ r.2.mem ((c.tc : Thread Cert.Kernel4Ideal.nD Cert.Kernel4Ideal.τ).loc Cert.Kernel4Ideal.main_v49_5) = v5 c
          ∧ r.2.mem ((c.tc : Thread Cert.Kernel4Ideal.nD Cert.Kernel4Ideal.τ).loc Cert.Kernel4Ideal.main_v49_6) = v6 c
          ∧ r.2.mem ((c.tc : Thread Cert.Kernel4Ideal.nD Cert.Kernel4Ideal.τ).loc Cert.Kernel4Ideal.main_v49_7) = v7 c
          ∧ r.2.mem ((c.tc : Thread Cert.Kernel4Ideal.nD Cert.Kernel4Ideal.τ).loc Cert.Kernel4Ideal.main_v49_8) = v8 c
          ∧ r.2.mem ((c.tc : Thread Cert.Kernel4Ideal.nD Cert.Kernel4Ideal.τ).loc Cert.Kernel4Ideal.main_v49_9) = v9 c
          ∧ r.2.mem ((c.tc : Thread Cert.Kernel4Ideal.nD Cert.Kernel4Ideal.τ).loc Cert.Kernel4Ideal.main_v49_10) = v10 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v192) = v0 c
          ∧ r.2.mem ((c.tc : Thread Cert.Reference4Ideal.nD Cert.Reference4Ideal.τ).loc Cert.Reference4Ideal.main_v193) = v1 c
          ∧ r.2.mem ((c.tc : Thread Cert.Reference4Ideal.nD Cert.Reference4Ideal.τ).loc Cert.Reference4Ideal.main_v97) = v2 c
          ∧ r.2.mem ((c.tc : Thread Cert.Reference4Ideal.nD Cert.Reference4Ideal.τ).loc Cert.Reference4Ideal.main_v180) = v3 c
          ∧ r.2.mem ((c.tc : Thread Cert.Reference4Ideal.nD Cert.Reference4Ideal.τ).loc Cert.Reference4Ideal.main_v194) = v4 c
          ∧ r.2.mem ((c.tc : Thread Cert.Reference4Ideal.nD Cert.Reference4Ideal.τ).loc Cert.Reference4Ideal.main_v172) = v5 c
          ∧ r.2.mem ((c.tc : Thread Cert.Reference4Ideal.nD Cert.Reference4Ideal.τ).loc Cert.Reference4Ideal.main_v195) = v6 c
          ∧ r.2.mem ((c.tc : Thread Cert.Reference4Ideal.nD Cert.Reference4Ideal.τ).loc Cert.Reference4Ideal.main_v125) = v7 c
          ∧ r.2.mem ((c.tc : Thread Cert.Reference4Ideal.nD Cert.Reference4Ideal.τ).loc Cert.Reference4Ideal.main_v142) = v8 c
          ∧ r.2.mem ((c.tc : Thread Cert.Reference4Ideal.nD Cert.Reference4Ideal.τ).loc Cert.Reference4Ideal.main_v159) = v9 c
          ∧ r.2.mem ((c.tc : Thread Cert.Reference4Ideal.nD Cert.Reference4Ideal.τ).loc Cert.Reference4Ideal.main_v191) = v10 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_in_range : Cert.Pre_tables_in_range.Facts) (hPre_scans_finite : Cert.Pre_scans_finite.Facts) (hPre_prep_finite : Cert.Pre_prep_finite.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_scans_finite (hKernel3Ideal := hKernel3Ideal) (hPre_scans_finite := hPre_scans_finite)
    ∧ quiescent_Reference3Ideal (hReference3Ideal := hReference3Ideal)
    ∧ quiescent_Reference3Ideal_pre_scans_finite (hReference3Ideal := hReference3Ideal) (hPre_scans_finite := hPre_scans_finite)
    ∧ quiescent_Kernel4 (hKernel4 := hKernel4)
    ∧ quiescent_Kernel4Ideal (hKernel4Ideal := hKernel4Ideal)
    ∧ quiescent_Kernel4Ideal_pre_prep_finite (hKernel4Ideal := hKernel4Ideal) (hPre_prep_finite := hPre_prep_finite)
    ∧ quiescent_Reference4Ideal (hReference4Ideal := hReference4Ideal)
    ∧ quiescent_Reference4Ideal_pre_prep_finite (hReference4Ideal := hReference4Ideal) (hPre_prep_finite := hPre_prep_finite)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_scans_finite (hKernel3Ideal := hKernel3Ideal) (hReference3Ideal := hReference3Ideal) (hPre_scans_finite := hPre_scans_finite)
    ∧ preserves_Kernel4_Kernel4Ideal
    ∧ algebraic_Kernel4Ideal_Reference4Ideal_pre_prep_finite (hKernel4Ideal := hKernel4Ideal) (hReference4Ideal := hReference4Ideal) (hPre_prep_finite := hPre_prep_finite)
-- ==== Pre_prep_finite.lean ====
abbrev S16x4352x2560 : Shape := ⟨3, ![16, 4352, 2560]⟩
abbrev S16x4352x1536 : Shape := ⟨3, ![16, 4352, 1536]⟩
abbrev S3x3x2560 : Shape := ⟨3, ![3, 3, 2560]⟩
abbrev S2x512 : Shape := ⟨2, ![2, 512]⟩
abbrev S2x64x512 : Shape := ⟨3, ![2, 64, 512]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S16x4352x1024 : Shape := ⟨3, ![16, 4352, 1024]⟩
abbrev S_ : Shape := ⟨0, ![]⟩
abbrev S3x3x1024 : Shape := ⟨3, ![3, 3, 1024]⟩
abbrev S16x4352x64 : Shape := ⟨3, ![16, 4352, 64]⟩

class Facts : Prop where
  slices_S16x4352x2560_S16x4352x1024_0_0_1024 : S16x4352x2560.Slices ![0, 0, 1024] S16x4352x1024
  bcast_S_S16x4352x1024 : S_.BroadcastsInDim S16x4352x1024 (![] : Fin 0 → Fin S16x4352x1024.rank)
  reducesTo_S16x4352x1024_S_d0_1_2 : S16x4352x1024.ReducesTo [0, 1, 2] S_
  h_S_ : 0 < S_.numel
  slices_S3x3x2560_S3x3x1024_0_0_1024 : S3x3x2560.Slices ![0, 0, 1024] S3x3x1024
  bcast_S_S3x3x1024 : S_.BroadcastsInDim S3x3x1024 (![] : Fin 0 → Fin S3x3x1024.rank)
  reducesTo_S3x3x1024_S_d0_1_2 : S3x3x1024.ReducesTo [0, 1, 2] S_
  slices_S16x4352x1536_S16x4352x64_0_0_1280 : S16x4352x1536.Slices ![0, 0, 1280] S16x4352x64
  bcast_S_S16x4352x64 : S_.BroadcastsInDim S16x4352x64 (![] : Fin 0 → Fin S16x4352x64.rank)
  reducesTo_S16x4352x64_S_d0_1_2 : S16x4352x64.ReducesTo [0, 1, 2] S_
  bcast_S_S2x64x512 : S_.BroadcastsInDim S2x64x512 (![] : Fin 0 → Fin S2x64x512.rank)
  reducesTo_S2x64x512_S_d0_1_2 : S2x64x512.ReducesTo [0, 1, 2] S_
  bcast_S_S64x512 : S_.BroadcastsInDim S64x512 (![] : Fin 0 → Fin S64x512.rank)
  reducesTo_S64x512_S_d0_1 : S64x512.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S8x64 : S_.BroadcastsInDim S8x64 (![] : Fin 0 → Fin S8x64.rank)
  reducesTo_S8x64_S_d0_1 : S8x64.ReducesTo [0, 1] S_

variable [Facts]

def fn_part2 {F : FTy → Type} [FloatOps F] (main_arg9 : FVec F S512 .f32) (main_arg10 : FVec F S8x64 .f32) (main_v31 : IVec S_ 1) (main_v34 : IVec S512 1) : IVec S_ 1 :=
  let main_c_11 : IVec S_ 1 := constantI S_ 1 1#1
  let main_v35 : IVec S_ 1 := (fun x v => Host.reduce IntOp.andi x v reducesTo_S512_S_d0 h_S_) main_v34 main_c_11
  let main_v36 : IVec S_ 1 := andi main_v31 main_v35
  let main_v37 : FVec F S512 .f32 := Host.absf main_arg9
  let main_cst_12 : FVec F S_ .f32 := constant S_ .f32 0x7F800000#32
  let main_v38 : FVec F S512 .f32 := broadcastInDim S512 ![] bcast_S_S512 main_cst_12
  let main_v39 : IVec S512 1 := cmpf .olt main_v37 main_v38
  let main_c_13 : IVec S_ 1 := constantI S_ 1 1#1
  let main_v40 : IVec S_ 1 := (fun x v => Host.reduce IntOp.andi x v reducesTo_S512_S_d0 h_S_) main_v39 main_c_13
  let main_v41 : IVec S_ 1 := andi main_v36 main_v40
  let main_v42 : FVec F S8x64 .f32 := Host.absf main_arg10
  let main_cst_14 : FVec F S_ .f32 := constant S_ .f32 0x7F800000#32
  let main_v43 : FVec F S8x64 .f32 := broadcastInDim S8x64 ![] bcast_S_S8x64 main_cst_14
  let main_v44 : IVec S8x64 1 := cmpf .olt main_v42 main_v43
  let main_c_15 : IVec S_ 1 := constantI S_ 1 1#1
  let main_v45 : IVec S_ 1 := (fun x v => Host.reduce IntOp.andi x v reducesTo_S8x64_S_d0_1 h_S_) main_v44 main_c_15
  let main_v46 : IVec S_ 1 := andi main_v41 main_v45
  main_v46

def fn_part1 {F : FTy → Type} [FloatOps F] (main_arg6 : FVec F S64x512 .f32) (main_arg7 : FVec F S128x512 .f32) (main_arg8 : FVec F S512 .f32) (main_arg9 : FVec F S512 .f32) (main_arg10 : FVec F S8x64 .f32) (main_v16 : IVec S_ 1) (main_v17 : FVec F S2x64x512 .f32) : IVec S_ 1 :=
  let main_cst_4 : FVec F S_ .f32 := constant S_ .f32 0x7F800000#32
  let main_v18 : FVec F S2x64x512 .f32 := broadcastInDim S2x64x512 ![] bcast_S_S2x64x512 main_cst_4
  let main_v19 : IVec S2x64x512 1 := cmpf .olt main_v17 main_v18
  let main_c_5 : IVec S_ 1 := constantI S_ 1 1#1
  let main_v20 : IVec S_ 1 := (fun x v => Host.reduce IntOp.andi x v reducesTo_S2x64x512_S_d0_1_2 h_S_) main_v19 main_c_5
  let main_v21 : IVec S_ 1 := andi main_v16 main_v20
  let main_v22 : FVec F S64x512 .f32 := Host.absf main_arg6
  let main_cst_6 : FVec F S_ .f32 := constant S_ .f32 0x7F800000#32
  let main_v23 : FVec F S64x512 .f32 := broadcastInDim S64x512 ![] bcast_S_S64x512 main_cst_6
  let main_v24 : IVec S64x512 1 := cmpf .olt main_v22 main_v23
  let main_c_7 : IVec S_ 1 := constantI S_ 1 1#1
  let main_v25 : IVec S_ 1 := (fun x v => Host.reduce IntOp.andi x v reducesTo_S64x512_S_d0_1 h_S_) main_v24 main_c_7
  let main_v26 : IVec S_ 1 := andi main_v21 main_v25
  let main_v27 : FVec F S128x512 .f32 := Host.absf main_arg7
  let main_cst_8 : FVec F S_ .f32 := constant S_ .f32 0x7F800000#32
  let main_v28 : FVec F S128x512 .f32 := broadcastInDim S128x512 ![] bcast_S_S128x512 main_cst_8
  let main_v29 : IVec S128x512 1 := cmpf .olt main_v27 main_v28
  let main_c_9 : IVec S_ 1 := constantI S_ 1 1#1
  let main_v30 : IVec S_ 1 := (fun x v => Host.reduce IntOp.andi x v reducesTo_S128x512_S_d0_1 h_S_) main_v29 main_c_9
  let main_v31 : IVec S_ 1 := andi main_v26 main_v30
  let main_v32 : FVec F S512 .f32 := Host.absf main_arg8
  let main_cst_10 : FVec F S_ .f32 := constant S_ .f32 0x7F800000#32
  let main_v33 : FVec F S512 .f32 := broadcastInDim S512 ![] bcast_S_S512 main_cst_10
  let main_v34 : IVec S512 1 := cmpf .olt main_v32 main_v33
  fn_part2 (F := F) main_arg9 main_arg10 main_v31 main_v34

def fn {F : FTy → Type} [FloatOps F] (main_arg0 : FVec F S16x4352x2560 .f32) (main_arg1 : FVec F S16x4352x1536 .f32) (main_arg2 : FVec F S3x3x2560 .f32) (main_arg3 : FVec F S2x512 .f32) (main_arg4 : FVec F S2x64x512 .f32) (main_arg5 : FVec F S512 .f32) (main_arg6 : FVec F S64x512 .f32) (main_arg7 : FVec F S128x512 .f32) (main_arg8 : FVec F S512 .f32) (main_arg9 : FVec F S512 .f32) (main_arg10 : FVec F S8x64 .f32) : IVec S_ 1 :=
  let main_v0 : FVec F S16x4352x1024 .f32 := (extractStridedSlice S16x4352x1024 ![0, 0, 1024] · slices_S16x4352x2560_S16x4352x1024_0_0_1024) main_arg0
  let main_v1 : FVec F S16x4352x1024 .f32 := Host.absf main_v0
  let main_cst : FVec F S_ .f32 := constant S_ .f32 0x7F800000#32
  let main_v2 : FVec F S16x4352x1024 .f32 := broadcastInDim S16x4352x1024 ![] bcast_S_S16x4352x1024 main_cst
  let main_v3 : IVec S16x4352x1024 1 := cmpf .olt main_v1 main_v2
  let main_c : IVec S_ 1 := constantI S_ 1 1#1
  let main_v4 : IVec S_ 1 := (fun x v => Host.reduce IntOp.andi x v reducesTo_S16x4352x1024_S_d0_1_2 h_S_) main_v3 main_c
  let main_v5 : FVec F S3x3x1024 .f32 := (extractStridedSlice S3x3x1024 ![0, 0, 1024] · slices_S3x3x2560_S3x3x1024_0_0_1024) main_arg2
  let main_v6 : FVec F S3x3x1024 .f32 := Host.absf main_v5
  let main_cst_0 : FVec F S_ .f32 := constant S_ .f32 0x7F800000#32
  let main_v7 : FVec F S3x3x1024 .f32 := broadcastInDim S3x3x1024 ![] bcast_S_S3x3x1024 main_cst_0
  let main_v8 : IVec S3x3x1024 1 := cmpf .olt main_v6 main_v7
  let main_c_1 : IVec S_ 1 := constantI S_ 1 1#1
  let main_v9 : IVec S_ 1 := (fun x v => Host.reduce IntOp.andi x v reducesTo_S3x3x1024_S_d0_1_2 h_S_) main_v8 main_c_1
  let main_v10 : IVec S_ 1 := andi main_v4 main_v9
  let main_v11 : FVec F S16x4352x64 .f32 := (extractStridedSlice S16x4352x64 ![0, 0, 1280] · slices_S16x4352x1536_S16x4352x64_0_0_1280) main_arg1
  let main_v12 : FVec F S16x4352x64 .f32 := Host.absf main_v11
  let main_cst_2 : FVec F S_ .f32 := constant S_ .f32 0x7F800000#32
  let main_v13 : FVec F S16x4352x64 .f32 := broadcastInDim S16x4352x64 ![] bcast_S_S16x4352x64 main_cst_2
  let main_v14 : IVec S16x4352x64 1 := cmpf .olt main_v12 main_v13
  let main_c_3 : IVec S_ 1 := constantI S_ 1 1#1
  let main_v15 : IVec S_ 1 := (fun x v => Host.reduce IntOp.andi x v reducesTo_S16x4352x64_S_d0_1_2 h_S_) main_v14 main_c_3
  let main_v16 : IVec S_ 1 := andi main_v10 main_v15
  let main_v17 : FVec F S2x64x512 .f32 := Host.absf main_arg4
  fn_part1 (F := F) main_arg6 main_arg7 main_arg8 main_arg9 main_arg10 main_v16 main_v17
-- ==== Pre_scans_finite.lean ====
abbrev S16x4096x512 : Shape := ⟨3, ![16, 4096, 512]⟩
abbrev S16x4352x1536 : Shape := ⟨3, ![16, 4352, 1536]⟩
abbrev S16x4352x512 : Shape := ⟨3, ![16, 4352, 512]⟩
abbrev S16x4096x1024 : Shape := ⟨3, ![16, 4096, 1024]⟩
abbrev S17x6x1024 : Shape := ⟨3, ![17, 6, 1024]⟩
abbrev S1024x1024 : Shape := ⟨2, ![1024, 1024]⟩
abbrev S8x512 : Shape := ⟨2, ![8, 512]⟩
abbrev S8x1024 : Shape := ⟨2, ![8, 1024]⟩
abbrev S3072x128 : Shape := ⟨2, ![3072, 128]⟩
abbrev S1x128 : Shape := ⟨2, ![1, 128]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel

variable [Facts]

def fn_part1 {F : FTy → Type} [FloatOps F] (main_v13 : IVec S_ 1) (main_v16 : IVec S16x4096x512 1) : IVec S_ 1 :=
  let main_c_5 : IVec S_ 1 := constantI S_ 1 1#1
  let main_v17 : IVec S_ 1 := (fun x v => Host.reduce IntOp.andi x v reducesTo_S16x4096x512_S_d0_1_2 h_S_) main_v16 main_c_5
  let main_v18 : IVec S_ 1 := andi main_v13 main_v17
  main_v18

def fn {F : FTy → Type} [FloatOps F] (main_arg0 : FVec F S16x4096x512 .f32) (main_arg1 : FVec F S16x4096x512 .f32) (main_arg2 : FVec F S16x4352x1536 .f32) (main_arg3 : FVec F S16x4096x512 .f32) (main_arg4 : FVec F S16x4096x512 .f32) (main_arg5 : FVec F S16x4352x512 .f32) (main_arg6 : FVec F S16x4352x512 .f32) (main_arg7 : FVec F S16x4096x1024 .f32) (main_arg8 : FVec F S17x6x1024 .f32) (main_arg9 : FVec F S1024x1024 .bf16) (main_arg10 : FVec F S8x512 .f32) (main_arg11 : FVec F S8x1024 .f32) (main_arg12 : FVec F S3072x128 .bf16) (main_arg13 : FVec F S1x128 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S16x4096x512 .f32 := Host.absf main_arg1
  let main_cst_0 : FVec F S_ .f32 := constant S_ .f32 0x7F800000#32
  let main_v5 : FVec F S16x4096x512 .f32 := broadcastInDim S16x4096x512 ![] bcast_S_S16x4096x512 main_cst_0
  let main_v6 : IVec S16x4096x512 1 := cmpf .olt main_v4 main_v5
  let main_c_1 : IVec S_ 1 := constantI S_ 1 1#1
  let main_v7 : IVec S_ 1 := (fun x v => Host.reduce IntOp.andi x v reducesTo_S16x4096x512_S_d0_1_2 h_S_) main_v6 main_c_1
  let main_v8 : IVec S_ 1 := andi main_v3 main_v7
  let main_v9 : FVec F S16x4096x512 .f32 := Host.absf main_arg3
  let main_cst_2 : FVec F S_ .f32 := constant S_ .f32 0x7F800000#32
  let main_v10 : FVec F S16x4096x512 .f32 := broadcastInDim S16x4096x512 ![] bcast_S_S16x4096x512 main_cst_2
  let main_v11 : IVec S16x4096x512 1 := cmpf .olt main_v9 main_v10
  let main_c_3 : IVec S_ 1 := constantI S_ 1 1#1
  let main_v12 : IVec S_ 1 := (fun x v => Host.reduce IntOp.andi x v reducesTo_S16x4096x512_S_d0_1_2 h_S_) main_v11 main_c_3
  let main_v13 : IVec S_ 1 := andi main_v8 main_v12
  let main_v14 : FVec F S16x4096x512 .f32 := Host.absf main_arg4
  let main_cst_4 : FVec F S_ .f32 := constant S_ .f32 0x7F800000#32
  let main_v15 : FVec F S16x4096x512 .f32 := broadcastInDim S16x4096x512 ![] bcast_S_S16x4096x512 main_cst_4
  let main_v16 : IVec S16x4096x512 1 := cmpf .olt main_v14 main_v15
  fn_part1 (F := F) main_v13 main_v16
-- ==== Pre_tables_in_range.lean ====
abbrev S544 : Shape := ⟨1, ![544]⟩
abbrev S139264x1024 : Shape := ⟨2, ![139264, 1024]⟩
abbrev S32x1024x512 : Shape := ⟨3, ![32, 1024, 512]⟩
abbrev S32x512x1024 : Shape := ⟨3, ![32, 512, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel

variable [Facts]

def fn {F : FTy → Type} [FloatOps F] (main_arg0 : IVec S544 32) (main_arg1 : IVec S544 32) (main_arg2 : FVec F S139264x1024 .f32) (main_arg3 : FVec F S32x1024x512 .f32) (main_arg4 : FVec F S32x1024x512 .f32) (main_arg5 : FVec F S32x512x1024 .f32) : IVec S_ 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  let main_c_2 : IVec S_ 32 := constantI S_ 32 0#32
  let main_v6 : IVec S544 32 := broadcastInDim S544 ![] bcast_S_S544 main_c_2
  let main_v7 : IVec S544 1 := cmpi .sge main_arg1 main_v6
  let main_c_3 : IVec S_ 32 := constantI S_ 32 256#32
  let main_v8 : IVec S544 32 := broadcastInDim S544 ![] bcast_S_S544 main_c_3
  let main_v9 : IVec S544 1 := cmpi .sle main_arg1 main_v8
  let main_v10 : IVec S544 1 := andi main_v7 main_v9
  let main_c_4 : IVec S_ 1 := constantI S_ 1 1#1
  let main_v11 : IVec S_ 1 := (fun x v => Host.reduce IntOp.andi x v reducesTo_S544_S_d0 h_S_) main_v10 main_c_4
  let main_v12 : IVec S_ 1 := andi main_v5 main_v11
  main_v12
-- ==== Kernel.lean ====
abbrev S544 : Shape := ⟨1, ![544]⟩
abbrev S139264x1024 : Shape := ⟨2, ![139264, 1024]⟩
abbrev S32x1024x512 : Shape := ⟨3, ![32, 1024, 512]⟩
abbrev S32x512x1024 : Shape := ⟨3, ![32, 512, 1024]⟩
abbrev S256x1024 : Shape := ⟨2, ![256, 1024]⟩
abbrev S1x1024x512 : Shape := ⟨3, ![1, 1024, 512]⟩
abbrev S1 : Shape := ⟨1, ![1]⟩
abbrev S1x512x1024 : Shape := ⟨3, ![1, 512, 1024]⟩
abbrev S1024x512 : Shape := ⟨2, ![1024, 512]⟩
abbrev S512x1024 : Shape := ⟨2, ![512, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S139264x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S139264x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S544, .i32⟩
  | .local _ .smem, ⟨1, _⟩ => ⟨S544, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (v1 : BitVec 32) : BitVec 1 :=
  let c0_i32_2 : BitVec 32 := 0#32
  let v13 : BitVec 1 := Scalar.cmpi .sgt v1 c0_i32_2
  let v14 : BitVec 32 := Scalar.extui v13
  let c0_i32_3 : BitVec 32 := 0#32
  let v15 : BitVec 1 := Scalar.cmpi .ne v14 c0_i32_3
  v15

def k0_cond3 (v1 : BitVec 32) : BitVec 1 :=
  let c0_i32_4 : BitVec 32 := 0#32
  let v16 : BitVec 1 := Scalar.cmpi .eq v1 c0_i32_4
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S544 : Shape := ⟨1, ![544]⟩
abbrev S139264x1024 : Shape := ⟨2, ![139264, 1024]⟩
abbrev S32x1024x512 : Shape := ⟨3, ![32, 1024, 512]⟩
abbrev S32x512x1024 : Shape := ⟨3, ![32, 512, 1024]⟩
abbrev S544x256x1024 : Shape := ⟨3, ![544, 256, 1024]⟩
abbrev S_ : Shape := ⟨0, ![]⟩
abbrev S544x1 : Shape := ⟨2, ![544, 1]⟩
abbrev S544x1024x512 : Shape := ⟨3, ![544, 1024, 512]⟩
abbrev S544x256x512 : Shape := ⟨3, ![544, 256, 512]⟩
abbrev S544x512x1024 : Shape := ⟨3, ![544, 512, 1024]⟩
abbrev S544x1x1 : Shape := ⟨3, ![544, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S544, .i32⟩
  | .hbm, ⟨1, _⟩ => ⟨S544, .i32⟩
  | .hbm, ⟨2, _⟩ => ⟨S139264x1024, .f32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S544x256x1024, .f32⟩
  | .hbm, ⟨7, _⟩ => ⟨S_, .i32⟩
  | .hbm, ⟨8, _⟩ => ⟨S544, .i32⟩
  | .hbm, ⟨9, _⟩ => ⟨S544, .i1⟩
  | .hbm, ⟨10, _⟩ => ⟨S_, .i32⟩
  | .hbm, ⟨11, _⟩ => ⟨S544, .i32⟩
  | .hbm, ⟨12, _⟩ => ⟨S544, .i32⟩
  | .hbm, ⟨13, _⟩ => ⟨S544, .i32⟩
  | .hbm, ⟨14, _⟩ => ⟨S544x1, .i32⟩
  | .hbm, ⟨15, _⟩ => ⟨S544x1024x512, .f32⟩
  | .hbm, ⟨16, _⟩ => ⟨S544x256x512, .f32⟩
  | .hbm, ⟨17, _⟩ => ⟨S_, .i32⟩
  | .hbm, ⟨18, _⟩ => ⟨S544, .i32⟩
  | .hbm, ⟨19, _⟩ => ⟨S544, .i1⟩
  | .hbm, ⟨20, _⟩ => ⟨S_, .i32⟩
  | .hbm, ⟨21, _⟩ => ⟨S544, .i32⟩
  | .hbm, ⟨22, _⟩ => ⟨S544, .i32⟩
  | .hbm, ⟨23, _⟩ => ⟨S544, .i32⟩
  | .hbm, ⟨24, _⟩ => ⟨S544x1, .i32⟩
  | .hbm, ⟨25, _⟩ => ⟨S544x1024x512, .f32⟩
  | .hbm, ⟨26, _⟩ => ⟨S544x256x512, .f32⟩
  | .hbm, ⟨27, _⟩ => ⟨S544x256x512, .f32⟩
  | .hbm, ⟨28, _⟩ => ⟨S544x256x512, .f32⟩
  | .hbm, ⟨29, _⟩ => ⟨S_, .f32⟩
  | .hbm, ⟨30, _⟩ => ⟨S544x256x512, .f32⟩
  | .hbm, ⟨31, _⟩ => ⟨S544x256x512, .f32⟩
  | .hbm, ⟨32, _⟩ => ⟨S_, .f32⟩
  | .hbm, ⟨33, _⟩ => ⟨S544x256x512, .f32⟩
  | .hbm, ⟨34, _⟩ => ⟨S544x256x512, .f32⟩
  | .hbm, ⟨35, _⟩ => ⟨S544x256x512, .f32⟩
  | .hbm, ⟨36, _⟩ => ⟨S544x256x512, .f32⟩
  | .hbm, ⟨37, _⟩ => ⟨S_, .i32⟩
  | .hbm, ⟨38, _⟩ => ⟨S544, .i32⟩
  | .hbm, ⟨39, _⟩ => ⟨S544, .i1⟩
  | .hbm, ⟨40, _⟩ => ⟨S_, .i32⟩
  | .hbm, ⟨41, _⟩ => ⟨S544, .i32⟩
  | .hbm, ⟨42, _⟩ => ⟨S544, .i32⟩
  | .hbm, ⟨43, _⟩ => ⟨S544, .i32⟩
  | .hbm, ⟨44, _⟩ => ⟨S544x1, .i32⟩
  | .hbm, ⟨45, _⟩ => ⟨S544x512x1024, .f32⟩
  | .hbm, ⟨46, _⟩ => ⟨S544x256x1024, .f32⟩
  | .hbm, ⟨47, _⟩ => ⟨S544x1x1, .i32⟩
  | .hbm, ⟨48, _⟩ => ⟨S_, .i32⟩
  | .hbm, ⟨49, _⟩ => ⟨S544x1x1, .i32⟩
  | .hbm, ⟨50, _⟩ => ⟨S544x1x1, .i1⟩
  | .hbm, ⟨51, _⟩ => ⟨S_, .f32⟩
  | .hbm, ⟨52, _⟩ => ⟨S_, .f32⟩
  | .hbm, ⟨53, _⟩ => ⟨S544x256x1024, .i1⟩
  | .hbm, ⟨54, _⟩ => ⟨S544x256x1024, .f32⟩
  | .hbm, ⟨55, _⟩ => ⟨S544x256x1024, .f32⟩
  | .hbm, ⟨56, _⟩ => ⟨S139264x1024, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_cst : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v30 : Ref sig .tc := ⟨.hbm, 55, rfl⟩
abbrev main_v31 : Ref sig .tc := ⟨.hbm, 56, rfl⟩

abbrev nD : Nat := 1
abbrev τ : Topo := Topo.v7x

variable {F : FTy → Type} [FloatOps F]
-- ==== Kernel2.lean ====
abbrev S16x256x1024 : Shape := ⟨3, ![16, 256, 1024]⟩
abbrev S16x4096x1024 : Shape := ⟨3, ![16, 4096, 1024]⟩
abbrev S17x6x1024 : Shape := ⟨3, ![17, 6, 1024]⟩
abbrev S1024x4096 : Shape := ⟨2, ![1024, 4096]⟩
abbrev S16x4352x2560 : Shape := ⟨3, ![16, 4352, 2560]⟩
abbrev S16x4352x1536 : Shape := ⟨3, ![16, 4352, 1536]⟩
abbrev S1x256x1024 : Shape := ⟨3, ![1, 256, 1024]⟩
abbrev S1x6x1024 : Shape := ⟨3, ![1, 6, 1024]⟩
abbrev S1x256x2560 : Shape := ⟨3, ![1, 256, 2560]⟩
abbrev S1x256x1536 : Shape := ⟨3, ![1, 256, 1536]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩
abbrev S1024x2560 : Shape := ⟨2, ![1024, 2560]⟩
abbrev S256x2560 : Shape := ⟨2, ![256, 2560]⟩
abbrev S1024x1536 : Shape := ⟨2, ![1024, 1536]⟩
abbrev S256x1536 : Shape := ⟨2, ![256, 1536]⟩

abbrev nBuf : Space → Nat
  | .hbm => 6
  | .vmem => 11
  | .smem => 0
  | _ => 0

abbrev bufTy : (tb : Table) → Fin (tcTables nBuf tb) → BufTy
  | .hbm, ⟨0, _⟩ => ⟨S16x256x1024, .f32⟩
  | .hbm, ⟨1, _⟩ => ⟨S16x4096x1024, .f32⟩
  | .hbm, ⟨2, _⟩ => ⟨S17x6x1024, .f32⟩
  | .hbm, ⟨3, _⟩ => ⟨S1024x4096, .bf16⟩
  | .hbm, ⟨4, _⟩ => ⟨S16x4352x2560, .f32⟩
  | .hbm, ⟨5, _⟩ => ⟨S16x4352x1536, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x4096, .bf16⟩
  | .local _ .vmem, ⟨7, _⟩ => ⟨S1x256x2560, .f32⟩
  | .local _ .vmem, ⟨8, _⟩ => ⟨S1x256x2560, .f32⟩
  | .local _ .vmem, ⟨9, _⟩ => ⟨S1x256x1536, .f32⟩
  | .local _ .vmem, ⟨10, _⟩ => ⟨S1x256x1536, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c16_i32 : BitVec 32 := 16#32
  let v1 : BitVec 32 := Scalar.select v0 c16_i32 arg0
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16x256x1024 : Shape := ⟨3, ![16, 256, 1024]⟩
abbrev S16x4096x1024 : Shape := ⟨3, ![16, 4096, 1024]⟩
abbrev S17x6x1024 : Shape := ⟨3, ![17, 6, 1024]⟩
abbrev S1024x4096 : Shape := ⟨2, ![1024, 4096]⟩
abbrev S16x1x1024 : Shape := ⟨3, ![16, 1, 1024]⟩
abbrev S16x1024 : Shape := ⟨2, ![16, 1024]⟩
abbrev S1x1x1024 : Shape := ⟨3, ![1, 1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S16x256x4096 : Shape := ⟨3, ![16, 256, 4096]⟩
abbrev S16x4096 : Shape := ⟨2, ![16, 4096]⟩
abbrev S16x4096x1 : Shape := ⟨3, ![16, 4096, 1]⟩
abbrev S16x4096x4096 : Shape := ⟨3, ![16, 4096, 4096]⟩
abbrev S16x4352x4096 : Shape := ⟨3, ![16, 4352, 4096]⟩
abbrev S16x4352x2560 : Shape := ⟨3, ![16, 4352, 2560]⟩
abbrev S16x4352x1536 : Shape := ⟨3, ![16, 4352, 1536]⟩

abbrev nBuf : Space → Nat
  | .hbm => 82
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x4096x1024, .f32⟩
  | .hbm, ⟨2, _⟩ => ⟨S17x6x1024, .f32⟩
  | .hbm, ⟨3, _⟩ => ⟨S1024x4096, .bf16⟩
  | .hbm, ⟨4, _⟩ => ⟨S16x1x1024, .f32⟩
  | .hbm, ⟨5, _⟩ => ⟨S16x1024, .f32⟩
  | .hbm, ⟨6, _⟩ => ⟨S16x1x1024, .f32⟩
  | .hbm, ⟨7, _⟩ => ⟨S16x1x1024, .f32⟩
  | .hbm, ⟨8, _⟩ => ⟨S16x1024, .f32⟩
  | .hbm, ⟨9, _⟩ => ⟨S16x1x1024, .f32⟩
  | .hbm, ⟨10, _⟩ => ⟨S1x1x1024, .f32⟩
  | .hbm, ⟨11, _⟩ => ⟨S1024, .f32⟩
  | .hbm, ⟨12, _⟩ => ⟨S1x1x1024, .f32⟩
  | .hbm, ⟨13, _⟩ => ⟨S1024, .f32⟩
  | .hbm, ⟨14, _⟩ => ⟨S1024x4096, .f32⟩
  | .hbm, ⟨15, _⟩ => ⟨S_, .f32⟩
  | .hbm, ⟨16, _⟩ => ⟨S16x256, .f32⟩
  | .hbm, ⟨17, _⟩ => ⟨S16x256x1, .f32⟩
  | .hbm, ⟨18, _⟩ => ⟨S_, .f32⟩
  | .hbm, ⟨19, _⟩ => ⟨S16x256x1, .f32⟩
  | .hbm, ⟨20, _⟩ => ⟨S16x256x1, .f32⟩
  | .hbm, ⟨21, _⟩ => ⟨S16x256x1024, .f32⟩
  | .hbm, ⟨22, _⟩ => ⟨S16x256x1024, .f32⟩
  | .hbm, ⟨23, _⟩ => ⟨S16x256x1024, .f32⟩
  | .hbm, ⟨24, _⟩ => ⟨S_, .f32⟩
  | .hbm, ⟨25, _⟩ => ⟨S16x256, .f32⟩
  | .hbm, ⟨26, _⟩ => ⟨S16x256x1, .f32⟩
  | .hbm, ⟨27, _⟩ => ⟨S_, .f32⟩
  | .hbm, ⟨28, _⟩ => ⟨S16x256x1, .f32⟩
  | .hbm, ⟨29, _⟩ => ⟨S16x256x1, .f32⟩
  | .hbm, ⟨30, _⟩ => ⟨S16x256x1024, .f32⟩
  | .hbm, ⟨31, _⟩ => ⟨S16x256x1024, .f32⟩
  | .hbm, ⟨32, _⟩ => ⟨S_, .f32⟩
  | .hbm, ⟨33, _⟩ => ⟨S16x256x1, .f32⟩
  | .hbm, ⟨34, _⟩ => ⟨S16x256x1, .f32⟩
  | .hbm, ⟨35, _⟩ => ⟨S16x256x1, .f32⟩
  | .hbm, ⟨36, _⟩ => ⟨S16x256x1024, .f32⟩
  | .hbm, ⟨37, _⟩ => ⟨S16x256x1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1x1x1024, .f32⟩
  | .hbm, ⟨42, _⟩ => ⟨S16x256x1024, .f32⟩
  | .hbm, ⟨43, _⟩ => ⟨S16x256x1024, .f32⟩
  | .hbm, ⟨44, _⟩ => ⟨S1x1x1024, .f32⟩
  | .hbm, ⟨45, _⟩ => ⟨S16x256x1024, .f32⟩
  | .hbm, ⟨46, _⟩ => ⟨S16x256x1024, .f32⟩
  | .hbm, ⟨47, _⟩ => ⟨S16x256x4096, .f32⟩
  | .hbm, ⟨48, _⟩ => ⟨S_, .f32⟩
  | .hbm, ⟨49, _⟩ => ⟨S16x4096, .f32⟩
  | .hbm, ⟨50, _⟩ => ⟨S16x4096x1, .f32⟩
  | .hbm, ⟨51, _⟩ => ⟨S_, .f32⟩
  | .hbm, ⟨52, _⟩ => ⟨S16x4096x1, .f32⟩
  | .hbm, ⟨53, _⟩ => ⟨S16x4096x1, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S_, .f32⟩
  | .hbm, ⟨58, _⟩ => ⟨S16x4096, .f32⟩
  | .hbm, ⟨59, _⟩ => ⟨S16x4096x1, .f32⟩
  | .hbm, ⟨60, _⟩ => ⟨S_, .f32⟩
  | .hbm, ⟨61, _⟩ => ⟨S16x4096x1, .f32⟩
  | .hbm, ⟨62, _⟩ => ⟨S16x4096x1, .f32⟩
  | .hbm, ⟨63, _⟩ => ⟨S16x4096x1024, .f32⟩
  | .hbm, ⟨64, _⟩ => ⟨S16x4096x1024, .f32⟩
  | .hbm, ⟨65, _⟩ => ⟨S_, .f32⟩
  | .hbm, ⟨66, _⟩ => ⟨S16x4096x1, .f32⟩
  | .hbm, ⟨67, _⟩ => ⟨S16x4096x1, .f32⟩
  | .hbm, ⟨68, _⟩ => ⟨S16x4096x1, .f32⟩
  | .hbm, ⟨69, _⟩ => ⟨S16x4096x1024, .f32⟩
  | .hbm, ⟨70, _⟩ => ⟨S16x4096x1024, .f32⟩
  | .hbm, ⟨71, _⟩ => ⟨S_, .f32⟩
  | .hbm, ⟨72, _⟩ => ⟨S16x1x1024, .f32⟩
  | .hbm, ⟨73, _⟩ => ⟨S16x1x1024, .f32⟩
  | .hbm, ⟨74, _⟩ => ⟨S16x4096x1024, .f32⟩
  | .hbm, ⟨75, _⟩ => ⟨S16x4096x1024, .f32⟩
  | .hbm, ⟨76, _⟩ => ⟨S16x4096x1024, .f32⟩
  | .hbm, ⟨77, _⟩ => ⟨S16x4096x1024, .f32⟩
  | .hbm, ⟨78, _⟩ => ⟨S16x4096x4096, .f32⟩
  | .hbm, ⟨79, _⟩ => ⟨S16x4352x4096, .f32⟩
  | .hbm, ⟨80, _⟩ => ⟨S16x4352x2560, .f32⟩
  | .hbm, ⟨81, _⟩ => ⟨S16x4352x1536, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩

abbrev nD : Nat := 1
abbrev τ : Topo := Topo.v7x

variable {F : FTy → Type} [FloatOps F]
-- ==== Kernel3.lean ====
abbrev S16x4096x512 : Shape := ⟨3, ![16, 4096, 512]⟩
abbrev S16x4352x1536 : Shape := ⟨3, ![16, 4352, 1536]⟩
abbrev S16x4352x512 : Shape := ⟨3, ![16, 4352, 512]⟩
abbrev S16x4096x1024 : Shape := ⟨3, ![16, 4096, 1024]⟩
abbrev S17x6x1024 : Shape := ⟨3, ![17, 6, 1024]⟩
abbrev S1024x1024 : Shape := ⟨2, ![1024, 1024]⟩
abbrev S8x512 : Shape := ⟨2, ![8, 512]⟩
abbrev S8x1024 : Shape := ⟨2, ![8, 1024]⟩
abbrev S3072x128 : Shape := ⟨2, ![3072, 128]⟩
abbrev S1x128 : Shape := ⟨2, ![1, 128]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S512x256 : Shape := ⟨2, ![512, 256]⟩
abbrev S16x4096x128 : Shape := ⟨3, ![16, 4096, 128]⟩
abbrev S256x8x256 : Shape := ⟨3, ![256, 8, 256]⟩
abbrev S8x128 : Shape := ⟨2, ![8, 128]⟩
abbrev S1x512x512 : Shape := ⟨3, ![1, 512, 512]⟩
abbrev S1x256x512 : Shape := ⟨3, ![1, 256, 512]⟩
abbrev S1x512x1024 : Shape := ⟨3, ![1, 512, 1024]⟩
abbrev S1x6x1024 : Shape := ⟨3, ![1, 6, 1024]⟩
abbrev S1x512x128 : Shape := ⟨3, ![1, 512, 128]⟩
abbrev S2x8x256 : Shape := ⟨3, ![2, 8, 256]⟩
abbrev S256x512 : Shape := ⟨2, ![256, 512]⟩
abbrev S1x512 : Shape := ⟨2, ![1, 512]⟩
abbrev S512x1024 : Shape := ⟨2, ![512, 1024]⟩
abbrev S256x1024 : Shape := ⟨2, ![256, 1024]⟩
abbrev S1x1x1024 : Shape := ⟨3, ![1, 1, 1024]⟩
abbrev S1x1024 : Shape := ⟨2, ![1, 1024]⟩
abbrev S1x256x1024 : Shape := ⟨3, ![1, 256, 1024]⟩
abbrev S256x3072 : Shape := ⟨2, ![256, 3072]⟩
abbrev S256x128 : Shape := ⟨2, ![256, 128]⟩
abbrev S128 : Shape := ⟨1, ![128]⟩
abbrev S1x256x128 : Shape := ⟨3, ![1, 256, 128]⟩
abbrev S128x256 : Shape := ⟨2, ![128, 256]⟩
abbrev S8x256 : Shape := ⟨2, ![8, 256]⟩
abbrev S1x8x256 : Shape := ⟨3, ![1, 8, 256]⟩

abbrev nBuf : Space → Nat
  | .hbm => 30
  | .vmem => 40
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4352x1536, .f32⟩
  | .hbm, ⟨3, _⟩ => ⟨S16x4096x512, .f32⟩
  | .hbm, ⟨4, _⟩ => ⟨S16x4096x512, .f32⟩
  | .hbm, ⟨5, _⟩ => ⟨S16x4352x512, .f32⟩
  | .hbm, ⟨6, _⟩ => ⟨S16x4352x512, .f32⟩
  | .hbm, ⟨7, _⟩ => ⟨S16x4096x1024, .f32⟩
  | .hbm, ⟨8, _⟩ => ⟨S17x6x1024, .f32⟩
  | .hbm, ⟨9, _⟩ => ⟨S1024x1024, .bf16⟩
  | .hbm, ⟨10, _⟩ => ⟨S8x512, .f32⟩
  | .hbm, ⟨11, _⟩ => ⟨S8x1024, .f32⟩
  | .hbm, ⟨12, _⟩ => ⟨S3072x128, .bf16⟩
  | .hbm, ⟨13, _⟩ => ⟨S1x128, .f32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i32⟩
  | .hbm, ⟨18, _⟩ => ⟨S256x1, .i32⟩
  | .hbm, ⟨19, _⟩ => ⟨S1x256, .i32⟩
  | .hbm, ⟨20, _⟩ => ⟨S256x256, .i32⟩
  | .hbm, ⟨21, _⟩ => ⟨S256x256, .i32⟩
  | .hbm, ⟨22, _⟩ => ⟨S256x256, .i1⟩
  | .hbm, ⟨23, _⟩ => ⟨S256x256, .bf16⟩
  | .hbm, ⟨24, _⟩ => ⟨S512x256, .bf16⟩
  | .hbm, ⟨25, _⟩ => ⟨S16x4096x1024, .f32⟩
  | .hbm, ⟨26, _⟩ => ⟨S16x4096x1024, .f32⟩
  | .hbm, ⟨27, _⟩ => ⟨S16x4096x128, .f32⟩
  | .hbm, ⟨28, _⟩ => ⟨S256x8x256, .i32⟩
  | .hbm, ⟨29, _⟩ => ⟨S8x128, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x512x1024, .f32⟩
  | .local _ .vmem, ⟨21, _⟩ => ⟨S1x512x1024, .f32⟩
  | .local _ .vmem, ⟨22, _⟩ => ⟨S1x6x1024, .f32⟩
  | .local _ .vmem, ⟨23, _⟩ => ⟨S1x6x1024, .f32⟩
  | .local _ .vmem, ⟨24, _⟩ => ⟨S1024x1024, .bf16⟩
  | .local _ .vmem, ⟨25, _⟩ => ⟨S8x512, .f32⟩
  | .local _ .vmem, ⟨26, _⟩ => ⟨S8x1024, .f32⟩
  | .local _ .vmem, ⟨27, _⟩ => ⟨S3072x128, .bf16⟩
  | .local _ .vmem, ⟨28, _⟩ => ⟨S1x128, .f32⟩
  | .local _ .vmem, ⟨29, _⟩ => ⟨S512x256, .bf16⟩
  | .local _ .vmem, ⟨30, _⟩ => ⟨S1x512x1024, .f32⟩
  | .local _ .vmem, ⟨31, _⟩ => ⟨S1x512x1024, .f32⟩
  | .local _ .vmem, ⟨32, _⟩ => ⟨S1x512x1024, .f32⟩
  | .local _ .vmem, ⟨33, _⟩ => ⟨S1x512x1024, .f32⟩
  | .local _ .vmem, ⟨34, _⟩ => ⟨S1x512x128, .f32⟩
  | .local _ .vmem, ⟨35, _⟩ => ⟨S1x512x128, .f32⟩
  | .local _ .vmem, ⟨36, _⟩ => ⟨S2x8x256, .i32⟩
  | .local _ .vmem, ⟨37, _⟩ => ⟨S2x8x256, .i32⟩
  | .local _ .vmem, ⟨38, _⟩ => ⟨S8x128, .f32⟩
  | .local _ .vmem, ⟨39, _⟩ => ⟨S1x128, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev main_v10_2 : Ref sig .tc := ⟨.hbm, 27, rfl⟩
abbrev main_v10_3 : Ref sig .tc := ⟨.hbm, 28, rfl⟩
abbrev main_v10_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c1_i32 : BitVec 32 := 1#32
  let v2 : BitVec 32 := Scalar.addi v1 c1_i32
  let c1_i32_0 : BitVec 32 := 1#32
  let c0_i32_1 : BitVec 32 := 0#32
  ![arg0.toNat, v2.toNat, c1_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c1_i32_0 : BitVec 32 := 1#32
  let v2 : BitVec 32 := Scalar.addi v1 c1_i32_0
  let c1_i32_1 : BitVec 32 := 1#32
  let c0_i32 : BitVec 32 := 0#32
  ![arg0.toNat, v2.toNat, c1_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![arg0.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x6x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S3072x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S512x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S2x8x256 .i32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 1 → Memref sig .tc .vmem S8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]
-- ==== Reference3Ideal.lean ====
abbrev S16x4096x512 : Shape := ⟨3, ![16, 4096, 512]⟩
abbrev S16x4352x1536 : Shape := ⟨3, ![16, 4352, 1536]⟩
abbrev S16x4352x512 : Shape := ⟨3, ![16, 4352, 512]⟩
abbrev S16x4096x1024 : Shape := ⟨3, ![16, 4096, 1024]⟩
abbrev S17x6x1024 : Shape := ⟨3, ![17, 6, 1024]⟩
abbrev S1024x1024 : Shape := ⟨2, ![1024, 1024]⟩
abbrev S8x512 : Shape := ⟨2, ![8, 512]⟩
abbrev S8x1024 : Shape := ⟨2, ![8, 1024]⟩
abbrev S3072x128 : Shape := ⟨2, ![3072, 128]⟩
abbrev S1x128 : Shape := ⟨2, ![1, 128]⟩
abbrev S16x4096x8x64 : Shape := ⟨4, ![16, 4096, 8, 64]⟩
abbrev S_ : Shape := ⟨0, ![]⟩
abbrev S16x4096x8 : Shape := ⟨3, ![16, 4096, 8]⟩
abbrev S16x4096x8x1 : Shape := ⟨4, ![16, 4096, 8, 1]⟩
abbrev S1x512 : Shape := ⟨2, ![1, 512]⟩
abbrev S512 : Shape := ⟨1, ![512]⟩
abbrev S8x64 : Shape := ⟨2, ![8, 64]⟩
abbrev S1x1x8x64 : Shape := ⟨4, ![1, 1, 8, 64]⟩
abbrev S16x1x1024 : Shape := ⟨3, ![16, 1, 1024]⟩
abbrev S16x1024 : Shape := ⟨2, ![16, 1024]⟩
abbrev S16x4096 : Shape := ⟨2, ![16, 4096]⟩
abbrev S16x4096x1 : Shape := ⟨3, ![16, 4096, 1]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 179
  | .vmem => 0
  | .smem => 0
  | _ => 0

abbrev hbmTy0_0 (i : Nat) : BufTy := match i % 128 with
  | 0 => ⟨S16x4096x512, .f32⟩
  | 1 => ⟨S16x4096x512, .f32⟩
  | 2 => ⟨S16x4352x1536, .f32⟩
  | 3 => ⟨S16x4096x512, .f32⟩
  | 4 => ⟨S16x4096x512, .f32⟩
  | 5 => ⟨S16x4352x512, .f32⟩
  | 6 => ⟨S16x4352x512, .f32⟩
  | 7 => ⟨S16x4096x1024, .f32⟩
  | 8 => ⟨S17x6x1024, .f32⟩
  | 9 => ⟨S1024x1024, .bf16⟩
  | 10 => ⟨S8x512, .f32⟩
  | 11 => ⟨S8x1024, .f32⟩
  | 12 => ⟨S3072x128, .bf16⟩
  | 13 => ⟨S1x128, .f32⟩
  | 14 => ⟨S16x4096x512, .f32⟩
  | 15 => ⟨S16x4096x512, .f32⟩
  | 16 => ⟨S16x4096x8x64, .f32⟩
  | 17 => ⟨S_, .f32⟩
  | 18 => ⟨S16x4096x8, .f32⟩
  | 19 => ⟨S16x4096x8x1, .f32⟩
  | 20 => ⟨S_, .f32⟩
  | 21 => ⟨S16x4096x8x1, .f32⟩
  | 22 => ⟨S16x4096x8x1, .f32⟩
  | 23 => ⟨S16x4096x8x64, .f32⟩
  | 24 => ⟨S16x4096x8x64, .f32⟩
  | 25 => ⟨S16x4096x8x64, .f32⟩
  | 26 => ⟨S_, .f32⟩
  | 27 => ⟨S16x4096x8, .f32⟩
  | 28 => ⟨S16x4096x8x1, .f32⟩
  | 29 => ⟨S_, .f32⟩
  | 30 => ⟨S16x4096x8x1, .f32⟩
  | 31 => ⟨S16x4096x8x1, .f32⟩
  | 32 => ⟨S16x4096x8x64, .f32⟩
  | 33 => ⟨S16x4096x8x64, .f32⟩
  | 34 => ⟨S_, .f32⟩
  | 35 => ⟨S16x4096x8x1, .f32⟩
  | 36 => ⟨S16x4096x8x1, .f32⟩
  | 37 => ⟨S16x4096x8x1, .f32⟩
  | 38 => ⟨S16x4096x8x64, .f32⟩
  | 39 => ⟨S16x4096x8x64, .f32⟩
  | 40 => ⟨S1x512, .f32⟩
  | 41 => ⟨S512, .f32⟩
  | 42 => ⟨S8x64, .f32⟩
  | 43 => ⟨S1x1x8x64, .f32⟩
  | 44 => ⟨S16x4096x8x64, .f32⟩
  | 45 => ⟨S16x4096x8x64, .f32⟩
  | 46 => ⟨S16x4096x512, .f32⟩
  | 47 => ⟨S16x4096x512, .f32⟩
  | 48 => ⟨S_, .f32⟩
  | 49 => ⟨S16x4096x512, .f32⟩
  | 50 => ⟨S16x4096x512, .f32⟩
  | 51 => ⟨S_, .f32⟩
  | 52 => ⟨S16x4096x512, .f32⟩
  | 53 => ⟨S16x4096x512, .f32⟩
  | 54 => ⟨S16x4096x512, .f32⟩
  | 55 => ⟨S16x4096x512, .f32⟩
  | 56 => ⟨S16x4096x512, .f32⟩
  | 57 => ⟨S16x4096x8x64, .f32⟩
  | 58 => ⟨S_, .f32⟩
  | 59 => ⟨S16x4096x8, .f32⟩
  | 60 => ⟨S16x4096x8x1, .f32⟩
  | 61 => ⟨S_, .f32⟩
  | 62 => ⟨S16x4096x8x1, .f32⟩
  | 63 => ⟨S16x4096x8x1, .f32⟩
  | 64 => ⟨S16x4096x8x64, .f32⟩
  | 65 => ⟨S16x4096x8x64, .f32⟩
  | 66 => ⟨S16x4096x8x64, .f32⟩
  | 67 => ⟨S_, .f32⟩
  | 68 => ⟨S16x4096x8, .f32⟩
  | 69 => ⟨S16x4096x8x1, .f32⟩
  | 70 => ⟨S_, .f32⟩
  | 71 => ⟨S16x4096x8x1, .f32⟩
  | 72 => ⟨S16x4096x8x1, .f32⟩
  | 73 => ⟨S16x4096x8x64, .f32⟩
  | 74 => ⟨S16x4096x8x64, .f32⟩
  | 75 => ⟨S_, .f32⟩
  | 76 => ⟨S16x4096x8x1, .f32⟩
  | 77 => ⟨S16x4096x8x1, .f32⟩
  | 78 => ⟨S16x4096x8x1, .f32⟩
  | 79 => ⟨S16x4096x8x64, .f32⟩
  | 80 => ⟨S16x4096x8x64, .f32⟩
  | 81 => ⟨S1x512, .f32⟩
  | 82 => ⟨S512, .f32⟩
  | 83 => ⟨S8x64, .f32⟩
  | 84 => ⟨S1x1x8x64, .f32⟩
  | 85 => ⟨S16x4096x8x64, .f32⟩
  | 86 => ⟨S16x4096x8x64, .f32⟩
  | 87 => ⟨S1x512, .f32⟩
  | 88 => ⟨S512, .f32⟩
  | 89 => ⟨S8x64, .f32⟩
  | 90 => ⟨S1x1x8x64, .f32⟩
  | 91 => ⟨S16x4096x8x64, .f32⟩
  | 92 => ⟨S16x4096x8x64, .f32⟩
  | 93 => ⟨S16x4096x512, .f32⟩
  | 94 => ⟨S16x4096x512, .f32⟩
  | 95 => ⟨S16x4096x512, .f32⟩
  | 96 => ⟨S16x4096x512, .f32⟩
  | 97 => ⟨S16x4096x512, .f32⟩
  | 98 => ⟨S16x4096x1024, .f32⟩
  | 99 => ⟨S16x1x1024, .f32⟩
  | 100 => ⟨S16x1024, .f32⟩
  | 101 => ⟨S16x1x1024, .f32⟩
  | 102 => ⟨S16x1x1024, .f32⟩
  | 103 => ⟨S16x1024, .f32⟩
  | 104 => ⟨S16x1x1024, .f32⟩
  | 105 => ⟨S16x1x1024, .f32⟩
  | 106 => ⟨S16x1024, .f32⟩
  | 107 => ⟨S16x1x1024, .f32⟩
  | 108 => ⟨S_, .f32⟩
  | 109 => ⟨S16x4096x1024, .f32⟩
  | 110 => ⟨S16x4096x1024, .f32⟩
  | 111 => ⟨S1024x1024, .f32⟩
  | 112 => ⟨S16x4096x1024, .f32⟩
  | 113 => ⟨S16x4096x1024, .f32⟩
  | 114 => ⟨S16x4096x1024, .f32⟩
  | 115 => ⟨S16x4096x1024, .f32⟩
  | 116 => ⟨S_, .f32⟩
  | 117 => ⟨S16x4096, .f32⟩
  | 118 => ⟨S16x4096x1, .f32⟩
  | 119 => ⟨S_, .f32⟩
  | 120 => ⟨S16x4096x1, .f32⟩
  | 121 => ⟨S16x4096x1, .f32⟩
  | 122 => ⟨S16x4096x1024, .f32⟩
  | 123 => ⟨S16x4096x1024, .f32⟩
  | 124 => ⟨S16x4096x1024, .f32⟩
  | 125 => ⟨S_, .f32⟩
  | 126 => ⟨S16x4096, .f32⟩
  | 127 => ⟨S16x4096x1, .f32⟩
  | _ => ⟨S16x4096x512, .f32⟩

abbrev hbmTy0_1 (i : Nat) : BufTy := match i % 128 with
  | 0 => ⟨S_, .f32⟩
  | 1 => ⟨S16x4096x1, .f32⟩
  | 2 => ⟨S16x4096x1, .f32⟩
  | 3 => ⟨S16x4096x1024, .f32⟩
  | 4 => ⟨S16x4096x1024, .f32⟩
  | 5 => ⟨S_, .f32⟩
  | 6 => ⟨S16x4096x1, .f32⟩
  | 7 => ⟨S16x4096x1, .f32⟩
  | 8 => ⟨S16x4096x1, .f32⟩
  | 9 => ⟨S16x4096x1024, .f32⟩
  | 10 => ⟨S16x4096x1024, .f32⟩
  | 11 => ⟨S1x1024, .f32⟩
  | 12 => ⟨S1024, .f32⟩
  | 13 => ⟨S1x1x1024, .f32⟩
  | 14 => ⟨S16x4096x1024, .f32⟩
  | 15 => ⟨S16x4096x1024, .f32⟩
  | 16 => ⟨S1x1024, .f32⟩
  | 17 => ⟨S1024, .f32⟩
  | 18 => ⟨S1x1x1024, .f32⟩
  | 19 => ⟨S16x4096x1024, .f32⟩
  | 20 => ⟨S16x4096x1024, .f32⟩
  | 21 => ⟨S_, .f32⟩
  | 22 => ⟨S16x4096, .f32⟩
  | 23 => ⟨S16x4096x1, .f32⟩
  | 24 => ⟨S_, .f32⟩
  | 25 => ⟨S16x4096x1, .f32⟩
  | 26 => ⟨S16x4096x1, .f32⟩
  | 27 => ⟨S16x4096x1024, .f32⟩
  | 28 => ⟨S16x4096x1024, .f32⟩
  | 29 => ⟨S16x4096x1024, .f32⟩
  | 30 => ⟨S_, .f32⟩
  | 31 => ⟨S16x4096, .f32⟩
  | 32 => ⟨S16x4096x1, .f32⟩
  | 33 => ⟨S_, .f32⟩
  | 34 => ⟨S16x4096x1, .f32⟩
  | 35 => ⟨S16x4096x1, .f32⟩
  | 36 => ⟨S16x4096x1024, .f32⟩
  | 37 => ⟨S16x4096x1024, .f32⟩
  | 38 => ⟨S_, .f32⟩
  | 39 => ⟨S16x4096x1, .f32⟩
  | 40 => ⟨S16x4096x1, .f32⟩
  | 41 => ⟨S16x4096x1, .f32⟩
  | 42 => ⟨S16x4096x1024, .f32⟩
  | 43 => ⟨S16x4096x1024, .f32⟩
  | 44 => ⟨S_, .f32⟩
  | 45 => ⟨S16x1x1024, .f32⟩
  | 46 => ⟨S16x1x1024, .f32⟩
  | 47 => ⟨S16x4096x1024, .f32⟩
  | 48 => ⟨S16x4096x1024, .f32⟩
  | 49 => ⟨S16x4096x1024, .f32⟩
  | 50 => ⟨S16x4096x1024, .f32⟩
  | _ => ⟨S16x4096x512, .f32⟩

abbrev hbmTy (i : Nat) : BufTy := match i / 128 with
  | 0 => hbmTy0_0 i
  | 1 => hbmTy0_1 i
  | _ => ⟨S16x4096x512, .f32⟩

abbrev bufTy : (tb : Table) → Fin (tcTables nBuf tb) → BufTy
  | .hbm, ⟨i, _⟩ => hbmTy i
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_11 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_12 : Ref sig .tc := ⟨.hbm, 116, rfl⟩
abbrev main_v89 : Ref sig .tc := ⟨.hbm, 117, rfl⟩
abbrev main_v90 : Ref sig .tc := ⟨.hbm, 118, rfl⟩
abbrev main_cst_13 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_14 : Ref sig .tc := ⟨.hbm, 125, rfl⟩
abbrev main_v96 : Ref sig .tc := ⟨.hbm, 126, rfl⟩
abbrev main_v97 : Ref sig .tc := ⟨.hbm, 127, rfl⟩
abbrev main_cst_15 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_16 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_17 : Ref sig .tc := ⟨.hbm, 149, rfl⟩
abbrev main_v117 : Ref sig .tc := ⟨.hbm, 150, rfl⟩
abbrev main_v118 : Ref sig .tc := ⟨.hbm, 151, rfl⟩
abbrev main_cst_18 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_19 : Ref sig .tc := ⟨.hbm, 158, rfl⟩
abbrev main_v124 : Ref sig .tc := ⟨.hbm, 159, rfl⟩
abbrev main_v125 : Ref sig .tc := ⟨.hbm, 160, rfl⟩
abbrev main_cst_20 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_21 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_22 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩

abbrev nD : Nat := 1
abbrev τ : Topo := Topo.v7x

variable {F : FTy → Type} [FloatOps F]
-- ==== Kernel4.lean ====
abbrev S16x4352x2560 : Shape := ⟨3, ![16, 4352, 2560]⟩
abbrev S16x4352x1536 : Shape := ⟨3, ![16, 4352, 1536]⟩
abbrev S3x3x2560 : Shape := ⟨3, ![3, 3, 2560]⟩
abbrev S2x512 : Shape := ⟨2, ![2, 512]⟩
abbrev S2x64x512 : Shape := ⟨3, ![2, 64, 512]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S9x2560 : Shape := ⟨2, ![9, 2560]⟩
abbrev S_ : Shape := ⟨0, ![]⟩
abbrev S7x2560 : Shape := ⟨2, ![7, 2560]⟩
abbrev S16x2560 : Shape := ⟨2, ![16, 2560]⟩
abbrev S1x512 : Shape := ⟨2, ![1, 512]⟩
abbrev S8x512 : Shape := ⟨2, ![8, 512]⟩
abbrev S1x64x512 : Shape := ⟨3, ![1, 64, 512]⟩
abbrev S384x512 : Shape := ⟨2, ![384, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S512x256 : Shape := ⟨2, ![512, 256]⟩
abbrev S16x4352x512 : Shape := ⟨3, ![16, 4352, 512]⟩
abbrev S1x64x2560 : Shape := ⟨3, ![1, 64, 2560]⟩
abbrev S1x256x2560 : Shape := ⟨3, ![1, 256, 2560]⟩
abbrev S1x256x384 : Shape := ⟨3, ![1, 256, 384]⟩
abbrev S1x256x512 : Shape := ⟨3, ![1, 256, 512]⟩
abbrev S256x512 : Shape := ⟨2, ![256, 512]⟩
abbrev S3x512 : Shape := ⟨2, ![3, 512]⟩
abbrev S1x256x128 : Shape := ⟨3, ![1, 256, 128]⟩
abbrev S256x128 : Shape := ⟨2, ![256, 128]⟩
abbrev S256x384 : Shape := ⟨2, ![256, 384]⟩

abbrev nBuf : Space → Nat
  | .hbm => 77
  | .vmem => 38
  | .smem => 0
  | _ => 0

abbrev bufTy : (tb : Table) → Fin (tcTables nBuf tb) → BufTy
  | .hbm, ⟨0, _⟩ => ⟨S16x4352x2560, .f32⟩
  | .hbm, ⟨1, _⟩ => ⟨S16x4352x1536, .f32⟩
  | .hbm, ⟨2, _⟩ => ⟨S3x3x2560, .f32⟩
  | .hbm, ⟨3, _⟩ => ⟨S2x512, .f32⟩
  | .hbm, ⟨4, _⟩ => ⟨S2x64x512, .f32⟩
  | .hbm, ⟨5, _⟩ => ⟨S512, .f32⟩
  | .hbm, ⟨6, _⟩ => ⟨S64x512, .f32⟩
  | .hbm, ⟨7, _⟩ => ⟨S128x512, .f32⟩
  | .hbm, ⟨8, _⟩ => ⟨S512, .f32⟩
  | .hbm, ⟨9, _⟩ => ⟨S512, .f32⟩
  | .hbm, ⟨10, _⟩ => ⟨S8x64, .f32⟩
  | .hbm, ⟨11, _⟩ => ⟨S9x2560, .f32⟩
  | .hbm, ⟨12, _⟩ => ⟨S_, .f32⟩
  | .hbm, ⟨13, _⟩ => ⟨S7x2560, .f32⟩
  | .hbm, ⟨14, _⟩ => ⟨S16x2560, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S2x512, .f32⟩
  | .hbm, ⟨21, _⟩ => ⟨S8x512, .f32⟩
  | .hbm, ⟨22, _⟩ => ⟨S1x64x512, .f32⟩
  | .hbm, ⟨23, _⟩ => ⟨S64x512, .f32⟩
  | .hbm, ⟨24, _⟩ => ⟨S_, .f32⟩
  | .hbm, ⟨25, _⟩ => ⟨S64x512, .f32⟩
  | .hbm, ⟨26, _⟩ => ⟨S128x512, .f32⟩
  | .hbm, ⟨27, _⟩ => ⟨S_, .f32⟩
  | .hbm, ⟨28, _⟩ => ⟨S64x512, .f32⟩
  | .hbm, ⟨29, _⟩ => ⟨S1x64x512, .f32⟩
  | .hbm, ⟨30, _⟩ => ⟨S64x512, .f32⟩
  | .hbm, ⟨31, _⟩ => ⟨S128x512, .f32⟩
  | .hbm, ⟨32, _⟩ => ⟨S_, .f32⟩
  | .hbm, ⟨33, _⟩ => ⟨S64x512, .f32⟩
  | .hbm, ⟨34, _⟩ => ⟨S128x512, .f32⟩
  | .hbm, ⟨35, _⟩ => ⟨S128x512, .bf16⟩
  | .hbm, ⟨36, _⟩ => ⟨S128x512, .f32⟩
  | .hbm, ⟨37, _⟩ => ⟨S128x512, .f32⟩
  | .hbm, ⟨38, _⟩ => ⟨S128x512, .bf16⟩
  | .hbm, ⟨39, _⟩ => ⟨S384x512, .bf16⟩
  | .hbm, ⟨40, _⟩ => ⟨S128x512, .bf16⟩
  | .hbm, ⟨41, _⟩ => ⟨S128x512, .f32⟩
  | .hbm, ⟨42, _⟩ => ⟨S128x512, .f32⟩
  | .hbm, ⟨43, _⟩ => ⟨S128x512, .bf16⟩
  | .hbm, ⟨44, _⟩ => ⟨S384x512, .bf16⟩
  | .hbm, ⟨45, _⟩ => ⟨S128x512, .bf16⟩
  | .hbm, ⟨46, _⟩ => ⟨S128x512, .f32⟩
  | .hbm, ⟨47, _⟩ => ⟨S128x512, .f32⟩
  | .hbm, ⟨48, _⟩ => ⟨S128x512, .bf16⟩
  | .hbm, ⟨49, _⟩ => ⟨S384x512, .bf16⟩
  | .hbm, ⟨50, _⟩ => ⟨S128x512, .bf16⟩
  | .hbm, ⟨51, _⟩ => ⟨S128x512, .f32⟩
  | .hbm, ⟨52, _⟩ => ⟨S128x512, .f32⟩
  | .hbm, ⟨53, _⟩ => ⟨S128x512, .bf16⟩
  | .hbm, ⟨54, _⟩ => ⟨S384x512, .bf16⟩
  | .hbm, ⟨55, _⟩ => ⟨S256, .i32⟩
  | .hbm, ⟨56, _⟩ => ⟨S_, .i32⟩
  | .hbm, ⟨57, _⟩ => ⟨S256, .i32⟩
  | .hbm, ⟨58, _⟩ => ⟨S256, .i32⟩
  | .hbm, ⟨59, _⟩ => ⟨S256x1, .i32⟩
  | .hbm, ⟨60, _⟩ => ⟨S1x256, .i32⟩
  | .hbm, ⟨61, _⟩ => ⟨S256x256, .i32⟩
  | .hbm, ⟨62, _⟩ => ⟨S256x256, .i32⟩
  | .hbm, ⟨63, _⟩ => ⟨S256x256, .i1⟩
  | .hbm, ⟨64, _⟩ => ⟨S256x256, .bf16⟩
  | .hbm, ⟨65, _⟩ => ⟨S512x256, .bf16⟩
  | .hbm, ⟨66, _⟩ => ⟨S16x4352x512, .bf16⟩
  | .hbm, ⟨67, _⟩ => ⟨S16x4352x512, .bf16⟩
  | .hbm, ⟨68, _⟩ => ⟨S16x4352x512, .f32⟩
  | .hbm, ⟨69, _⟩ => ⟨S16x4352x512, .f32⟩
  | .hbm, ⟨70, _⟩ => ⟨S16x4352x512, .bf16⟩
  | .hbm, ⟨71, _⟩ => ⟨S16x4352x512, .f32⟩
  | .hbm, ⟨72, _⟩ => ⟨S16x4352x512, .f32⟩
  | .hbm, ⟨73, _⟩ => ⟨S16x4352x512, .f32⟩
  | .hbm, ⟨74, _⟩ => ⟨S16x4352x512, .f32⟩
  | .hbm, ⟨75, _⟩ => ⟨S16x4352x512, .f32⟩
  | .hbm, ⟨76, _⟩ => ⟨S16x4352x512, .f32⟩
  | .local _ .vmem, ⟨0, _⟩ => ⟨S1x64x2560, .f32⟩
  | .local _ .vmem, ⟨1, _⟩ => ⟨S1x64x2560, .f32⟩
  | .local _ .vmem, ⟨2, _⟩ => ⟨S1x256x2560, .f32⟩
  | .local _ .vmem, ⟨3, _⟩ => ⟨S1x256x2560, .f32⟩
  | .local _ .vmem, ⟨4, _⟩ => ⟨S1x64x2560, .f32⟩
  | .local _ .vmem, ⟨5, _⟩ => ⟨S1x64x2560, .f32⟩
  | .local _ .vmem, ⟨6, _⟩ => ⟨S1x256x384, .f32⟩
  | .local _ .vmem, ⟨7, _⟩ => ⟨S1x256x384, .f32⟩
  | .local _ .vmem, ⟨8, _⟩ => ⟨S16x2560, .f32⟩
  | .local _ .vmem, ⟨9, _⟩ => ⟨S8x512, .f32⟩
  | .local _ .vmem, ⟨10, _⟩ => ⟨S384x512, .bf16⟩
  | .local _ .vmem, ⟨11, _⟩ => ⟨S384x512, .bf16⟩
  | .local _ .vmem, ⟨12, _⟩ => ⟨S384x512, .bf16⟩
  | .local _ .vmem, ⟨13, _⟩ => ⟨S384x512, .bf16⟩
  | .local _ .vmem, ⟨14, _⟩ => ⟨S512x256, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .bf16⟩
  | .local _ .vmem, ⟨24, _⟩ => ⟨S1x256x512, .bf16⟩
  | .local _ .vmem, ⟨25, _⟩ => ⟨S1x256x512, .f32⟩
  | .local _ .vmem, ⟨26, _⟩ => ⟨S1x256x512, .f32⟩
  | .local _ .vmem, ⟨27, _⟩ => ⟨S1x256x512, .f32⟩
  | .local _ .vmem, ⟨28, _⟩ => ⟨S1x256x512, .f32⟩
  | .local _ .vmem, ⟨29, _⟩ => ⟨S1x256x512, .f32⟩
  | .local _ .vmem, ⟨30, _⟩ => ⟨S1x256x512, .f32⟩
  | .local _ .vmem, ⟨31, _⟩ => ⟨S1x256x512, .f32⟩
  | .local _ .vmem, ⟨32, _⟩ => ⟨S1x256x512, .f32⟩
  | .local _ .vmem, ⟨33, _⟩ => ⟨S1x256x512, .f32⟩
  | .local _ .vmem, ⟨34, _⟩ => ⟨S1x256x512, .f32⟩
  | .local _ .vmem, ⟨35, _⟩ => ⟨S1x256x512, .f32⟩
  | .local _ .vmem, ⟨36, _⟩ => ⟨S1x256x512, .f32⟩
  | .local _ .vmem, ⟨37, _⟩ => ⟨S384x512, .f32⟩
  | _, _ => ⟨S16x4352x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49_0 : Ref sig .tc := ⟨.hbm, 66, rfl⟩
abbrev main_v49_1 : Ref sig .tc := ⟨.hbm, 67, rfl⟩
abbrev main_v49_2 : Ref sig .tc := ⟨.hbm, 68, rfl⟩
abbrev main_v49_3 : Ref sig .tc := ⟨.hbm, 69, rfl⟩
abbrev main_v49_4 : Ref sig .tc := ⟨.hbm, 70, rfl⟩
abbrev main_v49_5 : Ref sig .tc := ⟨.hbm, 71, rfl⟩
abbrev main_v49_6 : Ref sig .tc := ⟨.hbm, 72, rfl⟩
abbrev main_v49_7 : Ref sig .tc := ⟨.hbm, 73, rfl⟩
abbrev main_v49_8 : Ref sig .tc := ⟨.hbm, 74, rfl⟩
abbrev main_v49_9 : Ref sig .tc := ⟨.hbm, 75, rfl⟩
abbrev main_v49_10 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨2, ![16, 17], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.addi v0 c4_i32_0
  let c67_i32 : BitVec 32 := 67#32
  let v2 : BitVec 32 := Scalar.minsi v1 c67_i32
  let c0_i32 : BitVec 32 := 0#32
  let c0_i32_1 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference4Ideal.lean ====
abbrev S16x4352x2560 : Shape := ⟨3, ![16, 4352, 2560]⟩
abbrev S16x4352x1536 : Shape := ⟨3, ![16, 4352, 1536]⟩
abbrev S3x3x2560 : Shape := ⟨3, ![3, 3, 2560]⟩
abbrev S2x512 : Shape := ⟨2, ![2, 512]⟩
abbrev S2x64x512 : Shape := ⟨3, ![2, 64, 512]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S16x256x2560 : Shape := ⟨3, ![16, 256, 2560]⟩
abbrev S1x3x2560 : Shape := ⟨3, ![1, 3, 2560]⟩
abbrev S3x2560 : Shape := ⟨2, ![3, 2560]⟩
abbrev S_ : Shape := ⟨0, ![]⟩
abbrev S16x258x2560 : Shape := ⟨3, ![16, 258, 2560]⟩
abbrev S1x2560 : Shape := ⟨2, ![1, 2560]⟩
abbrev S2560 : Shape := ⟨1, ![2560]⟩
abbrev S1x1x2560 : Shape := ⟨3, ![1, 1, 2560]⟩
abbrev S16x4096x2560 : Shape := ⟨3, ![16, 4096, 2560]⟩
abbrev S16x64x64x2560 : Shape := ⟨4, ![16, 64, 64, 2560]⟩
abbrev S16x66x66x2560 : Shape := ⟨4, ![16, 66, 66, 2560]⟩
abbrev S1x1x1x2560 : Shape := ⟨4, ![1, 1, 1, 2560]⟩
abbrev S16x4352x512 : Shape := ⟨3, ![16, 4352, 512]⟩
abbrev S16x4352x384 : Shape := ⟨3, ![16, 4352, 384]⟩
abbrev S16x4352x64 : Shape := ⟨3, ![16, 4352, 64]⟩
abbrev S16x4352x128 : Shape := ⟨3, ![16, 4352, 128]⟩
abbrev S1x512 : Shape := ⟨2, ![1, 512]⟩
abbrev S1x64x512 : Shape := ⟨3, ![1, 64, 512]⟩
abbrev S1x1x512 : Shape := ⟨3, ![1, 1, 512]⟩
abbrev S16x4352x8x64 : Shape := ⟨4, ![16, 4352, 8, 64]⟩
abbrev S16x4352x8 : Shape := ⟨3, ![16, 4352, 8]⟩
abbrev S16x4352x8x1 : Shape := ⟨4, ![16, 4352, 8, 1]⟩
abbrev S1x1x8x64 : Shape := ⟨4, ![1, 1, 8, 64]⟩

abbrev nBuf : Space → Nat
  | .hbm => 245
  | .vmem => 0
  | .smem => 0
  | _ => 0

abbrev hbmTy0_0 (i : Nat) : BufTy := match i % 128 with
  | 0 => ⟨S16x4352x2560, .f32⟩
  | 1 => ⟨S16x4352x1536, .f32⟩
  | 2 => ⟨S3x3x2560, .f32⟩
  | 3 => ⟨S2x512, .f32⟩
  | 4 => ⟨S2x64x512, .f32⟩
  | 5 => ⟨S512, .f32⟩
  | 6 => ⟨S64x512, .f32⟩
  | 7 => ⟨S128x512, .f32⟩
  | 8 => ⟨S512, .f32⟩
  | 9 => ⟨S512, .f32⟩
  | 10 => ⟨S8x64, .f32⟩
  | 11 => ⟨S16x256x2560, .f32⟩
  | 12 => ⟨S1x3x2560, .f32⟩
  | 13 => ⟨S3x2560, .f32⟩
  | 14 => ⟨S_, .i32⟩
  | 15 => ⟨S_, .f32⟩
  | 16 => ⟨S16x258x2560, .f32⟩
  | 17 => ⟨S16x256x2560, .f32⟩
  | 18 => ⟨S1x2560, .f32⟩
  | 19 => ⟨S2560, .f32⟩
  | 20 => ⟨S1x1x2560, .f32⟩
  | 21 => ⟨S16x256x2560, .f32⟩
  | 22 => ⟨S16x256x2560, .f32⟩
  | 23 => ⟨S_, .f32⟩
  | 24 => ⟨S16x256x2560, .f32⟩
  | 25 => ⟨S16x256x2560, .f32⟩
  | 26 => ⟨S16x256x2560, .f32⟩
  | 27 => ⟨S1x2560, .f32⟩
  | 28 => ⟨S2560, .f32⟩
  | 29 => ⟨S1x1x2560, .f32⟩
  | 30 => ⟨S16x256x2560, .f32⟩
  | 31 => ⟨S16x256x2560, .f32⟩
  | 32 => ⟨S16x256x2560, .f32⟩
  | 33 => ⟨S16x256x2560, .f32⟩
  | 34 => ⟨S1x2560, .f32⟩
  | 35 => ⟨S2560, .f32⟩
  | 36 => ⟨S1x1x2560, .f32⟩
  | 37 => ⟨S16x256x2560, .f32⟩
  | 38 => ⟨S16x256x2560, .f32⟩
  | 39 => ⟨S16x256x2560, .f32⟩
  | 40 => ⟨S16x4096x2560, .f32⟩
  | 41 => ⟨S16x64x64x2560, .f32⟩
  | 42 => ⟨S_, .i32⟩
  | 43 => ⟨S_, .f32⟩
  | 44 => ⟨S16x66x66x2560, .f32⟩
  | 45 => ⟨S16x64x64x2560, .f32⟩
  | 46 => ⟨S1x1x2560, .f32⟩
  | 47 => ⟨S2560, .f32⟩
  | 48 => ⟨S1x1x1x2560, .f32⟩
  | 49 => ⟨S16x64x64x2560, .f32⟩
  | 50 => ⟨S16x64x64x2560, .f32⟩
  | 51 => ⟨S_, .f32⟩
  | 52 => ⟨S16x64x64x2560, .f32⟩
  | 53 => ⟨S16x64x64x2560, .f32⟩
  | 54 => ⟨S16x64x64x2560, .f32⟩
  | 55 => ⟨S1x1x2560, .f32⟩
  | 56 => ⟨S2560, .f32⟩
  | 57 => ⟨S1x1x1x2560, .f32⟩
  | 58 => ⟨S16x64x64x2560, .f32⟩
  | 59 => ⟨S16x64x64x2560, .f32⟩
  | 60 => ⟨S16x64x64x2560, .f32⟩
  | 61 => ⟨S16x64x64x2560, .f32⟩
  | 62 => ⟨S1x1x2560, .f32⟩
  | 63 => ⟨S2560, .f32⟩
  | 64 => ⟨S1x1x1x2560, .f32⟩
  | 65 => ⟨S16x64x64x2560, .f32⟩
  | 66 => ⟨S16x64x64x2560, .f32⟩
  | 67 => ⟨S16x64x64x2560, .f32⟩
  | 68 => ⟨S16x64x64x2560, .f32⟩
  | 69 => ⟨S1x1x2560, .f32⟩
  | 70 => ⟨S2560, .f32⟩
  | 71 => ⟨S1x1x1x2560, .f32⟩
  | 72 => ⟨S16x64x64x2560, .f32⟩
  | 73 => ⟨S16x64x64x2560, .f32⟩
  | 74 => ⟨S16x64x64x2560, .f32⟩
  | 75 => ⟨S16x64x64x2560, .f32⟩
  | 76 => ⟨S1x1x2560, .f32⟩
  | 77 => ⟨S2560, .f32⟩
  | 78 => ⟨S1x1x1x2560, .f32⟩
  | 79 => ⟨S16x64x64x2560, .f32⟩
  | 80 => ⟨S16x64x64x2560, .f32⟩
  | 81 => ⟨S16x64x64x2560, .f32⟩
  | 82 => ⟨S16x64x64x2560, .f32⟩
  | 83 => ⟨S1x1x2560, .f32⟩
  | 84 => ⟨S2560, .f32⟩
  | 85 => ⟨S1x1x1x2560, .f32⟩
  | 86 => ⟨S16x64x64x2560, .f32⟩
  | 87 => ⟨S16x64x64x2560, .f32⟩
  | 88 => ⟨S16x64x64x2560, .f32⟩
  | 89 => ⟨S16x64x64x2560, .f32⟩
  | 90 => ⟨S1x1x2560, .f32⟩
  | 91 => ⟨S2560, .f32⟩
  | 92 => ⟨S1x1x1x2560, .f32⟩
  | 93 => ⟨S16x64x64x2560, .f32⟩
  | 94 => ⟨S16x64x64x2560, .f32⟩
  | 95 => ⟨S16x64x64x2560, .f32⟩
  | 96 => ⟨S16x64x64x2560, .f32⟩
  | 97 => ⟨S1x1x2560, .f32⟩
  | 98 => ⟨S2560, .f32⟩
  | 99 => ⟨S1x1x1x2560, .f32⟩
  | 100 => ⟨S16x64x64x2560, .f32⟩
  | 101 => ⟨S16x64x64x2560, .f32⟩
  | 102 => ⟨S16x64x64x2560, .f32⟩
  | 103 => ⟨S16x64x64x2560, .f32⟩
  | 104 => ⟨S1x1x2560, .f32⟩
  | 105 => ⟨S2560, .f32⟩
  | 106 => ⟨S1x1x1x2560, .f32⟩
  | 107 => ⟨S16x64x64x2560, .f32⟩
  | 108 => ⟨S16x64x64x2560, .f32⟩
  | 109 => ⟨S16x64x64x2560, .f32⟩
  | 110 => ⟨S16x4096x2560, .f32⟩
  | 111 => ⟨S16x4352x2560, .f32⟩
  | 112 => ⟨S16x4352x512, .f32⟩
  | 113 => ⟨S16x4352x512, .f32⟩
  | 114 => ⟨S16x4352x512, .f32⟩
  | 115 => ⟨S16x4352x512, .f32⟩
  | 116 => ⟨S16x4352x512, .f32⟩
  | 117 => ⟨S16x4352x384, .f32⟩
  | 118 => ⟨S16x4352x64, .f32⟩
  | 119 => ⟨S16x4352x64, .f32⟩
  | 120 => ⟨S16x4352x64, .f32⟩
  | 121 => ⟨S16x4352x128, .f32⟩
  | 122 => ⟨S16x4352x512, .f32⟩
  | 123 => ⟨S16x4352x512, .f32⟩
  | 124 => ⟨S_, .f32⟩
  | 125 => ⟨S16x4352x512, .f32⟩
  | 126 => ⟨S16x4352x512, .f32⟩
  | 127 => ⟨S_, .f32⟩
  | _ => ⟨S16x4352x2560, .f32⟩

abbrev hbmTy0_1 (i : Nat) : BufTy := match i % 128 with
  | 0 => ⟨S16x4352x512, .f32⟩
  | 1 => ⟨S16x4352x512, .f32⟩
  | 2 => ⟨S16x4352x512, .f32⟩
  | 3 => ⟨S16x4352x512, .f32⟩
  | 4 => ⟨S16x4352x512, .f32⟩
  | 5 => ⟨S_, .f32⟩
  | 6 => ⟨S16x4352x512, .f32⟩
  | 7 => ⟨S16x4352x512, .f32⟩
  | 8 => ⟨S_, .f32⟩
  | 9 => ⟨S16x4352x512, .f32⟩
  | 10 => ⟨S16x4352x512, .f32⟩
  | 11 => ⟨S16x4352x512, .f32⟩
  | 12 => ⟨S_, .f32⟩
  | 13 => ⟨S16x4352x512, .f32⟩
  | 14 => ⟨S16x4352x512, .f32⟩
  | 15 => ⟨S1x512, .f32⟩
  | 16 => ⟨S512, .f32⟩
  | 17 => ⟨S16x4352x64, .f32⟩
  | 18 => ⟨S1x64x512, .f32⟩
  | 19 => ⟨S64x512, .f32⟩
  | 20 => ⟨S16x4352x512, .f32⟩
  | 21 => ⟨S1x1x512, .f32⟩
  | 22 => ⟨S16x4352x512, .f32⟩
  | 23 => ⟨S16x4352x512, .f32⟩
  | 24 => ⟨S16x4352x512, .f32⟩
  | 25 => ⟨S16x4352x512, .f32⟩
  | 26 => ⟨S_, .f32⟩
  | 27 => ⟨S16x4352x512, .f32⟩
  | 28 => ⟨S16x4352x512, .f32⟩
  | 29 => ⟨S_, .f32⟩
  | 30 => ⟨S16x4352x512, .f32⟩
  | 31 => ⟨S16x4352x512, .f32⟩
  | 32 => ⟨S_, .f32⟩
  | 33 => ⟨S16x4352x512, .f32⟩
  | 34 => ⟨S16x4352x512, .f32⟩
  | 35 => ⟨S1x512, .f32⟩
  | 36 => ⟨S512, .f32⟩
  | 37 => ⟨S16x4352x64, .f32⟩
  | 38 => ⟨S1x64x512, .f32⟩
  | 39 => ⟨S64x512, .f32⟩
  | 40 => ⟨S16x4352x512, .f32⟩
  | 41 => ⟨S1x1x512, .f32⟩
  | 42 => ⟨S16x4352x512, .f32⟩
  | 43 => ⟨S16x4352x512, .f32⟩
  | 44 => ⟨S16x4352x512, .f32⟩
  | 45 => ⟨S16x4352x512, .f32⟩
  | 46 => ⟨S_, .f32⟩
  | 47 => ⟨S16x4352x512, .f32⟩
  | 48 => ⟨S16x4352x512, .f32⟩
  | 49 => ⟨S_, .f32⟩
  | 50 => ⟨S16x4352x512, .f32⟩
  | 51 => ⟨S16x4352x512, .f32⟩
  | 52 => ⟨S_, .f32⟩
  | 53 => ⟨S16x4352x512, .f32⟩
  | 54 => ⟨S16x4352x512, .f32⟩
  | 55 => ⟨S16x4352x512, .f32⟩
  | 56 => ⟨S1x1x512, .f32⟩
  | 57 => ⟨S16x4352x512, .f32⟩
  | 58 => ⟨S16x4352x512, .f32⟩
  | 59 => ⟨S16x4352x512, .f32⟩
  | 60 => ⟨S16x4352x512, .f32⟩
  | 61 => ⟨S_, .f32⟩
  | 62 => ⟨S16x4352x512, .f32⟩
  | 63 => ⟨S16x4352x512, .f32⟩
  | 64 => ⟨S_, .f32⟩
  | 65 => ⟨S16x4352x512, .f32⟩
  | 66 => ⟨S16x4352x512, .f32⟩
  | 67 => ⟨S16x4352x128, .f32⟩
  | 68 => ⟨S16x4352x128, .f32⟩
  | 69 => ⟨S_, .f32⟩
  | 70 => ⟨S16x4352x128, .f32⟩
  | 71 => ⟨S16x4352x128, .f32⟩
  | 72 => ⟨S_, .f32⟩
  | 73 => ⟨S16x4352x128, .f32⟩
  | 74 => ⟨S16x4352x128, .f32⟩
  | 75 => ⟨S16x4352x512, .f32⟩
  | 76 => ⟨S1x1x512, .f32⟩
  | 77 => ⟨S16x4352x512, .f32⟩
  | 78 => ⟨S16x4352x512, .f32⟩
  | 79 => ⟨S16x4352x8x64, .f32⟩
  | 80 => ⟨S16x4352x8x64, .f32⟩
  | 81 => ⟨S_, .f32⟩
  | 82 => ⟨S16x4352x8, .f32⟩
  | 83 => ⟨S16x4352x8x1, .f32⟩
  | 84 => ⟨S16x4352x8x1, .f32⟩
  | 85 => ⟨S_, .f32⟩
  | 86 => ⟨S16x4352x8x1, .f32⟩
  | 87 => ⟨S16x4352x8x1, .f32⟩
  | 88 => ⟨S16x4352x8x64, .f32⟩
  | 89 => ⟨S16x4352x8x64, .f32⟩
  | 90 => ⟨S16x4352x512, .f32⟩
  | 91 => ⟨S_, .f32⟩
  | 92 => ⟨S16x4352x512, .f32⟩
  | 93 => ⟨S16x4352x512, .f32⟩
  | 94 => ⟨S1x1x512, .f32⟩
  | 95 => ⟨S16x4352x512, .f32⟩
  | 96 => ⟨S16x4352x512, .f32⟩
  | 97 => ⟨S_, .f32⟩
  | 98 => ⟨S16x4352x512, .f32⟩
  | 99 => ⟨S16x4352x512, .f32⟩
  | 100 => ⟨S16x4352x512, .f32⟩
  | 101 => ⟨S16x4352x512, .f32⟩
  | 102 => ⟨S16x4352x8x64, .f32⟩
  | 103 => ⟨S1x1x8x64, .f32⟩
  | 104 => ⟨S16x4352x8x64, .f32⟩
  | 105 => ⟨S16x4352x8x64, .f32⟩
  | 106 => ⟨S_, .f32⟩
  | 107 => ⟨S16x4352x8, .f32⟩
  | 108 => ⟨S16x4352x8x1, .f32⟩
  | 109 => ⟨S16x4352x8x64, .f32⟩
  | 110 => ⟨S16x4352x8x64, .f32⟩
  | 111 => ⟨S16x4352x8x64, .f32⟩
  | 112 => ⟨S16x4352x512, .f32⟩
  | 113 => ⟨S16x4352x512, .bf16⟩
  | 114 => ⟨S16x4352x512, .bf16⟩
  | 115 => ⟨S16x4352x512, .bf16⟩
  | 116 => ⟨S16x4352x512, .f32⟩
  | _ => ⟨S16x4352x2560, .f32⟩

abbrev hbmTy (i : Nat) : BufTy := match i / 128 with
  | 0 => hbmTy0_0 i
  | 1 => hbmTy0_1 i
  | _ => ⟨S16x4352x2560, .f32⟩

abbrev bufTy : (tb : Table) → Fin (tcTables nBuf tb) → BufTy
  | .hbm, ⟨i, _⟩ => hbmTy i
  | _, _ => ⟨S16x4352x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_0 : Ref sig .tc := ⟨.hbm, 42, rfl⟩
abbrev main_call1_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_1 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_call2_v0 : Ref sig .tc := ⟨.hbm, 122, rfl⟩
abbrev main_call2_v1 : Ref sig .tc := ⟨.hbm, 123, rfl⟩
abbrev main_call2_cst : Ref sig .tc := ⟨.hbm, 124, rfl⟩
abbrev main_call2_v2 : Ref sig .tc := ⟨.hbm, 125, rfl⟩
abbrev main_call2_v3 : Ref sig .tc := ⟨.hbm, 126, rfl⟩
abbrev main_call2_cst_0 : Ref sig .tc := ⟨.hbm, 127, rfl⟩
abbrev main_call2_v4 : Ref sig .tc := ⟨.hbm, 128, rfl⟩
abbrev main_call2_v5 : Ref sig .tc := ⟨.hbm, 129, rfl⟩
abbrev main_v105 : Ref sig .tc := ⟨.hbm, 130, rfl⟩
abbrev main_call3_v0 : Ref sig .tc := ⟨.hbm, 131, rfl⟩
abbrev main_call3_v1 : Ref sig .tc := ⟨.hbm, 132, rfl⟩
abbrev main_call3_cst : Ref sig .tc := ⟨.hbm, 133, rfl⟩
abbrev main_call3_v2 : Ref sig .tc := ⟨.hbm, 134, rfl⟩
abbrev main_call3_v3 : Ref sig .tc := ⟨.hbm, 135, rfl⟩
abbrev main_call3_cst_0 : Ref sig .tc := ⟨.hbm, 136, rfl⟩
abbrev main_call3_v4 : Ref sig .tc := ⟨.hbm, 137, rfl⟩
abbrev main_call3_v5 : Ref sig .tc := ⟨.hbm, 138, rfl⟩
abbrev main_v106 : Ref sig .tc := ⟨.hbm, 139, rfl⟩
abbrev main_cst_2 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_3 : Ref sig .tc := ⟨.hbm, 154, rfl⟩
abbrev main_v120 : Ref sig .tc := ⟨.hbm, 155, rfl⟩
abbrev main_v121 : Ref sig .tc := ⟨.hbm, 156, rfl⟩
abbrev main_cst_4 : Ref sig .tc := ⟨.hbm, 157, rfl⟩
abbrev main_v122 : Ref sig .tc := ⟨.hbm, 158, rfl⟩
abbrev main_v123 : Ref sig .tc := ⟨.hbm, 159, rfl⟩
abbrev main_cst_5 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_6 : Ref sig .tc := ⟨.hbm, 174, rfl⟩
abbrev main_v137 : Ref sig .tc := ⟨.hbm, 175, rfl⟩
abbrev main_v138 : Ref sig .tc := ⟨.hbm, 176, rfl⟩
abbrev main_cst_7 : Ref sig .tc := ⟨.hbm, 177, rfl⟩
abbrev main_v139 : Ref sig .tc := ⟨.hbm, 178, rfl⟩
abbrev main_v140 : Ref sig .tc := ⟨.hbm, 179, rfl⟩
abbrev main_cst_8 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_cst_9 : Ref sig .tc := ⟨.hbm, 189, rfl⟩
abbrev main_v149 : Ref sig .tc := ⟨.hbm, 190, rfl⟩
abbrev main_v150 : Ref sig .tc := ⟨.hbm, 191, rfl⟩
abbrev main_cst_10 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_cst_11 : Ref sig .tc := ⟨.hbm, 197, rfl⟩
abbrev main_v155 : Ref sig .tc := ⟨.hbm, 198, rfl⟩
abbrev main_v156 : Ref sig .tc := ⟨.hbm, 199, rfl⟩
abbrev main_cst_12 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_cst_13 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_cst_14 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_cst_15 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_cst_16 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_cst_17 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩

abbrev nD : Nat := 1
abbrev τ : Topo := Topo.v7x

variable {F : FTy → Type} [FloatOps F]
-- ==== Proof.Experts.Body.lean ====
/-
  The expert kernel's body on one block, whatever its two tables hold: which of its branches run is told by the words it
  reads, and what it leaves is stated in the body's own payloads.
-/
module

public import proofs.«01_k».proof.Proof.Gen.Kernel.Flash.Runs
public import Idealize.ShloMosaic.Lib.VecWindow

@[expose] public section

set_option maxRecDepth 16384

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (UR sig nD τ) ℕ

/-- The word of a table at the block's own position, as the body loads it. -/
abbrev here (T : S544.Idx → BitVec 32) (i : grid0.Coords) : BitVec 32 :=
  View.readAt (Elt Bits) (tbM0_0).view (Rect.unit (s := S544) (k0_off1 i) S1.size (k0_off1_inb i)).toLoadRect T (Shape.Idx.first (numel1_S1.symm ▸ Nat.one_pos))

/-- The word of the second table at the block's own position, as the body loads it. -/
abbrev hereV (T : S544.Idx → BitVec 32) (i : grid0.Coords) : BitVec 32 :=
  View.readAt (Elt Bits) (tbM0_1).view (Rect.unit (s := S544) (k0_off1 i) S1.size (k0_off1_inb i)).toLoadRect T (Shape.Idx.first (numel1_S1.symm ▸ Nat.one_pos))

/-- The word of a table at the position before the block's, as the body loads it. -/
abbrev prior (T : S544.Idx → BitVec 32) (i : grid0.Coords) : BitVec 32 :=
  View.readAt (Elt Bits) (tbM0_0).view (Rect.unit (s := S544) (k0_off2 i) S1.size (k0_off2_inb i)).toLoadRect T (Shape.Idx.first (numel1_S1.symm ▸ Nat.one_pos))

/-- The body's test for fetching the expert's weights anew: the first block, or an expert other than the block before had. -/
abbrev Loads (T0 : S544.Idx → BitVec 32) (i : grid0.Coords) : Prop :=
  Scalar.cmpi .ne (Scalar.extui (Scalar.ori (Scalar.cmpi .eq (BitVec.ofNat 32 (i 0).val) 0#32) (Scalar.cmpi .ne (here T0 i) (prior T0 i)))) 0#32 = 1#1

section

variable (c : Dev nD) (i : grid0.Coords) (arg3 : Memref sig .tc .vmem S256x1024 .f32) (harg3 : arg3.IsWhole)
  (arg4 : Memref sig .tc .vmem S1x1024x512 .f32) (harg4 : arg4.IsWhole) (arg5 : Memref sig .tc .vmem S1x1024x512 .f32) (harg5 : arg5.IsWhole)
  (arg6 : Memref sig .tc .vmem S1x512x1024 .f32) (harg6 : arg6.IsWhole) (arg7 : Memref sig .tc .vmem S256x1024 .f32) (harg7 : arg7.IsWhole)
  (T0 T1 : S544.Idx → Elt Bits .i32) (x0 : S256x1024.Idx → Elt Bits .f32) (x1 x2 : S1x1024x512.Idx → Elt Bits .f32) (x3 : S1x512x1024.Idx → Elt Bits .f32)
  (xa0 : Buf (Elt Bits) ((c : Thread nD τ).loc cc0_scratch0)) (xa1 : Buf (Elt Bits) ((c : Thread nD τ).loc cc0_scratch1)) (xa2 : Buf (Elt Bits) ((c : Thread nD τ).loc cc0_scratch2))

/-- The output block of a load-and-compute step is the expert's payload at the freshly fetched weights. -/
theorem outA (f : arg7.view.ty.Contents (Elt Bits)) :
    arg7.view.read (Elt Bits) (arg7.view.writes (Elt Bits) f (kernelRun0_A.sl.HO4_1 arg3 arg4 arg5 arg6 x0 x1 x2 x3)) = k0_pay4 x0 (k0_pay1 x1) (k0_pay2 x2) (k0_pay3 x3) := by
  unfold kernelRun0_A.sl.HO4_1
  rw [View.read_writes_full]
  unfold kernelRun0_A.sl.v21 kernelRun0_A.sl.v23 kernelRun0_A.sl.v29 kernelRun0_A.sl.HS0_1 kernelRun0_A.sl.HS1_1 kernelRun0_A.sl.HS2_1
  rw [View.readAt_rep_full, View.readAt_rep_full, View.readAt_rep_full, View.readAt_rep_full, View.readCov_full, View.readCov_full, View.readCov_full]

/-- A whole scratch read through its own view is its contents. -/
theorem read0 (f : (scM0_0.view).ty.Contents (Elt Bits)) : scM0_0.view.read (Elt Bits) f = f := rfl
theorem read1 (f : (scM0_1.view).ty.Contents (Elt Bits)) : scM0_1.view.read (Elt Bits) f = f := rfl
theorem read2 (f : (scM0_2.view).ty.Contents (Elt Bits)) : scM0_2.view.read (Elt Bits) f = f := rfl

/-- After a load step the first scratch holds the gate weights in bf16. -/
theorem keepA0 : scM0_0.view.writes (Elt Bits) scM0_0.view.junk (kernelRun0_A.sl.HS0_1 arg4 x1) = k0_pay1 x1 := by
  unfold kernelRun0_A.sl.HS0_1
  rw [View.readAt_rep_full]
  exact (read0 _).symm.trans <| View.read_writes_full (Val := Elt Bits) scM0_0.view scM0_0.view.junk inb_S1024x512_S1024x512_0_0 (k0_pay1 x1) []

/-- After a load step the second scratch holds the up weights in bf16. -/
theorem keepA1 : scM0_1.view.writes (Elt Bits) scM0_1.view.junk (kernelRun0_A.sl.HS1_1 arg5 x2) = k0_pay2 x2 := by
  unfold kernelRun0_A.sl.HS1_1
  rw [View.readAt_rep_full]
  exact (read1 _).symm.trans <| View.read_writes_full (Val := Elt Bits) scM0_1.view scM0_1.view.junk inb_S1024x512_S1024x512_0_0 (k0_pay2 x2) []

/-- After a load step the third scratch holds the down weights in bf16. -/
theorem keepA2 : scM0_2.view.writes (Elt Bits) scM0_2.view.junk (kernelRun0_A.sl.HS2_1 arg6 x3) = k0_pay3 x3 := by
  unfold kernelRun0_A.sl.HS2_1
  rw [View.readAt_rep_full]
  exact (read2 _).symm.trans <| View.read_writes_full (Val := Elt Bits) scM0_2.view scM0_2.view.junk inb_S512x1024_S512x1024_0_0 (k0_pay3 x3) []

/-- After a load step on an empty block the scratches hold the same weights. -/
theorem keepC0 : scM0_0.view.writes (Elt Bits) scM0_0.view.junk (kernelRun0_C.sl.HS0_1 arg4 x1) = k0_pay1 x1 := keepA0 arg4 x1
theorem keepC1 : scM0_1.view.writes (Elt Bits) scM0_1.view.junk (kernelRun0_C.sl.HS1_1 arg5 x2) = k0_pay2 x2 := keepA1 arg5 x2
theorem keepC2 : scM0_2.view.writes (Elt Bits) scM0_2.view.junk (kernelRun0_C.sl.HS2_1 arg6 x3) = k0_pay3 x3 := keepA2 arg6 x3

/-- The output block of a step that keeps the weights is the expert's payload at what the scratches hold. -/
theorem outB (f : arg7.view.ty.Contents (Elt Bits)) :
    arg7.view.read (Elt Bits) (arg7.view.writes (Elt Bits) f (kernelRun0_B.sl.HO4_1 c arg3 x0 xa0 xa1 xa2)) = k0_pay4 x0 xa0 xa1 xa2 := by
  unfold kernelRun0_B.sl.HO4_1
  rw [View.read_writes_full, View.readAt_rep_full, View.readAt_full, View.readAt_full, View.readAt_full]
  rfl

/-- The output block of an empty step is zero. -/
theorem outC (f : arg7.view.ty.Contents (Elt Bits)) :
    arg7.view.read (Elt Bits) (arg7.view.writes (Elt Bits) f kernelRun0_C.sl.HO4_1) = k0_pay5 (F := Bits) := by
  unfold kernelRun0_C.sl.HO4_1
  rw [View.read_writes_full]

theorem outD (f : arg7.view.ty.Contents (Elt Bits)) :
    arg7.view.read (Elt Bits) (arg7.view.writes (Elt Bits) f kernelRun0_D.sl.HO4_1) = k0_pay5 (F := Bits) := by
  unfold kernelRun0_D.sl.HO4_1
  rw [View.read_writes_full]

/-- What the body is handed and hands back beside its output block and its scratches: the four input blocks and its shares of the two tables. -/
abbrev inputs : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (tbM0_0.view.loc (c : Thread nD τ) ↦{fullShare.right} T0)
    ∗ (tbM0_1.view.loc (c : Thread nD τ) ↦{fullShare.right} T1))

/-- The three scratches at given contents. -/
abbrev scratches : sProp 𝕄 :=
  iprop((scM0_0.view.loc (c : Thread nD τ) ↦{fullShare} xa0) ∗ (scM0_1.view.loc (c : Thread nD τ) ↦{fullShare} xa1) ∗ (scM0_2.view.loc (c : Thread nD τ) ↦{fullShare} xa2))

open Classical in
/-- What a step leaves in a scratch: the fresh weights if it loads, what was there otherwise. -/
def kept {α : Type} (fresh old : α) : α := if Loads T0 i then fresh else old

/-- What a step leaves in its output block: the expert's payload at the weights the scratches then hold, or zero for an empty block. -/
def made (w0 : S1024x512.Idx → Elt Bits .bf16) (w1 : S1024x512.Idx → Elt Bits .bf16) (w2 : S512x1024.Idx → Elt Bits .bf16) : S256x1024.Idx → Elt Bits .f32 :=
  if k0_cond2 (hereV T1 i) = 1#1 then k0_pay4 x0 w0 w1 w2 else k0_pay5 (F := Bits)

/-- The body at the block's staging buffers, the two tables and the three scratches. -/
abbrev body : Prog (TpuEff nD τ sig (Elt Bits) Λ₀ .tc) PUnit :=
  cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)

/-- A run of the body stated by the pieces it writes, restated by the values those pieces amount to. -/
theorem run_by_values {out0 : List (View.Piece (Elt Bits) S256x1024 .f32)} {out1 : Buf (Elt Bits) ((c : Thread nD τ).loc cc0_scratch0)}
    {out2 : Buf (Elt Bits) ((c : Thread nD τ).loc cc0_scratch1)} {out3 : Buf (Elt Bits) ((c : Thread nD τ).loc cc0_scratch2)}
    {o : S256x1024.Idx → Elt Bits .f32} {s0 : Buf (Elt Bits) ((c : Thread nD τ).loc cc0_scratch0)}
    {s1 : Buf (Elt Bits) ((c : Thread nD τ).loc cc0_scratch1)} {s2 : Buf (Elt Bits) ((c : Thread nD τ).loc cc0_scratch2)}
    (ho : ∀ f, arg7.view.read (Elt Bits) (arg7.view.writes (Elt Bits) f out0) = o) (h0 : out1 = s0) (h1 : out2 = s1) (h2 : out3 = s2) (K : PUnit → sProp 𝕄)
    (run : iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
        ⊢ wp frame (wpE (defs₀ (F := Bits)) Variants.none c none) Set.univ (body i arg3 harg3 arg4 harg4 arg5 harg5 arg6 harg6 arg7 harg7) K) :
    iprop(inputs c arg3 arg4 arg5 arg6 T0 T1 x0 x1 x2 x3 ∗ (∃ d, owns (c : Thread nD τ) arg7 fullShare d) ∗ scratches c xa0 xa1 xa2
        ∗ (iprop(inputs c arg3 arg4 arg5 arg6 T0 T1 x0 x1 x2 x3 ∗ owns (c : Thread nD τ) arg7 fullShare o ∗ scratches c s0 s1 s2) -∗ K ⟨⟩))
      ⊢ wp frame (wpE (defs₀ (F := Bits)) Variants.none c none) Set.univ (body i arg3 harg3 arg4 harg4 arg5 harg5 arg6 harg6 arg7 harg7) K := by
  subst h0 h1 h2
  refine BIBase.Entails.trans ?_ run
  iintro ⟨⟨H0, H1, H2, H3, HT0, HT1⟩, HO, ⟨HS0, HS1, HS2⟩, Hk⟩
  isplitl [H0]; · iexact H0
  isplitl [H1]; · iexact H1
  isplitl [H2]; · iexact H2
  isplitl [H3]; · iexact H3
  isplitl [HT0]; · iexact HT0
  isplitl [HT1]; · iexact HT1
  isplitl [HO]; · iexact HO
  isplitl [HS0]; · iexact HS0
  isplitl [HS1]; · iexact HS1
  isplitl [HS2]; · iexact HS2
  iintro ⟨H0, H1, H2, H3, HT0, HT1, ⟨%f, HO⟩, HS0, HS1, HS2⟩
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO]
  · unfold owns; iexists _; isplitr; swap
    · iexact HO
    · ipureintro; exact ho f
  isplitl [HS0]; · iexact HS0
  isplitl [HS1]; · iexact HS1
  iexact HS2

/-- ONE STEP OF THE BODY, whatever the tables hold, provided that exactly one of its two tests of the count (positive, zero) comes out true: the
    scratches end at the expert's weights if the step loads and as they were otherwise, and the output block at the expert's payload at them, or at
    zero if the block is empty. -/
theorem step (hx : k0_cond2 (hereV T1 i) = 1#1 ↔ ¬k0_cond3 (hereV T1 i) = 1#1) (K : PUnit → sProp 𝕄) :
    iprop(inputs c arg3 arg4 arg5 arg6 T0 T1 x0 x1 x2 x3 ∗ (∃ d, owns (c : Thread nD τ) arg7 fullShare d) ∗ scratches c xa0 xa1 xa2
        ∗ (iprop(inputs c arg3 arg4 arg5 arg6 T0 T1 x0 x1 x2 x3
            ∗ owns (c : Thread nD τ) arg7 fullShare (made i T1 x0 (kept i T0 (k0_pay1 x1) xa0) (kept i T0 (k0_pay2 x2) xa1) (kept i T0 (k0_pay3 x3) xa2))
            ∗ scratches c (kept i T0 (k0_pay1 x1) xa0) (kept i T0 (k0_pay2 x2) xa1) (kept i T0 (k0_pay3 x3) xa2)) -∗ K ⟨⟩))
      ⊢ wp frame (wpE (defs₀ (F := Bits)) Variants.none c none) Set.univ (body i arg3 harg3 arg4 harg4 arg5 harg5 arg6 harg6 arg7 harg7) K := by
  by_cases h0 : Loads T0 i
  · have e {α : Type} (fresh old : α) : kept i T0 fresh old = fresh := by unfold kept; rw [if_pos h0]
    rw [e, e, e]
    by_cases h2 : k0_cond2 (hereV T1 i) = 1#1
    · have em w0 w1 w2 : made i T1 x0 w0 w1 w2 = k0_pay4 x0 w0 w1 w2 := by unfold made; rw [if_pos h2]
      rw [em]
      have ko (f : arg7.view.ty.Contents (Elt Bits)) : arg7.view.read (Elt Bits) (arg7.view.writes (Elt Bits) f (kernelRun0_A c i arg3 harg3 arg4 harg4 arg5 harg5 arg6 harg6 arg7 harg7 T0 T1 x0 x1 x2 x3 h0 h2 (hx.1 h2)).1) = k0_pay4 x0 (k0_pay1 x1) (k0_pay2 x2) (k0_pay3 x3) := by
        unfold kernelRun0_A; exact outA arg3 arg4 arg5 arg6 arg7 x0 x1 x2 x3 f
      have k0 : (kernelRun0_A c i arg3 harg3 arg4 harg4 arg5 harg5 arg6 harg6 arg7 harg7 T0 T1 x0 x1 x2 x3 h0 h2 (hx.1 h2)).2.1 = k0_pay1 x1 := by unfold kernelRun0_A; dsimp only; exact keepA0 arg4 x1
      have k1 : (kernelRun0_A c i arg3 harg3 arg4 harg4 arg5 harg5 arg6 harg6 arg7 harg7 T0 T1 x0 x1 x2 x3 h0 h2 (hx.1 h2)).2.2.1 = k0_pay2 x2 := by unfold kernelRun0_A; dsimp only; exact keepA1 arg5 x2
      have k2 : (kernelRun0_A c i arg3 harg3 arg4 harg4 arg5 harg5 arg6 harg6 arg7 harg7 T0 T1 x0 x1 x2 x3 h0 h2 (hx.1 h2)).2.2.2.1 = k0_pay3 x3 := by unfold kernelRun0_A; dsimp only; exact keepA2 arg6 x3
      exact run_by_values c i arg3 harg3 arg4 harg4 arg5 harg5 arg6 harg6 arg7 harg7 T0 T1 x0 x1 x2 x3 xa0 xa1 xa2 ko k0 k1 k2 K
        ((kernelRun0_A c i arg3 harg3 arg4 harg4 arg5 harg5 arg6 harg6 arg7 harg7 T0 T1 x0 x1 x2 x3 h0 h2 (hx.1 h2)).2.2.2.2 xa0 xa1 xa2 K)
    · have h3 : k0_cond3 (hereV T1 i) = 1#1 := by_contra fun h => h2 (hx.2 h)
      have em w0 w1 w2 : made i T1 x0 w0 w1 w2 = k0_pay5 (F := Bits) := by unfold made; rw [if_neg h2]
      rw [em]
      have ko (f : arg7.view.ty.Contents (Elt Bits)) : arg7.view.read (Elt Bits) (arg7.view.writes (Elt Bits) f (kernelRun0_C c i arg3 harg3 arg4 harg4 arg5 harg5 arg6 harg6 arg7 harg7 T0 T1 x0 x1 x2 x3 h0 h2 h3).1) = k0_pay5 (F := Bits) := by
        unfold kernelRun0_C; exact outC arg7 f
      have k0 : (kernelRun0_C c i arg3 harg3 arg4 harg4 arg5 harg5 arg6 harg6 arg7 harg7 T0 T1 x0 x1 x2 x3 h0 h2 h3).2.1 = k0_pay1 x1 := by unfold kernelRun0_C; dsimp only; exact keepC0 arg4 x1
      have k1 : (kernelRun0_C c i arg3 harg3 arg4 harg4 arg5 harg5 arg6 harg6 arg7 harg7 T0 T1 x0 x1 x2 x3 h0 h2 h3).2.2.1 = k0_pay2 x2 := by unfold kernelRun0_C; dsimp only; exact keepC1 arg5 x2
      have k2 : (kernelRun0_C c i arg3 harg3 arg4 harg4 arg5 harg5 arg6 harg6 arg7 harg7 T0 T1 x0 x1 x2 x3 h0 h2 h3).2.2.2.1 = k0_pay3 x3 := by unfold kernelRun0_C; dsimp only; exact keepC2 arg6 x3
      exact run_by_values c i arg3 harg3 arg4 harg4 arg5 harg5 arg6 harg6 arg7 harg7 T0 T1 x0 x1 x2 x3 xa0 xa1 xa2 ko k0 k1 k2 K
        ((kernelRun0_C c i arg3 harg3 arg4 harg4 arg5 harg5 arg6 harg6 arg7 harg7 T0 T1 x0 x1 x2 x3 h0 h2 h3).2.2.2.2 xa0 xa1 xa2 K)
  · have e {α : Type} (fresh old : α) : kept i T0 fresh old = old := by unfold kept; rw [if_neg h0]
    rw [e, e, e]
    by_cases h2 : k0_cond2 (hereV T1 i) = 1#1
    · have em w0 w1 w2 : made i T1 x0 w0 w1 w2 = k0_pay4 x0 w0 w1 w2 := by unfold made; rw [if_pos h2]
      rw [em]
      exact run_by_values c i arg3 harg3 arg4 harg4 arg5 harg5 arg6 harg6 arg7 harg7 T0 T1 x0 x1 x2 x3 xa0 xa1 xa2
        (outB c arg3 arg7 x0 xa0 xa1 xa2) rfl rfl rfl K
        ((kernelRun0_B c i arg3 harg3 arg4 harg4 arg5 harg5 arg6 harg6 arg7 harg7 T0 T1 x0 x1 x2 x3 xa0 xa1 xa2 h0 h2 (hx.1 h2)).2.2.2.2 K)
    · have h3 : k0_cond3 (hereV T1 i) = 1#1 := by_contra fun h => h2 (hx.2 h)
      have em w0 w1 w2 : made i T1 x0 w0 w1 w2 = k0_pay5 (F := Bits) := by unfold made; rw [if_neg h2]
      rw [em]
      exact run_by_values c i arg3 harg3 arg4 harg4 arg5 harg5 arg6 harg6 arg7 harg7 T0 T1 x0 x1 x2 x3 xa0 xa1 xa2
        (outD arg7) rfl rfl rfl K
        ((kernelRun0_D c i arg3 harg3 arg4 harg4 arg5 harg5 arg6 harg6 arg7 harg7 T0 T1 x0 x1 x2 x3 xa0 xa1 xa2 h0 h2 h3).2.2.2.2 K)

end

end Cert.Kernel.Experts

end
-- ==== Proof.Experts.BodyIdeal.lean ====
/-
  The expert kernel's body on one block, whatever its two tables hold: which of its branches run is told by the words it
  reads, and what it leaves is stated in the body's own payloads.
-/
module

public import proofs.«01_k».proof.Proof.Gen.KernelIdeal.Flash.Runs
public import Idealize.ShloMosaic.Lib.VecWindow

@[expose] public section

set_option maxRecDepth 16384

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The word of a table at the block's own position, as the body loads it. -/
abbrev here (T : S544.Idx → BitVec 32) (i : grid0.Coords) : BitVec 32 :=
  View.readAt (Elt Ideal) (tbM0_0).view (Rect.unit (s := S544) (k0_off1 i) S1.size (k0_off1_inb i)).toLoadRect T (Shape.Idx.first (numel1_S1.symm ▸ Nat.one_pos))

/-- The word of the second table at the block's own position, as the body loads it. -/
abbrev hereV (T : S544.Idx → BitVec 32) (i : grid0.Coords) : BitVec 32 :=
  View.readAt (Elt Ideal) (tbM0_1).view (Rect.unit (s := S544) (k0_off1 i) S1.size (k0_off1_inb i)).toLoadRect T (Shape.Idx.first (numel1_S1.symm ▸ Nat.one_pos))

/-- The word of a table at the position before the block's, as the body loads it. -/
abbrev prior (T : S544.Idx → BitVec 32) (i : grid0.Coords) : BitVec 32 :=
  View.readAt (Elt Ideal) (tbM0_0).view (Rect.unit (s := S544) (k0_off2 i) S1.size (k0_off2_inb i)).toLoadRect T (Shape.Idx.first (numel1_S1.symm ▸ Nat.one_pos))

/-- The body's test for fetching the expert's weights anew: the first block, or an expert other than the block before had. -/
abbrev Loads (T0 : S544.Idx → BitVec 32) (i : grid0.Coords) : Prop :=
  Scalar.cmpi .ne (Scalar.extui (Scalar.ori (Scalar.cmpi .eq (BitVec.ofNat 32 (i 0).val) 0#32) (Scalar.cmpi .ne (here T0 i) (prior T0 i)))) 0#32 = 1#1

section

variable (c : Dev nD) (i : grid0.Coords) (arg3 : Memref sig .tc .vmem S256x1024 .f32) (harg3 : arg3.IsWhole)
  (arg4 : Memref sig .tc .vmem S1x1024x512 .f32) (harg4 : arg4.IsWhole) (arg5 : Memref sig .tc .vmem S1x1024x512 .f32) (harg5 : arg5.IsWhole)
  (arg6 : Memref sig .tc .vmem S1x512x1024 .f32) (harg6 : arg6.IsWhole) (arg7 : Memref sig .tc .vmem S256x1024 .f32) (harg7 : arg7.IsWhole)
  (T0 T1 : S544.Idx → Elt Ideal .i32) (x0 : S256x1024.Idx → Elt Ideal .f32) (x1 x2 : S1x1024x512.Idx → Elt Ideal .f32) (x3 : S1x512x1024.Idx → Elt Ideal .f32)
  (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))

/-- The output block of a load-and-compute step is the expert's payload at the freshly fetched weights. -/
theorem outA (f : arg7.view.ty.Contents (Elt Ideal)) :
    arg7.view.read (Elt Ideal) (arg7.view.writes (Elt Ideal) f (kernelRun0_A.sl.HO4_1 arg3 arg4 arg5 arg6 x0 x1 x2 x3)) = k0_pay4 x0 (k0_pay1 x1) (k0_pay2 x2) (k0_pay3 x3) := by
  unfold kernelRun0_A.sl.HO4_1
  rw [View.read_writes_full]
  unfold kernelRun0_A.sl.v21 kernelRun0_A.sl.v23 kernelRun0_A.sl.v29 kernelRun0_A.sl.HS0_1 kernelRun0_A.sl.HS1_1 kernelRun0_A.sl.HS2_1
  rw [View.readAt_rep_full, View.readAt_rep_full, View.readAt_rep_full, View.readAt_rep_full, View.readCov_full, View.readCov_full, View.readCov_full]

/-- A whole scratch read through its own view is its contents. -/
theorem read0 (f : (scM0_0.view).ty.Contents (Elt Ideal)) : scM0_0.view.read (Elt Ideal) f = f := rfl
theorem read1 (f : (scM0_1.view).ty.Contents (Elt Ideal)) : scM0_1.view.read (Elt Ideal) f = f := rfl
theorem read2 (f : (scM0_2.view).ty.Contents (Elt Ideal)) : scM0_2.view.read (Elt Ideal) f = f := rfl

/-- After a load step the first scratch holds the gate weights in bf16. -/
theorem keepA0 : scM0_0.view.writes (Elt Ideal) scM0_0.view.junk (kernelRun0_A.sl.HS0_1 arg4 x1) = k0_pay1 x1 := by
  unfold kernelRun0_A.sl.HS0_1
  rw [View.readAt_rep_full]
  exact (read0 _).symm.trans <| View.read_writes_full (Val := Elt Ideal) scM0_0.view scM0_0.view.junk inb_S1024x512_S1024x512_0_0 (k0_pay1 x1) []

/-- After a load step the second scratch holds the up weights in bf16. -/
theorem keepA1 : scM0_1.view.writes (Elt Ideal) scM0_1.view.junk (kernelRun0_A.sl.HS1_1 arg5 x2) = k0_pay2 x2 := by
  unfold kernelRun0_A.sl.HS1_1
  rw [View.readAt_rep_full]
  exact (read1 _).symm.trans <| View.read_writes_full (Val := Elt Ideal) scM0_1.view scM0_1.view.junk inb_S1024x512_S1024x512_0_0 (k0_pay2 x2) []

/-- After a load step the third scratch holds the down weights in bf16. -/
theorem keepA2 : scM0_2.view.writes (Elt Ideal) scM0_2.view.junk (kernelRun0_A.sl.HS2_1 arg6 x3) = k0_pay3 x3 := by
  unfold kernelRun0_A.sl.HS2_1
  rw [View.readAt_rep_full]
  exact (read2 _).symm.trans <| View.read_writes_full (Val := Elt Ideal) scM0_2.view scM0_2.view.junk inb_S512x1024_S512x1024_0_0 (k0_pay3 x3) []

/-- After a load step on an empty block the scratches hold the same weights. -/
theorem keepC0 : scM0_0.view.writes (Elt Ideal) scM0_0.view.junk (kernelRun0_C.sl.HS0_1 arg4 x1) = k0_pay1 x1 := keepA0 arg4 x1
theorem keepC1 : scM0_1.view.writes (Elt Ideal) scM0_1.view.junk (kernelRun0_C.sl.HS1_1 arg5 x2) = k0_pay2 x2 := keepA1 arg5 x2
theorem keepC2 : scM0_2.view.writes (Elt Ideal) scM0_2.view.junk (kernelRun0_C.sl.HS2_1 arg6 x3) = k0_pay3 x3 := keepA2 arg6 x3

/-- The output block of a step that keeps the weights is the expert's payload at what the scratches hold. -/
theorem outB (f : arg7.view.ty.Contents (Elt Ideal)) :
    arg7.view.read (Elt Ideal) (arg7.view.writes (Elt Ideal) f (kernelRun0_B.sl.HO4_1 c arg3 x0 xa0 xa1 xa2)) = k0_pay4 x0 xa0 xa1 xa2 := by
  unfold kernelRun0_B.sl.HO4_1
  rw [View.read_writes_full, View.readAt_rep_full, View.readAt_full, View.readAt_full, View.readAt_full]
  rfl

/-- The output block of an empty step is zero. -/
theorem outC (f : arg7.view.ty.Contents (Elt Ideal)) :
    arg7.view.read (Elt Ideal) (arg7.view.writes (Elt Ideal) f kernelRun0_C.sl.HO4_1) = k0_pay5 (F := Ideal) := by
  unfold kernelRun0_C.sl.HO4_1
  rw [View.read_writes_full]

theorem outD (f : arg7.view.ty.Contents (Elt Ideal)) :
    arg7.view.read (Elt Ideal) (arg7.view.writes (Elt Ideal) f kernelRun0_D.sl.HO4_1) = k0_pay5 (F := Ideal) := by
  unfold kernelRun0_D.sl.HO4_1
  rw [View.read_writes_full]

/-- What the body is handed and hands back beside its output block and its scratches: the four input blocks and its shares of the two tables. -/
abbrev inputs : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (tbM0_0.view.loc (c : Thread nD τ) ↦{fullShare.right} T0)
    ∗ (tbM0_1.view.loc (c : Thread nD τ) ↦{fullShare.right} T1))

/-- The three scratches at given contents. -/
abbrev scratches : sProp 𝕄 :=
  iprop((scM0_0.view.loc (c : Thread nD τ) ↦{fullShare} xa0) ∗ (scM0_1.view.loc (c : Thread nD τ) ↦{fullShare} xa1) ∗ (scM0_2.view.loc (c : Thread nD τ) ↦{fullShare} xa2))

open Classical in
/-- What a step leaves in a scratch: the fresh weights if it loads, what was there otherwise. -/
def kept {α : Type} (fresh old : α) : α := if Loads T0 i then fresh else old

/-- What a step leaves in its output block: the expert's payload at the weights the scratches then hold, or zero for an empty block. -/
def made (w0 : S1024x512.Idx → Elt Ideal .bf16) (w1 : S1024x512.Idx → Elt Ideal .bf16) (w2 : S512x1024.Idx → Elt Ideal .bf16) : S256x1024.Idx → Elt Ideal .f32 :=
  if k0_cond2 (hereV T1 i) = 1#1 then k0_pay4 x0 w0 w1 w2 else k0_pay5 (F := Ideal)

/-- The body at the block's staging buffers, the two tables and the three scratches. -/
abbrev body : Prog (TpuEff nD τ sig (Elt Ideal) Λ₀ .tc) PUnit :=
  cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)

/-- A run of the body stated by the pieces it writes, restated by the values those pieces amount to. -/
theorem run_by_values {out0 : List (View.Piece (Elt Ideal) S256x1024 .f32)} {out1 : Buf (Elt Ideal) ((c : Thread nD τ).loc cc0_scratch0)}
    {out2 : Buf (Elt Ideal) ((c : Thread nD τ).loc cc0_scratch1)} {out3 : Buf (Elt Ideal) ((c : Thread nD τ).loc cc0_scratch2)}
    {o : S256x1024.Idx → Elt Ideal .f32} {s0 : Buf (Elt Ideal) ((c : Thread nD τ).loc cc0_scratch0)}
    {s1 : Buf (Elt Ideal) ((c : Thread nD τ).loc cc0_scratch1)} {s2 : Buf (Elt Ideal) ((c : Thread nD τ).loc cc0_scratch2)}
    (ho : ∀ f, arg7.view.read (Elt Ideal) (arg7.view.writes (Elt Ideal) f out0) = o) (h0 : out1 = s0) (h1 : out2 = s1) (h2 : out3 = s2) (K : PUnit → sProp 𝕄)
    (run : iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
        ⊢ wp frame (wpE (defs₀ (F := Ideal)) Variants.none c none) Set.univ (body i arg3 harg3 arg4 harg4 arg5 harg5 arg6 harg6 arg7 harg7) K) :
    iprop(inputs c arg3 arg4 arg5 arg6 T0 T1 x0 x1 x2 x3 ∗ (∃ d, owns (c : Thread nD τ) arg7 fullShare d) ∗ scratches c xa0 xa1 xa2
        ∗ (iprop(inputs c arg3 arg4 arg5 arg6 T0 T1 x0 x1 x2 x3 ∗ owns (c : Thread nD τ) arg7 fullShare o ∗ scratches c s0 s1 s2) -∗ K ⟨⟩))
      ⊢ wp frame (wpE (defs₀ (F := Ideal)) Variants.none c none) Set.univ (body i arg3 harg3 arg4 harg4 arg5 harg5 arg6 harg6 arg7 harg7) K := by
  subst h0 h1 h2
  refine BIBase.Entails.trans ?_ run
  iintro ⟨⟨H0, H1, H2, H3, HT0, HT1⟩, HO, ⟨HS0, HS1, HS2⟩, Hk⟩
  isplitl [H0]; · iexact H0
  isplitl [H1]; · iexact H1
  isplitl [H2]; · iexact H2
  isplitl [H3]; · iexact H3
  isplitl [HT0]; · iexact HT0
  isplitl [HT1]; · iexact HT1
  isplitl [HO]; · iexact HO
  isplitl [HS0]; · iexact HS0
  isplitl [HS1]; · iexact HS1
  isplitl [HS2]; · iexact HS2
  iintro ⟨H0, H1, H2, H3, HT0, HT1, ⟨%f, HO⟩, HS0, HS1, HS2⟩
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO]
  · unfold owns; iexists _; isplitr; swap
    · iexact HO
    · ipureintro; exact ho f
  isplitl [HS0]; · iexact HS0
  isplitl [HS1]; · iexact HS1
  iexact HS2

/-- ONE STEP OF THE BODY, whatever the tables hold, provided that exactly one of its two tests of the count (positive, zero) comes out true: the
    scratches end at the expert's weights if the step loads and as they were otherwise, and the output block at the expert's payload at them, or at
    zero if the block is empty. -/
theorem step (hx : k0_cond2 (hereV T1 i) = 1#1 ↔ ¬k0_cond3 (hereV T1 i) = 1#1) (K : PUnit → sProp 𝕄) :
    iprop(inputs c arg3 arg4 arg5 arg6 T0 T1 x0 x1 x2 x3 ∗ (∃ d, owns (c : Thread nD τ) arg7 fullShare d) ∗ scratches c xa0 xa1 xa2
        ∗ (iprop(inputs c arg3 arg4 arg5 arg6 T0 T1 x0 x1 x2 x3
            ∗ owns (c : Thread nD τ) arg7 fullShare (made i T1 x0 (kept i T0 (k0_pay1 x1) xa0) (kept i T0 (k0_pay2 x2) xa1) (kept i T0 (k0_pay3 x3) xa2))
            ∗ scratches c (kept i T0 (k0_pay1 x1) xa0) (kept i T0 (k0_pay2 x2) xa1) (kept i T0 (k0_pay3 x3) xa2)) -∗ K ⟨⟩))
      ⊢ wp frame (wpE (defs₀ (F := Ideal)) Variants.none c none) Set.univ (body i arg3 harg3 arg4 harg4 arg5 harg5 arg6 harg6 arg7 harg7) K := by
  by_cases h0 : Loads T0 i
  · have e {α : Type} (fresh old : α) : kept i T0 fresh old = fresh := by unfold kept; rw [if_pos h0]
    rw [e, e, e]
    by_cases h2 : k0_cond2 (hereV T1 i) = 1#1
    · have em w0 w1 w2 : made i T1 x0 w0 w1 w2 = k0_pay4 x0 w0 w1 w2 := by unfold made; rw [if_pos h2]
      rw [em]
      have ko (f : arg7.view.ty.Contents (Elt Ideal)) : arg7.view.read (Elt Ideal) (arg7.view.writes (Elt Ideal) f (kernelRun0_A c i arg3 harg3 arg4 harg4 arg5 harg5 arg6 harg6 arg7 harg7 T0 T1 x0 x1 x2 x3 h0 h2 (hx.1 h2)).1) = k0_pay4 x0 (k0_pay1 x1) (k0_pay2 x2) (k0_pay3 x3) := by
        unfold kernelRun0_A; exact outA arg3 arg4 arg5 arg6 arg7 x0 x1 x2 x3 f
      have k0 : (kernelRun0_A c i arg3 harg3 arg4 harg4 arg5 harg5 arg6 harg6 arg7 harg7 T0 T1 x0 x1 x2 x3 h0 h2 (hx.1 h2)).2.1 = k0_pay1 x1 := by unfold kernelRun0_A; dsimp only; exact keepA0 arg4 x1
      have k1 : (kernelRun0_A c i arg3 harg3 arg4 harg4 arg5 harg5 arg6 harg6 arg7 harg7 T0 T1 x0 x1 x2 x3 h0 h2 (hx.1 h2)).2.2.1 = k0_pay2 x2 := by unfold kernelRun0_A; dsimp only; exact keepA1 arg5 x2
      have k2 : (kernelRun0_A c i arg3 harg3 arg4 harg4 arg5 harg5 arg6 harg6 arg7 harg7 T0 T1 x0 x1 x2 x3 h0 h2 (hx.1 h2)).2.2.2.1 = k0_pay3 x3 := by unfold kernelRun0_A; dsimp only; exact keepA2 arg6 x3
      exact run_by_values c i arg3 harg3 arg4 harg4 arg5 harg5 arg6 harg6 arg7 harg7 T0 T1 x0 x1 x2 x3 xa0 xa1 xa2 ko k0 k1 k2 K
        ((kernelRun0_A c i arg3 harg3 arg4 harg4 arg5 harg5 arg6 harg6 arg7 harg7 T0 T1 x0 x1 x2 x3 h0 h2 (hx.1 h2)).2.2.2.2 xa0 xa1 xa2 K)
    · have h3 : k0_cond3 (hereV T1 i) = 1#1 := by_contra fun h => h2 (hx.2 h)
      have em w0 w1 w2 : made i T1 x0 w0 w1 w2 = k0_pay5 (F := Ideal) := by unfold made; rw [if_neg h2]
      rw [em]
      have ko (f : arg7.view.ty.Contents (Elt Ideal)) : arg7.view.read (Elt Ideal) (arg7.view.writes (Elt Ideal) f (kernelRun0_C c i arg3 harg3 arg4 harg4 arg5 harg5 arg6 harg6 arg7 harg7 T0 T1 x0 x1 x2 x3 h0 h2 h3).1) = k0_pay5 (F := Ideal) := by
        unfold kernelRun0_C; exact outC arg7 f
      have k0 : (kernelRun0_C c i arg3 harg3 arg4 harg4 arg5 harg5 arg6 harg6 arg7 harg7 T0 T1 x0 x1 x2 x3 h0 h2 h3).2.1 = k0_pay1 x1 := by unfold kernelRun0_C; dsimp only; exact keepC0 arg4 x1
      have k1 : (kernelRun0_C c i arg3 harg3 arg4 harg4 arg5 harg5 arg6 harg6 arg7 harg7 T0 T1 x0 x1 x2 x3 h0 h2 h3).2.2.1 = k0_pay2 x2 := by unfold kernelRun0_C; dsimp only; exact keepC1 arg5 x2
      have k2 : (kernelRun0_C c i arg3 harg3 arg4 harg4 arg5 harg5 arg6 harg6 arg7 harg7 T0 T1 x0 x1 x2 x3 h0 h2 h3).2.2.2.1 = k0_pay3 x3 := by unfold kernelRun0_C; dsimp only; exact keepC2 arg6 x3
      exact run_by_values c i arg3 harg3 arg4 harg4 arg5 harg5 arg6 harg6 arg7 harg7 T0 T1 x0 x1 x2 x3 xa0 xa1 xa2 ko k0 k1 k2 K
        ((kernelRun0_C c i arg3 harg3 arg4 harg4 arg5 harg5 arg6 harg6 arg7 harg7 T0 T1 x0 x1 x2 x3 h0 h2 h3).2.2.2.2 xa0 xa1 xa2 K)
  · have e {α : Type} (fresh old : α) : kept i T0 fresh old = old := by unfold kept; rw [if_neg h0]
    rw [e, e, e]
    by_cases h2 : k0_cond2 (hereV T1 i) = 1#1
    · have em w0 w1 w2 : made i T1 x0 w0 w1 w2 = k0_pay4 x0 w0 w1 w2 := by unfold made; rw [if_pos h2]
      rw [em]
      exact run_by_values c i arg3 harg3 arg4 harg4 arg5 harg5 arg6 harg6 arg7 harg7 T0 T1 x0 x1 x2 x3 xa0 xa1 xa2
        (outB c arg3 arg7 x0 xa0 xa1 xa2) rfl rfl rfl K
        ((kernelRun0_B c i arg3 harg3 arg4 harg4 arg5 harg5 arg6 harg6 arg7 harg7 T0 T1 x0 x1 x2 x3 xa0 xa1 xa2 h0 h2 (hx.1 h2)).2.2.2.2 K)
    · have h3 : k0_cond3 (hereV T1 i) = 1#1 := by_contra fun h => h2 (hx.2 h)
      have em w0 w1 w2 : made i T1 x0 w0 w1 w2 = k0_pay5 (F := Ideal) := by unfold made; rw [if_neg h2]
      rw [em]
      exact run_by_values c i arg3 harg3 arg4 harg4 arg5 harg5 arg6 harg6 arg7 harg7 T0 T1 x0 x1 x2 x3 xa0 xa1 xa2
        (outD arg7) rfl rfl rfl K
        ((kernelRun0_D c i arg3 harg3 arg4 harg4 arg5 harg5 arg6 harg6 arg7 harg7 T0 T1 x0 x1 x2 x3 xa0 xa1 xa2 h0 h2 h3).2.2.2.2 K)

end

end Cert.KernelIdeal.Experts

end
-- ==== Proof.Experts.FrameIdeal.lean ====
/-
  The frame of the expert kernel at any tables: the pipeline's proof data, its body obligation by `Experts.step`, and the
  launch. The weights the scratches carry from block to block are, after every step, the ones of the block just done: a
  step that does not fetch them has the same expert as the step before.
-/
module

public import proofs.«01_k».proof.Proof.Experts.BodyIdeal
public import Idealize.ShloMosaic.Lib.Pipeline.Quiescent
public import Idealize.ShloMosaic.Lib.Claim
public import Idealize.ShloMosaic.Lib.Pipeline.Kit
public import Idealize.ShloMosaic.Lib.Pipeline.Value

@[expose] public section

set_option maxRecDepth 16384

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The words the body reads, and what it decides by them -/

/-- The position of a table that block `i` reads. -/
def pos (i : grid0.Coords) : S544.Idx := fun a => ⟨(i 0).val, by fin_cases a; exact (i 0).isLt⟩

/-- The position before it (the first block's own at the first block). -/
def before (i : grid0.Coords) : S544.Idx := fun a => ⟨(i 0).val - 1, by fin_cases a; exact Nat.lt_of_le_of_lt (Nat.sub_le _ _) (i 0).isLt⟩

theorem off2_eq (i : grid0.Coords) : k0_off2 i = ![(i 0).val - 1] := by
  have r : (i 0).val < 544 := (i 0).isLt
  have h0 : Affine.IsInt (BitVec.ofNat 32 (i 0).val) (((i 0).val : Int)) := Affine.ofNat _ (by omega)
  have h1 : Affine.IsInt 1#32 (1) := Affine.ofNat _ (by omega)
  have hz : Affine.IsInt 0#32 (0) := Affine.ofNat _ (by omega)
  have h5 : Affine.IsInt _ (((i 0).val : Int) - 1) := Affine.subi h0 h1 (by omega)
  have h6 : Affine.IsInt _ ((max (((i 0).val : Int) - 1) 0)) := Affine.maxsi h5 hz (by omega)
  have h7 : Affine.IsInt _ ((max (((i 0).val : Int) - 1) 0)) := Affine.indexCast h6
  exact Affine.vec_cons h7 (by omega) <| Affine.vec_nil

theorem first_val (a : Fin 1) : ((Shape.Idx.first (s := S1) (numel1_S1.symm ▸ Nat.one_pos)) a).val = 0 := by
  fin_cases a; rfl

theorem here_eq (T : S544.Idx → BitVec 32) (i : grid0.Coords) : here T i = T (pos i) :=
  congrArg T (funext fun a => Fin.ext (by
    fin_cases a
    show k0_off1 i 0 + 1 * ((Shape.Idx.first (s := S1) (numel1_S1.symm ▸ Nat.one_pos)) 0).val = (i 0).val
    rw [first_val, k0_off1_eq]; rfl))

theorem hereV_eq (T : S544.Idx → BitVec 32) (i : grid0.Coords) : hereV T i = T (pos i) := here_eq T i

theorem prior_eq (T : S544.Idx → BitVec 32) (i : grid0.Coords) : prior T i = T (before i) :=
  congrArg T (funext fun a => Fin.ext (by
    fin_cases a
    show k0_off2 i 0 + 1 * ((Shape.Idx.first (s := S1) (numel1_S1.symm ▸ Nat.one_pos)) 0).val = (i 0).val - 1
    rw [first_val, off2_eq]; rfl))

/-- The body fetches weights exactly at the first block and where the expert changes. -/
theorem loads_iff (T0 : S544.Idx → BitVec 32) (i : grid0.Coords) : Loads T0 i ↔ (i 0).val = 0 ∨ T0 (pos i) ≠ T0 (before i) := by
  have r : (i 0).val < 544 := (i 0).isLt
  unfold Loads
  rw [here_eq, prior_eq]
  have e1 : Scalar.cmpi .eq (BitVec.ofNat 32 (i 0).val) 0#32 = BitVec.ofBool (decide ((i 0).val = 0)) := by
    unfold Scalar.cmpi IntOp.cmpi
    congr 1
    rw [Bool.eq_iff_iff, beq_iff_eq, decide_eq_true_iff, ← BitVec.toNat_inj, BitVec.toNat_ofNat, Nat.mod_eq_of_lt (by omega)]
    rfl
  have e2 : Scalar.cmpi .ne (T0 (pos i)) (T0 (before i)) = BitVec.ofBool (decide (T0 (pos i) ≠ T0 (before i))) := by
    unfold Scalar.cmpi IntOp.cmpi
    congr 1
    rw [Bool.eq_iff_iff, bne_iff_ne, decide_eq_true_iff]
  rw [e1, e2]
  by_cases h1 : (i 0).val = 0 <;> by_cases h2 : T0 (pos i) ≠ T0 (before i) <;> simp only [h1, h2, decide_true, decide_false, ne_eq, not_true, not_false_eq_true, true_or, or_true, or_self] <;> decide

/-- The first test of the count: it is positive. -/
theorem cond2_iff (v : BitVec 32) : k0_cond2 v = 1#1 ↔ 0 < v.toInt := by
  have e : k0_cond2 v = Scalar.cmpi .ne (Scalar.extui (Scalar.cmpi .sgt v 0#32)) 0#32 := rfl
  have h := IntOp.cmpi_sgt (x := v) (y := 0#32)
  rw [e]
  rcases BitVec.eq_zero_or_eq_one (Scalar.cmpi .sgt v 0#32) with hc | hc
  · rw [hc]
    refine iff_of_false (by decide) fun hv => ?_
    have : Scalar.cmpi .sgt v 0#32 = 1#1 := h.2 hv
    rw [hc] at this; exact absurd this (by decide)
  · rw [hc]; exact iff_of_true (by decide) (h.1 hc)

/-- The second test of the count: it is zero. -/
theorem cond3_iff (v : BitVec 32) : k0_cond3 v = 1#1 ↔ v = 0#32 := by
  have e : k0_cond3 v = Scalar.cmpi .ne (Scalar.extui (Scalar.cmpi .eq v 0#32)) 0#32 := rfl
  have h := IntOp.cmpi_eq (x := v) (y := 0#32)
  rw [e]
  rcases BitVec.eq_zero_or_eq_one (Scalar.cmpi .eq v 0#32) with hc | hc
  · rw [hc]
    refine iff_of_false (by decide) fun hv => ?_
    have : Scalar.cmpi .eq v 0#32 = 1#1 := h.2 hv
    rw [hc] at this; exact absurd this (by decide)
  · rw [hc]; exact iff_of_true (by decide) (h.1 hc)

/-- Of a count that is not negative, exactly one test comes out true. -/
theorem one_test (v : BitVec 32) (hv : 0 ≤ v.toInt) : k0_cond2 v = 1#1 ↔ ¬k0_cond3 v = 1#1 := by
  rw [cond2_iff, cond3_iff]
  constructor
  · rintro h rfl; exact absurd h (by decide)
  · intro h
    rcases lt_or_eq_of_le hv with h' | h'
    · exact h'
    · exact absurd (BitVec.toInt_inj.1 (h'.symm.trans (by decide : (0 : Int) = (0#32).toInt))) h

/-! ## The pipeline at admissible tables `a` -/

variable (a : (pcfg0 (F := Ideal)).Adm)

abbrev EP : Emb (UR sig nD τ) 𝕄 := emb₁
/-- The call's pipeline at the tables `a`. -/
abbrev cfgA : Pipeline.Cfg sig Λ₀ := cfg0 (F := Ideal) a
abbrev pcs : Fin 1 → Pipeline.Cfg sig Λ₀ := Pipeline.pin (pcfgs (F := Ideal)) fun _ => a
/-- The expert of each block, and the count of rows each block holds. -/
abbrev experts : S544.Idx → BitVec 32 := a.1 0
abbrev counts : S544.Idx → BitVec 32 := a.1 1

variable (m : (ℓ : Loc nD τ sig) → Buf (Elt Ideal) ℓ) (ρ : Dev nD → PrngReg)

abbrev crd (t : Fin (cfgA a).N) : grid0.Coords := (cfgA a).grid.coords t

theorem crd_val (t : Fin (cfgA a).N) : (crd a t 0).val = t.val := by
  have h : t.val < 544 := t.isLt
  have e := Pipeline.Grid.coords_val (G := grid0) t 0 (S := 1) (B := 544) (by decide) rfl
  have e' : (crd a t 0).val = t.val / 1 % 544 := e
  rw [e']; omega

abbrev ms0 (t : Fin (cfgA a).N) : Memref sig .tc .vmem S256x1024 .f32 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x1024x512 .f32 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x1024x512 .f32 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x512x1024 .f32 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S256x1024 .f32 := spec0_4.stage ((cfgA a).slots t (4 : Fin 5))
abbrev hs4 (t : Fin (cfgA a).N) : (ms4 a t).IsWhole := hstage0_4 (((cfgA a).slots t (4 : Fin 5)).cast nbuf0_4)

/-- Window `w`'s block at point `t`, read off its array at launch. -/
def iblk (c : Dev nD) (w : Fin (cfgA a).W) (t : Fin (cfgA a).N) : (((cfgA a).win w).xblock ((cfgA a).grid.coords t)).Idx → Elt Ideal ((cfgA a).win w).elt :=
  (((cfgA a).win w).blk t).view.read (Elt Ideal) (m (((cfgA a).win w).arr.view.loc (c : Thread nD τ)))

/-- Block `t`'s rows, and its expert's three weights. -/
abbrev rows (c : Dev nD) (t : Fin (cfgA a).N) : S256x1024.Idx → Elt Ideal .f32 := iblk a m c (0 : Fin 5) t
abbrev gate (c : Dev nD) (t : Fin (cfgA a).N) : S1x1024x512.Idx → Elt Ideal .f32 := iblk a m c (1 : Fin 5) t
abbrev up (c : Dev nD) (t : Fin (cfgA a).N) : S1x1024x512.Idx → Elt Ideal .f32 := iblk a m c (2 : Fin 5) t
abbrev down (c : Dev nD) (t : Fin (cfgA a).N) : S1x512x1024.Idx → Elt Ideal .f32 := iblk a m c (3 : Fin 5) t

/-- What block `t`'s step writes: the expert's payload of the block's rows, or zero for an empty block. -/
def result (c : Dev nD) (t : Fin (cfgA a).N) : S256x1024.Idx → Elt Ideal .f32 :=
  made (crd a t) (counts a) (rows a m c t) (k0_pay1 (gate a m c t)) (k0_pay2 (up a m c t)) (k0_pay3 (down a m c t))

/-- The number of block `t`'s expert. -/
abbrev expert (t : Fin (cfgA a).N) : ℕ := (experts a (pos (crd a t))).toNat

/-- The expert's number is the block index of its weights. -/
theorem index1 (t : Fin (cfgA a).N) : ((cfgA a).win (1 : Fin 5)).index t = ![expert a t, 0, 0] := by
  show ![(here (experts a) (crd a t)).toNat, (0#32 : BitVec 32).toNat, (0#32 : BitVec 32).toNat] = _
  rw [here_eq]; rfl

theorem index2 (t : Fin (cfgA a).N) : ((cfgA a).win (2 : Fin 5)).index t = ![expert a t, 0, 0] := by
  show ![(here (experts a) (crd a t)).toNat, (0#32 : BitVec 32).toNat, (0#32 : BitVec 32).toNat] = _
  rw [here_eq]; rfl

theorem index3 (t : Fin (cfgA a).N) : ((cfgA a).win (3 : Fin 5)).index t = ![expert a t, 0, 0] := by
  show ![(here (experts a) (crd a t)).toNat, (0#32 : BitVec 32).toNat, (0#32 : BitVec 32).toNat] = _
  rw [here_eq]; rfl

/-- An element of the gate weights' block lies in the array at the expert's number and its own two coordinates. -/
theorem gate_at (c : Dev nD) (t : Fin (cfgA a).N) (y : S1x1024x512.Idx) (j : S32x1024x512.Idx)
    (h0 : (j 0).val = expert a t) (h1 : (j 1).val = (y 1).val) (h2 : (j 2).val = (y 2).val) :
    gate a m c t y = m ((c : Thread nD τ).loc main_arg3) j := by
  show m ((c : Thread nD τ).loc main_arg3) ((((cfgA a).win (1 : Fin 5)).rect t).emb y) = _
  refine congrArg (m ((c : Thread nD τ).loc main_arg3)) (funext fun b => Fin.ext ?_)
  have e := Pipeline.Window.rect_emb_val ((cfgA a).win (1 : Fin 5)) t y b
  refine e.trans ?_
  rw [index1]
  have y0 : (y 0).val < 1 := (y 0).isLt
  fin_cases b
  · show expert a t * 1 + (y 0).val = (j 0).val
    omega
  · show 0 * 1024 + (y 1).val = (j 1).val
    omega
  · show 0 * 512 + (y 2).val = (j 2).val
    omega

theorem up_at (c : Dev nD) (t : Fin (cfgA a).N) (y : S1x1024x512.Idx) (j : S32x1024x512.Idx)
    (h0 : (j 0).val = expert a t) (h1 : (j 1).val = (y 1).val) (h2 : (j 2).val = (y 2).val) :
    up a m c t y = m ((c : Thread nD τ).loc main_arg4) j := by
  show m ((c : Thread nD τ).loc main_arg4) ((((cfgA a).win (2 : Fin 5)).rect t).emb y) = _
  refine congrArg (m ((c : Thread nD τ).loc main_arg4)) (funext fun b => Fin.ext ?_)
  have e := Pipeline.Window.rect_emb_val ((cfgA a).win (2 : Fin 5)) t y b
  refine e.trans ?_
  rw [index2]
  have y0 : (y 0).val < 1 := (y 0).isLt
  fin_cases b
  · show expert a t * 1 + (y 0).val = (j 0).val
    omega
  · show 0 * 1024 + (y 1).val = (j 1).val
    omega
  · show 0 * 512 + (y 2).val = (j 2).val
    omega

theorem down_at (c : Dev nD) (t : Fin (cfgA a).N) (y : S1x512x1024.Idx) (j : S32x512x1024.Idx)
    (h0 : (j 0).val = expert a t) (h1 : (j 1).val = (y 1).val) (h2 : (j 2).val = (y 2).val) :
    down a m c t y = m ((c : Thread nD τ).loc main_arg5) j := by
  show m ((c : Thread nD τ).loc main_arg5) ((((cfgA a).win (3 : Fin 5)).rect t).emb y) = _
  refine congrArg (m ((c : Thread nD τ).loc main_arg5)) (funext fun b => Fin.ext ?_)
  have e := Pipeline.Window.rect_emb_val ((cfgA a).win (3 : Fin 5)) t y b
  refine e.trans ?_
  rw [index3]
  have y0 : (y 0).val < 1 := (y 0).isLt
  fin_cases b
  · show expert a t * 1 + (y 0).val = (j 0).val
    omega
  · show 0 * 512 + (y 1).val = (j 1).val
    omega
  · show 0 * 1024 + (y 2).val = (j 2).val
    omega

/-- Every expert named is one of the 32 there are (the pipeline's own condition on its table). -/
theorem expert_lt (t : Fin (cfgA a).N) : expert a t < 32 := by
  obtain ⟨h, -⟩ := a.2.1 (crd a t)
  have e : cc0_transform_1 k0_off1_inb numel1_S1 a.1 (crd a t) = ![expert a t, 0, 0] := index1 a t
  have := h 0
  rw [e] at this
  have h' : (expert a t + 1) * 1 ≤ 32 := this
  omega

/-- Two blocks of one expert have the same weights. -/
theorem weights_eq (c : Dev nD) (t t' : Fin (cfgA a).N) (h : expert a t = expert a t') :
    gate a m c t = gate a m c t' ∧ up a m c t = up a m c t' ∧ down a m c t = down a m c t' := by
  have l := expert_lt a t
  refine ⟨funext fun y => ?_, funext fun y => ?_, funext fun y => ?_⟩
  · let j : S32x1024x512.Idx := fun b => match b with | ⟨0, _⟩ => ⟨expert a t, l⟩ | ⟨1, _⟩ => y 1 | ⟨2, _⟩ => y 2
    rw [gate_at a m c t y j rfl rfl rfl, gate_at a m c t' y j h rfl rfl]
  · let j : S32x1024x512.Idx := fun b => match b with | ⟨0, _⟩ => ⟨expert a t, l⟩ | ⟨1, _⟩ => y 1 | ⟨2, _⟩ => y 2
    rw [up_at a m c t y j rfl rfl rfl, up_at a m c t' y j h rfl rfl]
  · let j : S32x512x1024.Idx := fun b => match b with | ⟨0, _⟩ => ⟨expert a t, l⟩ | ⟨1, _⟩ => y 1 | ⟨2, _⟩ => y 2
    rw [down_at a m c t y j rfl rfl rfl, down_at a m c t' y j h rfl rfl]

/-- A block that does not fetch is not the first, and the block before it has its expert. -/
theorem carried (t : Fin (cfgA a).N) (h : ¬Loads (experts a) (crd a t)) :
    ∃ hp : 0 < t.val, expert a t = expert a ⟨t.val - 1, Nat.lt_of_le_of_lt (Nat.sub_le _ _) t.isLt⟩ := by
  rw [loads_iff, not_or, not_not, crd_val] at h
  refine ⟨Nat.pos_of_ne_zero h.1, ?_⟩
  unfold expert
  rw [h.2]
  refine congrArg (fun p => (experts a p).toNat) (funext fun b => Fin.ext ?_)
  show (crd a t 0).val - 1 = (crd a _ 0).val
  rw [crd_val, crd_val]

/-! ## The pipeline's proof data -/

/-- Before point `t` the scratches hold the weights of the block before (anything before the first), and the body has its
    halves of the two tables. -/
def Phi (c : Dev nD) (t : Fin ((cfgA a).N + 1)) : sProp 𝕄 :=
  iprop(∃ a0 a1 a2, ⌜∀ (h : 0 < t.val) (h' : t.val - 1 < (cfgA a).N), a0 = k0_pay1 (gate a m c ⟨t.val - 1, h'⟩) ∧ a1 = k0_pay2 (up a m c ⟨t.val - 1, h'⟩) ∧ a2 = k0_pay3 (down a m c ⟨t.val - 1, h'⟩)⌝
    ∗ scratches c a0 a1 a2
    ∗ (tbM0_0.view.loc (c : Thread nD τ) ↦{fullShare.right} experts a) ∗ (tbM0_1.view.loc (c : Thread nD τ) ↦{fullShare.right} counts a))

/-- The proof data of the one pipeline on core `c`. -/
def dats (_ : Fin 1) (c : Dev nD) : Dat τ (Elt Ideal) Unit ℕ (UR sig nD τ) ℕ (cfgA a) c where
  A w := m (((cfgA a).win w).arr.view.loc (c : Thread nD τ))
  after w t := match w with
    | ⟨0, _⟩ => iblk a m c (0 : Fin 5) t
    | ⟨1, _⟩ => iblk a m c (1 : Fin 5) t
    | ⟨2, _⟩ => iblk a m c (2 : Fin 5) t
    | ⟨3, _⟩ => iblk a m c (3 : Fin 5) t
    | ⟨4, _⟩ => result a m c t
  Φ t := Phi a m c t
  q _ := fullShare
  owed _ := 0

theorem after0 (c : Dev nD) (t : Fin (cfgA a).N) : (dats a m 0 c).after (0 : Fin 5) t = iblk a m c (0 : Fin 5) t := rfl
theorem after1 (c : Dev nD) (t : Fin (cfgA a).N) : (dats a m 0 c).after (1 : Fin 5) t = iblk a m c (1 : Fin 5) t := rfl
theorem after2 (c : Dev nD) (t : Fin (cfgA a).N) : (dats a m 0 c).after (2 : Fin 5) t = iblk a m c (2 : Fin 5) t := rfl
theorem after3 (c : Dev nD) (t : Fin (cfgA a).N) : (dats a m 0 c).after (3 : Fin 5) t = iblk a m c (3 : Fin 5) t := rfl
theorem after4 (c : Dev nD) (t : Fin (cfgA a).N) : (dats a m 0 c).after (4 : Fin 5) t = result a m c t := rfl

/-- Each input window holds its block when the body runs, fetched there or not. -/
theorem before0 (c : Dev nD) (t : Fin (cfgA a).N) (d) : (dats a m 0 c).before (0 : Fin 5) t d = iblk a m c (0 : Fin 5) t :=
  ((dats a m 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a m 0 c).before (1 : Fin 5) t d = iblk a m c (1 : Fin 5) t :=
  ((dats a m 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a m 0 c).before (2 : Fin 5) t d = iblk a m c (2 : Fin 5) t :=
  ((dats a m 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA a).N) (d) : (dats a m 0 c).before (3 : Fin 5) t d = iblk a m c (3 : Fin 5) t :=
  ((dats a m 0 c).before_in_eq_fetched (3 : Fin 5) rfl (fun _ => rfl) (fun _ _ _ => rfl) (fun t => by rw [after3]; unfold Dat.blockOf iblk; rfl) t d).trans
    (by unfold Dat.fetched Dat.blockOf iblk; rfl)

/-! ## The body's obligation -/

variable (hv : ∀ x, 0 ≤ (counts a x).toInt)

include hv in
/-- No point leaves the output idle: one of the two tests of the count comes out true. -/
theorem idle4 (t : Fin (cfgA a).N) : (cfgA a).idle (4 : Fin 5) ((cfgA a).grid.coords t) = false := by
  have e : a.1.atD 1 (k0_off1 (crd a t)) = counts a (pos (crd a t)) := by
    have h : ∀ b, k0_off1 (crd a t) b + 1 ≤ (pre0.ref 1).ty.shape.size b := fun b => by
      fin_cases b; exact k0_off1_inb (crd a t) 0
    unfold Pipeline.Prefetch.Contents.atD
    refine (dif_pos h).trans ?_
    refine congrArg (counts a) (funext fun b => Fin.ext ?_)
    show k0_off1 (crd a t) b = (crd a t 0).val
    rw [k0_off1_eq]; fin_cases b; rfl
  show (!(k0_cond2 (a.1.atD 1 (k0_off1 (crd a t))) == 1#1) && !(k0_cond3 (a.1.atD 1 (k0_off1 (crd a t))) == 1#1)) = false
  rw [e]
  have := one_test _ (hv (pos (crd a t)))
  by_cases h : k0_cond2 (counts a (pos (crd a t))) = 1#1
  · rw [h]; rfl
  · have h3 : k0_cond3 (counts a (pos (crd a t))) = 1#1 := not_not.1 fun h3 => h (this.2 h3)
    rw [h3]; exact Bool.and_false _

/-- The weights after a step are the block's own, whether it fetched them or they were there. -/
theorem kept_eq (c : Dev nD) (t : Fin (cfgA a).N) {a0 a1 a2}
    (h : ∀ (h : 0 < t.val) (h' : t.val - 1 < (cfgA a).N), a0 = k0_pay1 (gate a m c ⟨t.val - 1, h'⟩) ∧ a1 = k0_pay2 (up a m c ⟨t.val - 1, h'⟩) ∧ a2 = k0_pay3 (down a m c ⟨t.val - 1, h'⟩)) :
    kept (crd a t) (experts a) (k0_pay1 (gate a m c t)) a0 = k0_pay1 (gate a m c t)
      ∧ kept (crd a t) (experts a) (k0_pay2 (up a m c t)) a1 = k0_pay2 (up a m c t)
      ∧ kept (crd a t) (experts a) (k0_pay3 (down a m c t)) a2 = k0_pay3 (down a m c t) := by
  unfold kept
  by_cases hl : Loads (experts a) (crd a t)
  · rw [if_pos hl, if_pos hl, if_pos hl]; exact ⟨rfl, rfl, rfl⟩
  · rw [if_neg hl, if_neg hl, if_neg hl]
    obtain ⟨hp, he⟩ := carried a t hl
    obtain ⟨e0, e1, e2⟩ := h hp _
    obtain ⟨g0, g1, g2⟩ := weights_eq a m c t _ he
    rw [e0, e1, e2, g0, g1, g2]; exact ⟨rfl, rfl, rfl⟩

/-- The body at point `t` on its staging memrefs, as the pipeline calls it. -/
abbrev bodyAt (t : Fin (cfgA a).N) : Prog (TpuEff nD τ sig (Elt Ideal) Λ₀ .tc) PUnit :=
  body (crd a t) (ms0 a t) (hs0 a t) (ms1 a t) (hs1 a t) (ms2 a t) (hs2 a t) (ms3 a t) (hs3 a t) (ms4 a t) (hs4 a t)

include hv in
set_option maxHeartbeats 4000000 in
/-- The body at point `t` takes the invariant from `t` to the next point and leaves the block's result in the output's buffer. -/
theorem sound_body (c : Dev nD) (t : Fin (cfgA a).N) :
    iprop((dats a m 0 c).Φ t.castSucc ∗ (dats a m 0 c).owesAt () t.castSucc
        ∗ (∃ d, owns (c : Thread nD τ) (ms0 a t) fullShare ((dats a m 0 c).before (0 : Fin 5) t d))
        ∗ (∃ d, owns (c : Thread nD τ) (ms1 a t) fullShare ((dats a m 0 c).before (1 : Fin 5) t d))
        ∗ (∃ d, owns (c : Thread nD τ) (ms2 a t) fullShare ((dats a m 0 c).before (2 : Fin 5) t d))
        ∗ (∃ d, owns (c : Thread nD τ) (ms3 a t) fullShare ((dats a m 0 c).before (3 : Fin 5) t d))
        ∗ (∃ d, owns (c : Thread nD τ) (ms4 a t) fullShare ((dats a m 0 c).before (4 : Fin 5) t d)))
      ⊢ wp frame (wpE (defs₀ (F := Ideal)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle4 a hv t]
  simp only [before0, before1, before2, before3, after0, after1, after2, after3, after4]
  rewrite [show (dats a m 0 c).Φ t.succ = Phi a m c t.succ from rfl, show (dats a m 0 c).Φ t.castSucc = Phi a m c t.castSucc from rfl,
    show (dats a m 0 c).owesAt () t.succ = (dats a m 0 c).owesAt () t.castSucc from rfl]
  unfold Phi
  iintro ⟨⟨%a0, %a1, %a2, %ha, HS, HT0, HT1⟩, Ho, ⟨%d0, H0⟩, ⟨%d1, H1⟩, ⟨%d2, H2⟩, ⟨%d3, H3⟩, ⟨%d4, H4⟩⟩
  have key := step c (crd a t) (ms0 a t) (hs0 a t) (ms1 a t) (hs1 a t) (ms2 a t) (hs2 a t) (ms3 a t) (hs3 a t) (ms4 a t) (hs4 a t)
    (experts a) (counts a) (rows a m c t) (gate a m c t) (up a m c t) (down a m c t) a0 a1 a2
    (by rw [hereV_eq]; exact one_test _ (hv _))
  obtain ⟨k0, k1, k2⟩ := kept_eq a m c t ha
  rw [k0, k1, k2] at key
  iapply key
  unfold inputs
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists _; iexact H4
  isplitl [HS]; · iexact HS
  iintro ⟨⟨H0, H1, H2, H3, HT0, HT1⟩, H4, HS⟩
  isplitl [HS HT0 HT1]
  · iexists _; iexists _; iexists _
    isplitr; swap
    · isplitl [HS]; · iexact HS
      isplitl [HT0]; · iexact HT0
      iexact HT1
    · ipureintro; intro _ _; exact ⟨rfl, rfl, rfl⟩
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

include hv in
/-- The library's body obligation, at every point. -/
theorem body_obligation (c : Dev nD) : BodyObligation (dats a m 0 c) (defs₀ (F := Ideal)) Variants.none () Set.univ := fun t => by
  rw [bigSep_W0]
  exact sound_body a m hv c t

/-! ## The launch -/

/-- The rounds library's launch element. -/
def u₀ : UR sig nD τ :=
  initOf (Pipeline.cells (pcs a) ((launch0 (F := Ideal)).cellOf_inj fun _ => a)) (Pipeline.launchToks (pcs a) ((launch0 (F := Ideal)).cellOf_inj fun _ => a))

theorem share_eq (c : Dev nD) (w : Fin (cfgA a).W) : (dats a m 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

/-- The invariant at the first point, from the tables and whatever the scratches hold. -/
theorem phi_first (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a m c 0 from rfl]
  unfold Phi scratches
  iintro ⟨-, ⟨HT0, HT1⟩, ⟨%a0, HS0⟩, ⟨%a1, HS1⟩, ⟨%a2, HS2⟩⟩
  iexists a0; iexists a1; iexists a2
  isplitr; swap
  · isplitl [HS0 HS1 HS2]
    · isplitl [HS0]; · iexact HS0
      isplitl [HS1]; · iexact HS1
      iexact HS2
    isplitl [HT0]; · iexact HT0
    iexact HT1
  · ipureintro; intro h; exact absurd h (Nat.lt_irrefl 0)

/-- The invariant after the last point gives the scratches back. -/
theorem phi_last (c : Dev nD) : (dats a m 0 c).Φ (Fin.last (cfgA a).N) ⊢ iprop(BI.emp ∗ Pipeline.scopedRest spec0 c) := by
  rw [scopedRest0_eq, show (dats a m 0 c).Φ (Fin.last (cfgA a).N) = Phi a m c (Fin.last _) from rfl]
  unfold Phi scratches
  iintro ⟨%a0, %a1, %a2, -, ⟨HS0, HS1, HS2⟩, -, -⟩
  isplitr; · iempintro
  isplitl [HS0]; · iexists a0; iexact HS0
  isplitl [HS1]; · iexists a1; iexact HS1
  iexists a2; iexact HS2

/-- What a run ends in: every window's array at what the pipeline's data compute, every table as the pipeline read it. -/
def Ends : PUnit × MemSt nD τ sig (Elt Ideal) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

variable (ρ : Dev nD → PrngReg) (hp : ∀ (c : Dev nD) (j : Fin 2), m ((c : Thread nD τ).loc (pre0.ref j)) = a.1 j)

include hv hp in
set_option backward.isDefEq.respectTransparency.types false in
set_option maxHeartbeats 4000000 in
/-- From any memory that holds these tables and zero counters, every weakly fair execution of the program ends, with the
    arrays as computed and every counter at zero. -/
theorem run_quiescent : θ_run (defs (F := Ideal)) (onTc (τ := τ) (main (F := Ideal))) ⟨m, fun _ => 0, ρ⟩ (fun r => Ends a m r ∧ r.2.sem = fun _ => 0) :=
  Pipeline.θ_run_region_noSem_pf_quiescent pcfgs (fun _ => a) (dats a m) () ((launch0 (F := Ideal)).cellOf_inj fun _ => a) (0 : Fin 1)
    (launch0 (F := Ideal)).win.to₀ (launch0 (F := Ideal)).pre EP defs₀ Variants.none m ρ main
    (hbody := fun c => (body_obligation a m hv c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := Ideal)).win.arr_inj c (launch0 (F := Ideal)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_first a m)
    (hout := phi_last a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The program's frame at these tables: it ends, every argument as it was and every counter at zero. -/
theorem frame (hv : ∀ x, 0 ≤ (counts a x).toInt) (hp : ∀ (c : Dev nD) (j : Fin 2), m ((c : Thread nD τ).loc (pre0.ref j)) = a.1 j) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 0).trans (hp c 0).symm, ((h.1 c).2 1).trans (hp c 1).symm,
    ((h.1 c).1 (0 : Fin 5)).trans ((dats a m 0 c).arrAt_in (0 : Fin 5) rfl _), ((h.1 c).1 (1 : Fin 5)).trans ((dats a m 0 c).arrAt_in (1 : Fin 5) rfl _),
    ((h.1 c).1 (2 : Fin 5)).trans ((dats a m 0 c).arrAt_in (2 : Fin 5) rfl _), ((h.1 c).1 (3 : Fin 5)).trans ((dats a m 0 c).arrAt_in (3 : Fin 5) rfl _)⟩, h.2⟩)
    (run_quiescent a m hv ρ hp)

/-- Tables that name only the 32 experts are admissible. -/
theorem tables_ok (T : pre0.Contents (Elt Ideal)) (h : ∀ x : S544.Idx, ((T 0 : S544.Idx → BitVec 32) x).toNat < 32) : ok0 (F := Ideal) T := by
  have b (i : grid0.Coords) : (here (T 0) i).toNat < 32 := lt_of_eq_of_lt (congrArg BitVec.toNat (here_eq (T 0) i)) (h _)
  refine ⟨fun i => ⟨fun x => ?_, .inl rfl⟩, fun i => ⟨fun x => ?_, .inl rfl⟩, fun i => ⟨fun x => ?_, .inl rfl⟩⟩
  · have := b i
    fin_cases x
    · show ((here (T 0) i).toNat + 1) * 1 ≤ 32
      omega
    · show (0 + 1) * 1024 ≤ 1024
      decide
    · show (0 + 1) * 512 ≤ 512
      decide
  · have := b i
    fin_cases x
    · show ((here (T 0) i).toNat + 1) * 1 ≤ 32
      omega
    · show (0 + 1) * 1024 ≤ 1024
      decide
    · show (0 + 1) * 512 ≤ 512
      decide
  · have := b i
    fin_cases x
    · show ((here (T 0) i).toNat + 1) * 1 ≤ 32
      omega
    · show (0 + 1) * 512 ≤ 512
      decide
    · show (0 + 1) * 1024 ≤ 1024
      decide

end Cert.KernelIdeal.Experts

end
-- ==== Proof.Experts.Math.lean ====
/-
  The mathematics of the expert call on one row, and the reading of the kernel's payloads and of the reference's term by it.
-/
module

public import proofs.«01_k».proof.Proof.Gen.KernelIdeal.Skeleton
public import proofs.«01_k».proof.Proof.Gen.ReferenceIdeal
public import Idealize.ShloMosaic.Lib.Pointwise

@[expose] public section

set_option maxRecDepth 16384

noncomputable section

namespace Cert.Experts

open Idealize.ShloMosaic

/-- One entry of an expert's hidden row: the gated unit `silu(x·g) · (x·u)` at hidden column `f`. -/
def hidden (x : Fin 1024 → EReal) (g u : Fin 1024 → Fin 512 → EReal) (f : Fin 512) : EReal :=
  (∑ k, x k * g k f) * Ideal.logistic (∑ k, x k * g k f) * ∑ k, x k * u k f

/-- One entry of an expert's output row, the hidden row times the down weights. -/
def output (x : Fin 1024 → EReal) (g u : Fin 1024 → Fin 512 → EReal) (d : Fin 512 → Fin 1024 → EReal) (q : Fin 1024) : EReal :=
  ∑ f, hidden x g u f * d f q

/-! ## A gather of whole slabs by one table -/

section Slab

variable {α : Type} {N P Q n : Nat}

/-- The dimension numbers of `x[idx]` for `x : [N, P, Q]` and a table `idx` of `n` words. -/
abbrev slabDims (N P Q n : Nat) (wf : GatherDims.WF ⟨3, ![N, P, Q]⟩ ⟨2, ![n, 1]⟩ ⟨3, ![n, P, Q]⟩ [1, 2] [0] [] [0] [] 1 ![1, P, Q]) :
    GatherDims ⟨3, ![N, P, Q]⟩ ⟨2, ![n, 1]⟩ ⟨3, ![n, P, Q]⟩ where
  offsetDims := [1, 2]
  collapsedSliceDims := [0]
  operandBatchingDims := []
  startIndicesBatchingDims := []
  startIndexMap := [0]
  indexVectorDim := 1
  sliceSizes := ![1, P, Q]
  wf := wf

/-- Where the table names slab `e` of the `N` there are, the gather reads that slab at the two kept coordinates. -/
theorem gather_slab (wf : GatherDims.WF ⟨3, ![N, P, Q]⟩ ⟨2, ![n, 1]⟩ ⟨3, ![n, P, Q]⟩ [1, 2] [0] [] [0] [] 1 ![1, P, Q])
    (x : (⟨3, ![N, P, Q]⟩ : Shape).Idx → α) (idx : IVec ⟨2, ![n, 1]⟩ 32) (b : Fin n) (p : Fin P) (q : Fin Q) (e : Fin N)
    (h : (idx (ix2 b 0)).toInt = e.val) : Host.gather (slabDims N P Q n wf) x idx (ix3 b p q) = x (ix3 e p q) := by
  unfold Host.gather
  refine congrArg x (funext fun a => Fin.ext ?_)
  show (slabDims N P Q n wf).start (ix3 b p q) idx a + (slabDims N P Q n wf).batchCoord (ix3 b p q) a + (slabDims N P Q n wf).offCoord (ix3 b p q) a = _
  rw [GatherDims.batchCoord_eq_zero _ _ _ List.not_mem_nil]
  match a with
  | ⟨0, _⟩ =>
    have hk : (0 : Fin 3) ∉ (slabDims N P Q n wf).sKept := fun h => ((GatherDims.mem_sKept _ _).mp h).1 (List.mem_singleton.mpr rfl)
    have hm : (0 : Fin 3) ∈ (slabDims N P Q n wf).startIndexMap := List.mem_singleton.mpr rfl
    show (slabDims N P Q n wf).start (ix3 b p q) idx 0 + 0 + (slabDims N P Q n wf).offCoord (ix3 b p q) 0 = e.val
    rw [GatherDims.offCoord_eq_zero _ _ _ hk]
    unfold GatherDims.start
    rw [dif_pos hm]
    have hs : (slabDims N P Q n wf).siIdx (ix3 b p q) ⟨List.idxOf (0 : Fin 3) (slabDims N P Q n wf).startIndexMap, List.idxOf_lt_length_iff.2 hm⟩ = ix2 b 0 := by
      funext c; refine Fin.ext ?_
      match c with
      | ⟨0, _⟩ => rfl
      | ⟨1, _⟩ => rfl
    rw [hs, h]
    show min (e.val : Int).toNat (N - 1) + 0 + 0 = e.val
    have := e.isLt
    omega
  | ⟨1, _⟩ =>
    have hm : (1 : Fin 3) ∉ (slabDims N P Q n wf).startIndexMap := fun h => Nat.one_ne_zero (congrArg Fin.val (List.mem_singleton.mp h : (1 : Fin 3) = 0))
    show (slabDims N P Q n wf).start (ix3 b p q) idx 1 + 0 + (slabDims N P Q n wf).offCoord (ix3 b p q) 1 = p.val
    unfold GatherDims.start
    rw [dif_neg hm, Nat.zero_add]
    rfl
  | ⟨2, _⟩ =>
    have hm : (2 : Fin 3) ∉ (slabDims N P Q n wf).startIndexMap := fun h => Nat.succ_ne_zero 1 (congrArg Fin.val (List.mem_singleton.mp h : (2 : Fin 3) = 0))
    show (slabDims N P Q n wf).start (ix3 b p q) idx 2 + 0 + (slabDims N P Q n wf).offCoord (ix3 b p q) 2 = q.val
    unfold GatherDims.start
    rw [dif_neg hm, Nat.zero_add]
    rfl

end Slab

/-! ## The kernel's payloads at an index -/

section Kernel

open Cert.KernelIdeal Cert.KernelIdeal.Gen

theorem pay1_apply (v : Vec Ideal S1x1024x512 .f32) (k : Fin 1024) (f : Fin 512) : k0_pay1 v (ix2 k f) = v (ix3 0 k f) := by
  pointwise [k0_pay1]

theorem pay2_apply (v : Vec Ideal S1x1024x512 .f32) (k : Fin 1024) (f : Fin 512) : k0_pay2 v (ix2 k f) = v (ix3 0 k f) := by
  pointwise [k0_pay2]

theorem pay3_apply (v : Vec Ideal S1x512x1024 .f32) (f : Fin 512) (q : Fin 1024) : k0_pay3 v (ix2 f q) = v (ix3 0 f q) := by
  pointwise [k0_pay3]

/-- The payload of a block with rows in it is the expert's output on each row. -/
theorem pay4_apply (x : Vec Ideal S256x1024 .f32) (g u : Vec Ideal S1024x512 .bf16) (d : Vec Ideal S512x1024 .bf16) (r : Fin 256) (q : Fin 1024) :
    k0_pay4 x g u d (ix2 r q) = output (fun k => x (ix2 r k)) (fun k f => g (ix2 k f)) (fun k f => u (ix2 k f)) (fun f q => d (ix2 f q)) q := by
  pointwise [k0_pay4]
  unfold output hidden
  rfl

theorem pay5_apply (r : Fin 256) (q : Fin 1024) : k0_pay5 (F := Ideal) (ix2 r q) = (0 : EReal) := by
  pointwise [k0_pay5]

end Kernel

/-! ## The reference's term at an index -/

section Reference

open Cert.ReferenceIdeal Cert.ReferenceIdeal.Gen

/-- The table of experts as the reference uses it: a negative number counted from the end, as a column. -/
def column (T : IVec S544 32) : IVec S544x1 32 :=
  broadcastInDim S544x1 ![0] bcast_S544_S544x1_0 (select (cmpi .slt T (broadcastInDim S544 ![] bcast_S_S544 (constantI S_ 32 0#32)))
    (addi T (broadcastInDim S544 ![] bcast_S_S544 (constantI S_ 32 32#32))) T)

/-- A number that is not negative stays as it is. -/
theorem column_apply (T : IVec S544 32) (h : ∀ x, 0 ≤ (T x).toInt) (b : Fin 544) : column T (ix2 b 0) = T (ix1 b) := by
  have hc : IntOp.cmpi .slt (T (ix1 b)) 0#32 ≠ 1#1 := fun e => absurd (IntOp.cmpi_slt.1 e) (not_lt.2 (h (ix1 b)))
  pointwise [column]
  exact if_neg hc

/-- The products of all rows with the gathered slabs of one projection. -/
def project (T : IVec S544 32) (X : FVec Ideal S139264x1024 .f32) (G : FVec Ideal S32x1024x512 .f32) : FVec Ideal S544x256x512 .f32 :=
  Host.dotGeneral dot_S544x256x1024_S544x1024x512_S544x256x512_2_1_1_2_0_0 none (shapeCast _ X shapeCasts_S139264x1024_S544x256x1024)
    (Host.gather gather_S32x1024x512_S544x1_S544x1024x512_12_0_n_n_0_1_11024512 G (column T))

/-- The gated hidden rows of all blocks. -/
def gated (T : IVec S544 32) (X : FVec Ideal S139264x1024 .f32) (G U : FVec Ideal S32x1024x512 .f32) : FVec Ideal S544x256x512 .f32 :=
  mulf (mulf (project T X G) (Host.divf (broadcastInDim S544x256x512 ![] bcast_S_S544x256x512 (constant S_ .f32 0x3F800000#32))
    (addf (broadcastInDim S544x256x512 ![] bcast_S_S544x256x512 (constant S_ .f32 0x3F800000#32)) (Host.exp (Host.negf (project T X G)))))) (project T X U)

/-- The reference's result, as its run states it. -/
def result (T0 T1 : IVec S544 32) (X : FVec Ideal S139264x1024 .f32) (G U : FVec Ideal S32x1024x512 .f32) (D : FVec Ideal S32x512x1024 .f32) : FVec Ideal S139264x1024 .f32 :=
  shapeCast _ (select (broadcastInDim S544x256x1024 ![0, 1, 2] bcast_S544x1x1_S544x256x1024_0_1_2 (cmpi .sgt (broadcastInDim S544x1x1 ![0] bcast_S544_S544x1x1_0 T1) (broadcastInDim S544x1x1 ![] bcast_S_S544x1x1 (constantI S_ 32 0#32))))
    (Host.dotGeneral dot_S544x256x512_S544x512x1024_S544x256x1024_2_1_1_2_0_0 none (gated T0 X G U) (Host.gather gather_S32x512x1024_S544x1_S544x512x1024_12_0_n_n_0_1_15121024 D (column T0)))
    (broadcastInDim S544x256x1024 ![] bcast_S_S544x256x1024 (id (constant S_ .f32 0x00000000#32)))) shapeCasts_S544x256x1024_S139264x1024

/-- Row `r` of block `b` among all rows. -/
abbrev rowOf (b : Fin 544) (r : Fin 256) : Fin 139264 := ⟨b.val * 256 + r.val, by omega⟩

variable (T0 T1 : IVec S544 32) (X : FVec Ideal S139264x1024 .f32) (G U : FVec Ideal S32x1024x512 .f32) (D : FVec Ideal S32x512x1024 .f32)
  (h : ∀ x, 0 ≤ (T0 x).toInt) (b : Fin 544) (r : Fin 256) (e : Fin 32) (he : (T0 (ix1 b)).toInt = e.val)

include h he in
theorem project_apply (f : Fin 512) : project T0 X G (ix3 b r f) = ∑ k : Fin 1024, X (ix2 (rowOf b r) k) * G (ix3 e k f) := by
  have hg (k : Fin 1024) : Host.gather gather_S32x1024x512_S544x1_S544x1024x512_12_0_n_n_0_1_11024512 G (column T0) (ix3 b k f) = G (ix3 e k f) :=
    gather_slab _ G (column T0) b k f e (by rw [column_apply T0 h]; exact he)
  pointwise [project]
  refine Finset.sum_congr rfl fun k _ => ?_
  rw [hg]

include h he in
theorem gated_apply (f : Fin 512) :
    gated T0 X G U (ix3 b r f) = hidden (fun k => X (ix2 (rowOf b r) k)) (fun k f => G (ix3 e k f)) (fun k f => U (ix3 e k f)) f := by
  have hg := project_apply T0 X G h b r e he f
  have hu := project_apply T0 X U h b r e he f
  pointwise [gated]
  rw [hg, hu]
  rfl

include h he in
/-- The reference's result on row `r` of block `b`, whose expert is `e`: the expert's output if the block has rows in it, else zero. -/
theorem result_apply (q : Fin 1024) : result T0 T1 X G U D (ix2 (rowOf b r) q)
    = if 0 < (T1 (ix1 b)).toInt then output (fun k => X (ix2 (rowOf b r) k)) (fun k f => G (ix3 e k f)) (fun k f => U (ix3 e k f)) (fun f q => D (ix3 e f q)) q else 0 := by
  have hd (f : Fin 512) : Host.gather gather_S32x512x1024_S544x1_S544x512x1024_12_0_n_n_0_1_15121024 D (column T0) (ix3 b f q) = D (ix3 e f q) :=
    gather_slab _ D (column T0) b f q e (by rw [column_apply T0 h]; exact he)
  have hg (f : Fin 512) := gated_apply T0 X G U h b r e he f
  pointwise [result]
  have eb : (⟨(rowOf b r).val / 256, by omega⟩ : Fin 544) = b := Fin.ext (by show (b.val * 256 + r.val) / 256 = b.val; omega)
  have er : (⟨(rowOf b r).val % 256, by omega⟩ : Fin 256) = r := Fin.ext (by show (b.val * 256 + r.val) % 256 = r.val; omega)
  rw [eb, er]
  have e0 : id (constant (F := Ideal) S_ FTy.f32 0#32) ix0 = (0 : EReal) := Ideal.ofBits_zero_f32
  rw [e0]
  have es : (∑ f : Fin 512, gated T0 X G U (ix3 b r f) * Host.gather gather_S32x512x1024_S544x1_S544x512x1024_12_0_n_n_0_1_15121024 D (column T0) (ix3 b f q) : EReal)
      = output (fun k => X (ix2 (rowOf b r) k)) (fun k f => G (ix3 e k f)) (fun k f => U (ix3 e k f)) (fun f q => D (ix3 e f q)) q :=
    Finset.sum_congr rfl fun f _ => by rw [hg, hd]
  rw [es]
  have hs : Scalar.cmpi .sgt (T1 (ix1 b)) 0#32 = 1#1 ↔ 0 < (T1 (ix1 b)).toInt := IntOp.cmpi_sgt (x := T1 (ix1 b)) (y := 0#32)
  by_cases hp : 0 < (T1 (ix1 b)).toInt
  · rw [if_pos hp]; exact if_pos (hs.2 hp)
  · rw [if_neg hp]; exact if_neg fun e' => hp (hs.1 e')

end Reference

end Cert.Experts

end
-- ==== Proof.Experts.Value.lean ====
/-
  The idealized expert kernel's result array, at any admissible tables: the reference's own function of the arguments. Every
  block of rows is written back by its own step, and the blocks cover the array.
-/
module

public import proofs.«01_k».proof.Proof.Experts.FrameIdeal
public import proofs.«01_k».proof.Proof.Experts.Math
public import Idealize.ShloMosaic.Lib.Pipeline.ValueKit.Basic

@[expose] public section

set_option maxRecDepth 16384

noncomputable section

namespace Cert.KernelIdeal.Experts

open Cert.KernelIdeal Cert.KernelIdeal.Gen
open Idealize.ShloMosaic
open Idealize.ShloMosaic.TcCoe
open Idealize.ShloMosaic.Pipeline (Dat)

variable (a : (pcfg0 (F := Ideal)).Adm) (m : (ℓ : Loc nD τ sig) → Buf (Elt Ideal) ℓ) (c : Dev nD)

/-- Point `t` of the grid as a block's number. -/
abbrev blockNo (t : Fin (cfgA a).N) : Fin 544 := ⟨t.val, t.isLt⟩

theorem pos_eq (t : Fin (cfgA a).N) : pos (crd a t) = ix1 (blockNo a t) := by
  funext b; refine Fin.ext ?_
  fin_cases b
  exact crd_val a t

/-- The block index of the rows and of the result is the block's number. -/
theorem index0 (t : Fin (cfgA a).N) : ((cfgA a).win (0 : Fin 5)).index t = ![t.val, 0] := by
  have e : ((cfgA a).win (0 : Fin 5)).index t = ![(BitVec.ofNat 32 (crd a t 0).val).toNat, 0] := rfl
  have ht : t.val < 544 := t.isLt
  rw [e, crd_val, BitVec.toNat_ofNat, Nat.mod_eq_of_lt (by omega)]

theorem index4 (t : Fin (cfgA a).N) : ((cfgA a).win (4 : Fin 5)).index t = ![t.val, 0] := by
  have e : ((cfgA a).win (4 : Fin 5)).index t = ![(BitVec.ofNat 32 (crd a t 0).val).toNat, 0] := rfl
  have ht : t.val < 544 := t.isLt
  rw [e, crd_val, BitVec.toNat_ofNat, Nat.mod_eq_of_lt (by omega)]

/-- Row `r` of block `t` is row `256 t + r` of all rows. -/
theorem rows_at (t : Fin (cfgA a).N) (r : Fin 256) (q : Fin 1024) :
    rows a m c t (ix2 r q) = m ((c : Thread nD τ).loc main_arg2) (ix2 (Cert.Experts.rowOf (blockNo a t) r) q) := by
  show m ((c : Thread nD τ).loc main_arg2) ((((cfgA a).win (0 : Fin 5)).rect t).emb (ix2 r q)) = _
  refine congrArg (m ((c : Thread nD τ).loc main_arg2)) (funext fun b => Fin.ext ?_)
  have e := Pipeline.Window.rect_emb_val ((cfgA a).win (0 : Fin 5)) t (ix2 r q) b
  refine e.trans ?_
  rw [index0]
  fin_cases b
  · show t.val * 256 + r.val = t.val * 256 + r.val
    rfl
  · show 0 * 1024 + q.val = q.val
    omega

/-- The result's block `t` begins at the same row. -/
theorem out_at (t : Fin (cfgA a).N) (r : Fin 256) (q : Fin 1024) :
    (((cfgA a).win (4 : Fin 5)).rect t).emb (ix2 r q) = ix2 (Cert.Experts.rowOf (blockNo a t) r) q := by
  refine funext fun b => Fin.ext ?_
  have e := Pipeline.Window.rect_emb_val ((cfgA a).win (4 : Fin 5)) t (ix2 r q) b
  refine e.trans ?_
  rw [index4]
  fin_cases b
  · show t.val * 256 + r.val = t.val * 256 + r.val
    rfl
  · show 0 * 1024 + q.val = q.val
    omega

/-- Every point writes its block of the result back. -/
theorem flush4 (t : Fin (cfgA a).N) : ((cfgA a).win (4 : Fin 5)).flush t = true := by
  have ho : ((cfgA a).win (4 : Fin 5)).isOut = true := rfl
  unfold Pipeline.Window.flush
  rw [ho, Bool.true_and, Bool.or_eq_true, decide_eq_true_iff, decide_eq_true_iff]
  by_cases h : t.val + 1 = (cfgA a).grid.N
  · exact .inl h
  · have ht : t.val < (cfgA a).grid.N := t.isLt
    refine .inr ⟨by omega, fun e => ?_⟩
    rw [index4, index4] at e
    have := congrFun e 0
    have h' : t.val + 1 = t.val := this
    omega

/-- The reference's function of this memory's arguments. -/
abbrev goal : Buf (Elt Ideal) ((c : Thread nD τ).loc main_v0) :=
  Cert.Experts.result (experts a) (counts a) (m ((c : Thread nD τ).loc main_arg2)) (m ((c : Thread nD τ).loc main_arg3))
    (m ((c : Thread nD τ).loc main_arg4)) (m ((c : Thread nD τ).loc main_arg5))

variable (hT : ∀ x, 0 ≤ (experts a x).toInt)

include hT in
/-- What block `t`'s step leaves is the reference's function on the block's rows. -/
theorem result_eq (t : Fin (cfgA a).N) (r : Fin 256) (q : Fin 1024) :
    result a m c t (ix2 r q) = goal a m c (ix2 (Cert.Experts.rowOf (blockNo a t) r) q) := by
  have hlt := expert_lt a t
  let e : Fin 32 := ⟨expert a t, hlt⟩
  have he : (experts a (ix1 (blockNo a t))).toInt = e.val := by
    show _ = ((expert a t : ℕ) : Int)
    unfold expert
    rw [pos_eq]
    have h0 := hT (ix1 (blockNo a t))
    rw [BitVec.toInt_eq_toNat_cond] at h0 ⊢
    split at h0 <;> omega
  refine Eq.trans ?_ (Cert.Experts.result_apply (experts a) (counts a) _ _ _ _ hT (blockNo a t) r e he q).symm
  unfold result made
  by_cases hp : 0 < (counts a (ix1 (blockNo a t))).toInt
  · rw [if_pos hp, if_pos (by rw [hereV_eq, pos_eq]; exact (cond2_iff _).2 hp)]
    refine (Cert.Experts.pay4_apply _ _ _ _ r q).trans ?_
    have e1 : (fun k => rows a m c t (ix2 r k)) = fun k => m ((c : Thread nD τ).loc main_arg2) (ix2 (Cert.Experts.rowOf (blockNo a t) r) k) :=
      funext fun k => rows_at a m c t r k
    have e2 : (fun k f => k0_pay1 (gate a m c t) (ix2 k f)) = fun k f => m ((c : Thread nD τ).loc main_arg3) (ix3 e k f) :=
      funext fun k => funext fun f => (Cert.Experts.pay1_apply _ k f).trans (gate_at a m c t _ _ rfl rfl rfl)
    have e3 : (fun k f => k0_pay2 (up a m c t) (ix2 k f)) = fun k f => m ((c : Thread nD τ).loc main_arg4) (ix3 e k f) :=
      funext fun k => funext fun f => (Cert.Experts.pay2_apply _ k f).trans (up_at a m c t _ _ rfl rfl rfl)
    have e4 : (fun f q => k0_pay3 (down a m c t) (ix2 f q)) = fun f q => m ((c : Thread nD τ).loc main_arg5) (ix3 e f q) :=
      funext fun f => funext fun q => (Cert.Experts.pay3_apply _ f q).trans (down_at a m c t _ _ rfl rfl rfl)
    rw [e1, e2, e3, e4]
  · rw [if_neg hp, if_neg (by rw [hereV_eq, pos_eq]; exact fun h => hp ((cond2_iff _).1 h))]
    exact Cert.Experts.pay5_apply r q

include hT in
/-- The result array after the run is the reference's function of the arguments. -/
theorem final : (dats a m 0 c).arrAt (4 : Fin 5) (cfgA a).N = goal a m c := by
  refine (dats a m 0 c).arrAt_eq_of_cover (4 : Fin 5) (goal a m c) (fun t _ => ?_) fun i => ?_
  · show ((cfgA a).win (4 : Fin 5)).cut ((cfgA a).grid.coords t) ((dats a m 0 c).after (4 : Fin 5) t) = _
    rw [after4]
    funext y
    have key (y : S256x1024.Idx) : result a m c t y = goal a m c ((((cfgA a).win (4 : Fin 5)).rect t).emb y) := by
      idx_vars y
      rw [out_at]
      exact result_eq a m c hT t _ _
    exact key y
  · have hi : ∃ (R : Fin 139264) (q : Fin 1024), i = ix2 R q := ⟨i 0, i 1, eq_ix2 i⟩
    obtain ⟨R, q, rfl⟩ := hi
    let t : Fin (cfgA a).N := ⟨R.val / 256, by show R.val / 256 < 544; omega⟩
    refine ⟨t, flush4 a t, ?_⟩
    show _ ∈ ((View.whole main_v0).slice (((cfgA a).win (4 : Fin 5)).rect t)).set
    rw [View.set_slice_whole]
    refine (Pipeline.Window.mem_rect_iff _ _ _ (by rfl)).mpr fun b => ?_
    rw [index4]
    fin_cases b
    · show R.val / 256 * 256 ≤ R.val ∧ R.val < R.val / 256 * 256 + 256
      omega
    · show 0 * 1024 ≤ q.val ∧ q.val < 0 * 1024 + 1024
      omega

end Cert.KernelIdeal.Experts

end
-- ==== Proof.Experts.Range.lean ====
/-
  What the precondition says of the two tables: every expert's number is one of the 32, and no count is negative.
-/
module

public import proofs.«01_k».proof.Proof.Gen.Pre_tables_in_range
public import Idealize.ShloMosaic.Lib.ReduceAll

@[expose] public section

set_option maxRecDepth 16384

noncomputable section

namespace Cert.Experts.Range

open Idealize.ShloMosaic
open Cert.Pre_tables_in_range Cert.Pre_tables_in_range.Gen

variable {F : FTy → Type} [FloatOps F]
variable {T0 T1 : IVec S544 32} {X : FVec F S139264x1024 .f32} {G U : FVec F S32x1024x512 .f32} {D : FVec F S32x512x1024 .f32}

instance : Subsingleton S_.Idx := ⟨fun a b => funext fun i => i.elim0⟩

/-- Both of the precondition's conjunctions hold. -/
theorem both (h : fn T0 T1 X G U D = fun _ => 1#1) (x : S544.Idx) :
    (0 ≤ (T0 x).toInt ∧ (T0 x).toInt < 32) ∧ 0 ≤ (T1 x).toInt := by
  have h0 := congrFun h (fun i => i.elim0)
  obtain ⟨hA, hB⟩ := IntOp.andi_eq_one.1 h0
  have hA' := IntOp.andi_eq_one.1 (Host.reduce_andi_all _ _ _ _ _ hA x)
  have hB' := IntOp.andi_eq_one.1 (Host.reduce_andi_all _ _ _ _ _ hB x)
  exact ⟨⟨IntOp.cmpi_sge.1 hA'.1, IntOp.cmpi_slt.1 hA'.2⟩, IntOp.cmpi_sge.1 hB'.1⟩

/-- An expert's number, read without a sign, is below 32. -/
theorem number_lt (h : fn T0 T1 X G U D = fun _ => 1#1) (x : S544.Idx) : (T0 x).toNat < 32 := by
  obtain ⟨⟨h0, h1⟩, -⟩ := both h x
  rw [BitVec.toInt_eq_toNat_cond] at h0 h1
  split at h0 <;> omega

end Cert.Experts.Range

end
-- ==== Proof.Experts.Claims.lean ====
/-
  The five claims about the expert kernel.
-/
module

public import proofs.«01_k».proof.Defs
public import proofs.«01_k».proof.Proof.Experts.Frame
public import proofs.«01_k».proof.Proof.Experts.Value
public import proofs.«01_k».proof.Proof.Experts.Range
public import proofs.«01_k».proof.Proof.Gen.ReferenceIdeal.Run
public import Idealize.ShloMosaic.Lib.Quiescent

@[expose] public section

set_option maxRecDepth 16384

noncomputable section

namespace Cert.Experts

open Idealize.ShloMosaic Idealize.SL.Sem

/-- There is one device. -/
theorem dev_eq {n : ℕ} (h : n = 1) (c d : Dev n) : c = d := by
  subst h; exact Subsingleton.elim c d

section Bits

variable (m : (ℓ : Loc Cert.Kernel.nD Cert.Kernel.τ Cert.Kernel.sig) → Buf (Elt Bits) ℓ) (hP : Cert.Pre_Kernel m)

/-- The tables the memory holds. -/
abbrev held : Cert.Kernel.pre0.Contents (Elt Bits) := fun j => m (((0 : Dev Cert.Kernel.nD).tc : Thread Cert.Kernel.nD Cert.Kernel.τ).loc (Cert.Kernel.pre0.ref j))

/-- They are admissible under the precondition. -/
def tables : (Cert.Kernel.pcfg0 (F := Bits)).Adm := ⟨held m, Cert.Kernel.Experts.tables_ok (held m) fun x => Range.number_lt (hP 0) x⟩

theorem frame_kernel : Cert.quiescent_Kernel := fun m ρ hP =>
  Cert.Kernel.Experts.frame (tables m hP) m ρ (fun x => (Range.both (hP 0) x).2) fun c j => by rw [dev_eq rfl c 0]; rfl

end Bits

section Ideal

variable (m : (ℓ : Loc Cert.KernelIdeal.nD Cert.KernelIdeal.τ Cert.KernelIdeal.sig) → Buf (Elt Ideal) ℓ) (hP : Cert.Pre_KernelIdeal m)

/-- The tables the idealized kernel's memory holds. -/
abbrev heldI : Cert.KernelIdeal.pre0.Contents (Elt Ideal) := fun j => m (((0 : Dev Cert.KernelIdeal.nD).tc : Thread Cert.KernelIdeal.nD Cert.KernelIdeal.τ).loc (Cert.KernelIdeal.pre0.ref j))

/-- They are admissible under the precondition. -/
def tablesI : (Cert.KernelIdeal.pcfg0 (F := Ideal)).Adm := ⟨heldI m, Cert.KernelIdeal.Experts.tables_ok (heldI m) fun x => Range.number_lt (hP 0) x⟩

theorem frame_ideal : Cert.quiescent_KernelIdeal := fun m ρ hP =>
  Cert.KernelIdeal.Experts.frame (tablesI m hP) m ρ (fun x => (Range.both (hP 0) x).2) fun c j => by rw [dev_eq rfl c 0]; rfl

/-- The reference runs and leaves its arguments; it has no semaphore. -/
theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- The kernel's result array and the reference's are the same function of the arguments. -/
theorem values : Cert.algebraic_KernelIdeal_ReferenceIdeal := by
  intro m ρ m' ρ' hP hA
  have hT := fun x => (Range.both (hP 0) x).1.1
  have hv := fun x => (Range.both (hP 0) x).2
  have hp : ∀ (c : Dev Cert.KernelIdeal.nD) (j : Fin 2), m ((c.tc : Thread Cert.KernelIdeal.nD Cert.KernelIdeal.τ).loc (Cert.KernelIdeal.pre0.ref j)) = (tablesI m hP).1 j :=
    fun c j => by rw [dev_eq rfl c 0]; rfl
  refine ⟨fun c => Cert.KernelIdeal.Experts.goal (tablesI m hP) m c, ?_, ?_⟩
  · refine (θ_run _ _ _).mono (fun r h c => ?_) (Cert.KernelIdeal.Experts.run_quiescent (tablesI m hP) m hv ρ hp)
    obtain ⟨h1, h2⟩ := h.1 c
    exact ⟨(h1 (4 : Fin 5)).trans (Cert.KernelIdeal.Experts.final (tablesI m hP) m c hT), (h2 0).trans (hp c 0).symm, (h2 1).trans (hp c 1).symm,
      (h1 (0 : Fin 5)).trans ((Cert.KernelIdeal.Experts.dats (tablesI m hP) m 0 c).arrAt_in (0 : Fin 5) rfl _),
      (h1 (1 : Fin 5)).trans ((Cert.KernelIdeal.Experts.dats (tablesI m hP) m 0 c).arrAt_in (1 : Fin 5) rfl _),
      (h1 (2 : Fin 5)).trans ((Cert.KernelIdeal.Experts.dats (tablesI m hP) m 0 c).arrAt_in (2 : Fin 5) rfl _),
      (h1 (3 : Fin 5)).trans ((Cert.KernelIdeal.Experts.dats (tablesI m hP) m 0 c).arrAt_in (3 : Fin 5) rfl _)⟩
  · refine (θ_run _ _ _).mono (fun r h c => ⟨(h c).1.trans ?_, (h c).2⟩) (Cert.ReferenceIdeal.Value.run (F := Ideal) m' ρ')
    obtain ⟨a0, a1, a2, a3, a4, a5⟩ := hA c
    show result (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
    rw [a0, a1, a2, a3, a4, a5]
    have e0 := hp c 0
    have e1 := hp c 1
    exact congrArg₂ (fun A B => result A B _ _ _ _) e0 e1

end Ideal

end Cert.Experts

end
-- ==== Proof.Inproj.Math.lean ====
/-
  The mathematics of the input projection on one token's row, and the reading of the kernel's payloads and of the reference's term by it.
-/
module

public import proofs.«01_k».proof.Proof.Gen.Kernel2Ideal.Skeleton
public import proofs.«01_k».proof.Proof.Gen.Reference2Ideal.Run
public import Idealize.ShloMosaic.Lib.Pointwise

@[expose] public section

set_option maxRecDepth 16384

noncomputable section

namespace Cert.Inproj

open Idealize.ShloMosaic

/-- A row's mean: its sum over 1024. -/
def mean (z : Fin 1024 → EReal) : EReal :=
  Ideal.div (∑ k, z k) (Ideal.ofBits .f32 0x44800000#32)

/-- A row's variance: the mean of the squared differences to its mean. -/
def variance (z : Fin 1024 → EReal) : EReal :=
  Ideal.div (∑ k, (z k - mean z) * (z k - mean z)) (Ideal.ofBits .f32 0x44800000#32)

/-- One entry of a row's layer norm, scaled by one plus `sc` and shifted by `sh`; the small number added to the variance is the literal 1e-6. -/
def modulated (z sc sh : Fin 1024 → EReal) (k : Fin 1024) : EReal :=
  (z k - mean z) * Ideal.rsqrt (variance z + Ideal.ofBits .f32 0x358637BD#32) * (1 + sc k) + sh k

/-- One entry of a row's projection: the modulated row times one column of the weights. -/
def projected (z sc sh w : Fin 1024 → EReal) : EReal :=
  ∑ k, modulated z sc sh k * w k

/-! ## The kernel's payloads at an index -/

section Kernel

open Cert.Kernel2Ideal Cert.Kernel2Ideal.Gen

variable (x : Vec Ideal S1x256x1024 .f32) (sc sh : Vec Ideal S1x1x1024 .f32)

/-- The context step's modulated rows. -/
theorem pay3_apply (r : Fin 256) (k : Fin 1024) :
    k0_pay3 x sc sh (ix2 r k) = modulated (fun k => x (ix3 0 r k)) (fun k => sc (ix3 0 0 k)) (fun k => sh (ix3 0 0 k)) k := by
  pointwise [k0_pay3]
  rfl

/-- A latent step's modulated rows. -/
theorem pay5_apply (r : Fin 256) (k : Fin 1024) :
    k0_pay5 x sc sh (ix2 r k) = modulated (fun k => x (ix3 0 r k)) (fun k => sc (ix3 0 0 k)) (fun k => sh (ix3 0 0 k)) k := by
  pointwise [k0_pay5]
  rfl

variable (w : Vec Ideal S1024x2560 .bf16) (v : Vec Ideal S1024x1536 .bf16)

theorem pay4_apply (r : Fin 256) (q : Fin 2560) :
    k0_pay4 x sc sh w (ix3 0 r q) = projected (fun k => x (ix3 0 r k)) (fun k => sc (ix3 0 0 k)) (fun k => sh (ix3 0 0 k)) fun k => w (ix2 k q) := by
  pointwise [k0_pay4]
  exact Finset.sum_congr rfl fun k _ => congrArg (· * _) (pay3_apply x sc sh r k)

theorem pay6_apply (r : Fin 256) (q : Fin 2560) :
    k0_pay6 x sc sh w (ix3 0 r q) = projected (fun k => x (ix3 0 r k)) (fun k => sc (ix3 0 0 k)) (fun k => sh (ix3 0 0 k)) fun k => w (ix2 k q) := by
  pointwise [k0_pay6]
  exact Finset.sum_congr rfl fun k _ => congrArg (· * _) (pay5_apply x sc sh r k)

theorem pay1_apply (r : Fin 256) (q : Fin 1536) :
    k0_pay1 (k0_pay3 x sc sh) v (constant (F := Ideal) S256x1536 .f32 0x00000000#32) (ix3 0 r q) = projected (fun k => x (ix3 0 r k)) (fun k => sc (ix3 0 0 k)) (fun k => sh (ix3 0 0 k)) fun k => v (ix2 k q) := by
  pointwise [k0_pay1]
  exact Finset.sum_congr rfl fun k _ => congrArg (· * _) (pay3_apply x sc sh r k)

theorem pay2_apply (r : Fin 256) (q : Fin 1536) :
    k0_pay2 (k0_pay5 x sc sh) v (constant (F := Ideal) S256x1536 .f32 0x00000000#32) (ix3 0 r q) = projected (fun k => x (ix3 0 r k)) (fun k => sc (ix3 0 0 k)) (fun k => sh (ix3 0 0 k)) fun k => v (ix2 k q) := by
  pointwise [k0_pay2]
  exact Finset.sum_congr rfl fun k _ => congrArg (· * _) (pay5_apply x sc sh r k)

end Kernel

/-! ## The layer's two parts of tokens -/

section Tokens

variable (ctx : (⟨3, ![16, 256, 1024]⟩ : Shape).Idx → EReal) (lat : (⟨3, ![16, 4096, 1024]⟩ : Shape).Idx → EReal)
  (mod : (⟨3, ![17, 6, 1024]⟩ : Shape).Idx → EReal) (w : (⟨2, ![1024, 4096]⟩ : Shape).Idx → EReal)

/-- The projection of context token `r` of sequence `b` on column `q`: the context's modulation is row 16 of the table. -/
def contextEntry (b : Fin 16) (r : Fin 256) (q : Fin 4096) : EReal :=
  projected (fun k => ctx (ix3 b r k)) (fun k => mod (ix3 16 1 k)) (fun k => mod (ix3 16 0 k)) fun k => w (ix2 k q)

/-- The projection of latent token `r` of sequence `b` on column `q`: the modulation is the sequence's own row of the table. -/
def latentEntry (b : Fin 16) (r : Fin 4096) (q : Fin 4096) : EReal :=
  projected (fun k => lat (ix3 b r k)) (fun k => mod (ix3 ⟨b.val, by omega⟩ 1 k)) (fun k => mod (ix3 ⟨b.val, by omega⟩ 0 k)) fun k => w (ix2 k q)

/-- The projection of row `r` of the sequence of context and latent tokens together. -/
def entry (b : Fin 16) (r : Fin 4352) (q : Fin 4096) : EReal :=
  if h : r.val < 256 then contextEntry ctx mod w b ⟨r.val, h⟩ q else latentEntry lat mod w b ⟨r.val - 256, by omega⟩ q

end Tokens

/-! ## The reference's terms at an index -/

section Reference

open Cert.Reference2Ideal Cert.Reference2Ideal.Value

variable (m : (ℓ : Loc nD τ sig) → Buf (Elt Ideal) ℓ) (c : Dev nD)

/-- The reference's entry over the arguments it is given. -/
abbrev meant (b : Fin 16) (r : Fin 4352) (q : Fin 4096) : EReal :=
  entry (m ((c.tc : Thread nD τ).loc main_arg0)) (m ((c.tc : Thread nD τ).loc main_arg1)) (m ((c.tc : Thread nD τ).loc main_arg2)) (m ((c.tc : Thread nD τ).loc main_arg3)) b r q

theorem conv_context (b : Fin 16) (r : Fin 256) (q : Fin 2560) :
    res_main_v64 (F := Ideal) m c (ix3 b ⟨r.val, by omega⟩ q) = meant m c b ⟨r.val, by omega⟩ ⟨q.val, by omega⟩ := by
  unfold meant entry
  rw [dif_pos r.isLt]
  pointwise [res_main_v64]
  rfl

theorem conv_latent (b : Fin 16) (r : Fin 4096) (q : Fin 2560) :
    res_main_v64 (F := Ideal) m c (ix3 b ⟨256 + r.val, by omega⟩ q) = meant m c b ⟨256 + r.val, by omega⟩ ⟨q.val, by omega⟩ := by
  have h : (⟨256 + r.val - 256, by omega⟩ : Fin 4096) = r := Fin.ext (by show 256 + r.val - 256 = r.val; omega)
  unfold meant entry
  rw [dif_neg (show ¬ 256 + r.val < 256 by omega)]
  show _ = latentEntry _ _ _ b ⟨256 + r.val - 256, _⟩ _
  rw [h]
  pointwise [res_main_v64]
  rfl

theorem rest_context (b : Fin 16) (r : Fin 256) (q : Fin 1536) :
    res_main_v65 (F := Ideal) m c (ix3 b ⟨r.val, by omega⟩ q) = meant m c b ⟨r.val, by omega⟩ ⟨2560 + q.val, by omega⟩ := by
  unfold meant entry
  rw [dif_pos r.isLt]
  pointwise [res_main_v65]
  rfl

theorem rest_latent (b : Fin 16) (r : Fin 4096) (q : Fin 1536) :
    res_main_v65 (F := Ideal) m c (ix3 b ⟨256 + r.val, by omega⟩ q) = meant m c b ⟨256 + r.val, by omega⟩ ⟨2560 + q.val, by omega⟩ := by
  have h : (⟨256 + r.val - 256, by omega⟩ : Fin 4096) = r := Fin.ext (by show 256 + r.val - 256 = r.val; omega)
  unfold meant entry
  rw [dif_neg (show ¬ 256 + r.val < 256 by omega)]
  show _ = latentEntry _ _ _ b ⟨256 + r.val - 256, _⟩ _
  rw [h]
  pointwise [res_main_v65]
  rfl

/-- Every row is a context row or a latent one. -/
theorem conv_at (b : Fin 16) (r : Fin 4352) (q : Fin 2560) : res_main_v64 (F := Ideal) m c (ix3 b r q) = meant m c b r ⟨q.val, by omega⟩ := by
  by_cases h : r.val < 256
  · exact conv_context m c b ⟨r.val, h⟩ q
  · obtain ⟨s, hs⟩ : ∃ s : Fin 4096, (⟨256 + s.val, by omega⟩ : Fin 4352) = r := ⟨⟨r.val - 256, by omega⟩, Fin.ext (by show 256 + (r.val - 256) = r.val; omega)⟩
    exact hs ▸ conv_latent m c b s q

theorem rest_at (b : Fin 16) (r : Fin 4352) (q : Fin 1536) : res_main_v65 (F := Ideal) m c (ix3 b r q) = meant m c b r ⟨2560 + q.val, by omega⟩ := by
  by_cases h : r.val < 256
  · exact rest_context m c b ⟨r.val, h⟩ q
  · obtain ⟨s, hs⟩ : ∃ s : Fin 4096, (⟨256 + s.val, by omega⟩ : Fin 4352) = r := ⟨⟨r.val - 256, by omega⟩, Fin.ext (by show 256 + (r.val - 256) = r.val; omega)⟩
    exact hs ▸ rest_latent m c b s q

end Reference

end Cert.Inproj
-- ==== Proof.Inproj.Value.lean ====
/-
  The idealized input projection's two result arrays, block by block: at every row, context or latent, the reference's entry.
-/
module

public import proofs.«01_k».proof.Proof.Gen.Kernel2Ideal.Value
public import proofs.«01_k».proof.Proof.Inproj.Math
public import Idealize.ShloMosaic.Lib.Pipeline.ValueKit

@[expose] public section

set_option maxRecDepth 16384

noncomputable section

namespace Cert.Kernel2Ideal.Inproj

open Cert.Kernel2Ideal Cert.Kernel2Ideal.Gen Cert.Kernel2Ideal.Value
open Idealize.ShloMosaic
open Idealize.ShloMosaic.TcCoe

variable (m : (ℓ : Loc nD τ sig) → Buf (Elt Ideal) ℓ) (c : Dev nD)

/-- The windows' block indices at point `t = 17 i + j`: sequence `i`, the context first and then the sixteen blocks of latent rows. -/
theorem idx : ∀ t : Fin cfg0.N, win0_0.index t = ![t.val / 17, 0, 0] ∧ win0_1.index t = ![t.val / 17, t.val % 17 - 1, 0]
    ∧ win0_2.index t = ![if t.val % 17 = 0 then 16 else t.val / 17, 0, 0] ∧ win0_3.index t = ![0, 0]
    ∧ win0_4.index t = ![t.val / 17, t.val % 17, 0] ∧ win0_5.index t = ![t.val / 17, t.val % 17, 0] := by
  decide +kernel

/-- The entry meant, of this memory's arguments. -/
abbrev meant (b : Fin 16) (r : Fin 4352) (q : Fin 4096) : EReal :=
  Cert.Inproj.entry (m ((c : Thread nD τ).loc main_arg0)) (m ((c : Thread nD τ).loc main_arg1)) (m ((c : Thread nD τ).loc main_arg2)) (m ((c : Thread nD τ).loc main_arg3)) b r q

/-- The first result: the first 2560 columns. -/
def conv : S16x4352x2560.Idx → EReal := fun i => meant m c (i 0) (i 1) ⟨(i 2).val, Nat.lt_trans (i 2).isLt (by decide : 2560 < 4096)⟩

/-- The second result: the other 1536 columns. -/
def rest : S16x4352x1536.Idx → EReal := fun i => meant m c (i 0) (i 1) ⟨2560 + (i 2).val, Nat.add_lt_add_left (i 2).isLt 2560⟩

/-- The sequence of point `t`. -/
abbrev seqOf (t : Fin cfg0.N) : Fin 16 := ⟨t.val / 17, by have ht : t.val < 272 := t.isLt; omega⟩

/-- Row `r` of point `t`'s block among the sequence's rows. -/
abbrev rowOf (t : Fin cfg0.N) (r : Fin 256) : Fin 4352 := ⟨t.val % 17 * 256 + r.val, by omega⟩

theorem context_at (t : Fin cfg0.N) (r : Fin 256) (k : Fin 1024) :
    iblk m c 0 t (ix3 0 r k) = m ((c : Thread nD τ).loc main_arg0) (ix3 (seqOf t) r k) := by
  blk_ext [iblk, V, (idx t).1]

theorem latent_at (t : Fin cfg0.N) (h : ¬ t.val % 17 = 0) (r : Fin 256) (k : Fin 1024) :
    iblk m c 1 t (ix3 0 r k) = m ((c : Thread nD τ).loc main_arg1) (ix3 (seqOf t) ⟨(rowOf t r).val - 256, by omega⟩ k) := by
  blk_ext [iblk, V, (idx t).2.1]

/-- Which row of the table of modulations point `t` reads. -/
theorem mod_at (t : Fin cfg0.N) (s : Fin 17) (hs : s.val = if t.val % 17 = 0 then 16 else t.val / 17) (p : Fin 6) (k : Fin 1024) :
    iblk m c 2 t (ix3 0 p k) = m ((c : Thread nD τ).loc main_arg2) (ix3 s p k) := by
  blk_ext [iblk, V, (idx t).2.2.1]

theorem weight_at (t : Fin cfg0.N) (k : Fin 1024) (q : Fin 4096) :
    iblk m c 3 t (ix2 k q) = m ((c : Thread nD τ).loc main_arg3) (ix2 k q) := by
  blk_ext [iblk, V, (idx t).2.2.2.1]

theorem conv_place (t : Fin cfg0.N) (r : Fin 256) (q : Fin 2560) :
    ((cfg0.win 4).blk t).view.emb (ix3 0 r q) = (ix3 (seqOf t) (rowOf t r) q : S16x4352x2560.Idx) := by
  blk_ext [(idx t).2.2.2.2.1]

theorem rest_place (t : Fin cfg0.N) (r : Fin 256) (q : Fin 1536) :
    ((cfg0.win 5).blk t).view.emb (ix3 0 r q) = (ix3 (seqOf t) (rowOf t r) q : S16x4352x1536.Idx) := by
  blk_ext [(idx t).2.2.2.2.2]

/-- A context step's projected rows are the entries meant. -/
theorem context_entry (t : Fin cfg0.N) (h : t.val % 17 = 0) (r : Fin 256) (q : Fin 4096) :
    Cert.Inproj.projected (fun k => iblk m c 0 t (ix3 0 r k)) (fun k => iblk m c 2 t (ix3 0 1 k)) (fun k => iblk m c 2 t (ix3 0 0 k)) (fun k => iblk m c 3 t (ix2 k q))
      = meant m c (seqOf t) (rowOf t r) q := by
  have hr : rowOf t r = ⟨r.val, by omega⟩ := Fin.ext (by show t.val % 17 * 256 + r.val = r.val; omega)
  have hs : (16 : Fin 17).val = if t.val % 17 = 0 then 16 else t.val / 17 := by rw [if_pos h]; rfl
  rw [hr]
  unfold meant Cert.Inproj.entry
  rw [dif_pos r.isLt]
  unfold Cert.Inproj.contextEntry
  simp only [context_at, mod_at m c t 16 hs, weight_at]

/-- A latent step's projected rows are the entries meant. -/
theorem latent_entry (t : Fin cfg0.N) (h : ¬ t.val % 17 = 0) (r : Fin 256) (q : Fin 4096) :
    Cert.Inproj.projected (fun k => iblk m c 1 t (ix3 0 r k)) (fun k => iblk m c 2 t (ix3 0 1 k)) (fun k => iblk m c 2 t (ix3 0 0 k)) (fun k => iblk m c 3 t (ix2 k q))
      = meant m c (seqOf t) (rowOf t r) q := by
  have hs : (⟨t.val / 17, by have ht : t.val < 272 := t.isLt; omega⟩ : Fin 17).val = if t.val % 17 = 0 then 16 else t.val / 17 := by rw [if_neg h]
  unfold meant Cert.Inproj.entry
  rw [dif_neg (show ¬ t.val % 17 * 256 + r.val < 256 by omega)]
  unfold Cert.Inproj.latentEntry
  simp only [latent_at m c t h, mod_at m c t _ hs, weight_at]

/-- A step reads rows 1 and 0 of its block of the table, -/
theorem scale_read (X : Vec Ideal S1x6x1024 .f32) (k : Fin 1024) :
    View.ld X (Rect.unit ![0, 1, 0] ![1, 1, 1024] inb_S1x6x1024_S1x1x1024_0_1_0) (ix3 0 0 k) = X (ix3 0 1 k) := by
  pointwise

theorem shift_read (X : Vec Ideal S1x6x1024 .f32) (k : Fin 1024) :
    View.ld X (Rect.unit ![0, 0, 0] ![1, 1, 1024] inb_S1x6x1024_S1x1x1024_0_0_0) (ix3 0 0 k) = X (ix3 0 0 k) := by
  pointwise

/-- and the weights' first 2560 columns and the others. -/
theorem conv_read (X : Vec Ideal S1024x4096 .bf16) (k : Fin 1024) (q : Fin 2560) :
    View.ld X (Rect.unit ![0, 0] ![1024, 2560] inb_S1024x4096_S1024x2560_0_0) (ix2 k q) = X (ix2 k ⟨q.val, by omega⟩) := by
  pointwise

theorem rest_read (X : Vec Ideal S1024x4096 .bf16) (k : Fin 1024) (q : Fin 1536) :
    View.ld X (Rect.unit ![0, 2560] ![1024, 1536] inb_S1024x4096_S1024x1536_0_2560) (ix2 k q) = X (ix2 k ⟨2560 + q.val, by omega⟩) := by
  pointwise

theorem projected_congr {z z' sc sc' sh sh' w w' : Fin 1024 → EReal} (hz : ∀ k, z k = z' k) (hc : ∀ k, sc k = sc' k) (hh : ∀ k, sh k = sh' k) (hw : ∀ k, w k = w' k) :
    Cert.Inproj.projected z sc sh w = Cert.Inproj.projected z' sc' sh' w' := by
  rw [funext hz, funext hc, funext hh, funext hw]

theorem conv_block (t : Fin cfg0.N) (y : S1x256x2560.Idx) : (dats m 0 c).flushed 4 t y = conv m c (((cfg0.win 4).blk t).view.emb y) := by
  idx_vars y
  obtain rfl : y0 = 0 := Subsingleton.elim _ _
  rw [conv_place]
  by_cases h0 : t.val % 17 = 0
  · rw [flushed4_A m c t h0 (by omega)]
    frame_out
    refine (Cert.Inproj.pay4_apply _ _ _ _ y1 y2).trans ?_
    exact (projected_congr (fun _ => rfl) (scale_read _) (shift_read _) fun k => conv_read _ k y2).trans (context_entry m c t h0 y1 _)
  · rw [flushed4_B m c t h0 (by omega)]
    frame_out
    refine (Cert.Inproj.pay6_apply _ _ _ _ y1 y2).trans ?_
    exact (projected_congr (fun _ => rfl) (scale_read _) (shift_read _) fun k => conv_read _ k y2).trans (latent_entry m c t h0 y1 _)

theorem rest_block (t : Fin cfg0.N) (y : S1x256x1536.Idx) : (dats m 0 c).flushed 5 t y = rest m c (((cfg0.win 5).blk t).view.emb y) := by
  idx_vars y
  obtain rfl : y0 = 0 := Subsingleton.elim _ _
  rw [rest_place]
  by_cases h0 : t.val % 17 = 0
  · rw [flushed5_A m c t h0 (by omega)]
    frame_out
    refine (Cert.Inproj.pay1_apply _ _ _ _ y1 y2).trans ?_
    exact (projected_congr (fun _ => rfl) (scale_read _) (shift_read _) fun k => rest_read _ k y2).trans (context_entry m c t h0 y1 _)
  · rw [flushed5_B m c t h0 (by omega)]
    frame_out
    refine (Cert.Inproj.pay2_apply _ _ _ _ y1 y2).trans ?_
    exact (projected_congr (fun _ => rfl) (scale_read _) (shift_read _) fun k => rest_read _ k y2).trans (latent_entry m c t h0 y1 _)

/-- The two result arrays after the run: the entries meant, everywhere. -/
theorem conv_final : (dats m 0 c).arrAt 4 cfg0.N = conv m c := by
  refine (dats m 0 c).arrAt_eq_of_covers 4 (conv m c) (by decide +kernel) fun t hf y => ?_
  exact conv_block m c t y

theorem rest_final : (dats m 0 c).arrAt 5 cfg0.N = rest m c := by
  refine (dats m 0 c).arrAt_eq_of_covers 5 (rest m c) (by decide +kernel) fun t hf y => ?_
  exact rest_block m c t y

end Cert.Kernel2Ideal.Inproj

end
-- ==== Proof.Inproj.Claims.lean ====
/-
  The claims about the input projection.
-/
module

public import proofs.«01_k».proof.Defs
public import proofs.«01_k».proof.Proof.Gen.Kernel2.Frame
public import proofs.«01_k».proof.Proof.Inproj.Value
public import Idealize.ShloMosaic.Lib.Quiescent

@[expose] public section

set_option maxRecDepth 16384

noncomputable section

namespace Cert.Inproj

open Idealize.ShloMosaic Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

/-- The reference runs and leaves its arguments; it has no semaphore. -/
theorem frame_reference : Cert.quiescent_Reference2Ideal := fun m ρ _ =>
  (θ_run _ _ _).mono (fun r h => ⟨fun c => (h c).2.2, sem_eq_zero_of_no_sems (by decide) r.2⟩) (Cert.Reference2Ideal.Value.run (F := Ideal) m ρ)

/-- The kernel's two result arrays and the reference's are the same functions of the arguments. -/
theorem values : Cert.algebraic_Kernel2Ideal_Reference2Ideal := by
  intro m ρ m' ρ' _ hA
  refine ⟨fun c => Cert.Kernel2Ideal.Inproj.conv m c, fun c => Cert.Kernel2Ideal.Inproj.rest m c, ?_, ?_⟩
  · refine (θ_run _ _ _).mono (fun r h c => ?_) (Cert.Kernel2Ideal.Value.run_blocks (F := Ideal) m ρ)
    exact ⟨(h c).1.trans (Cert.Kernel2Ideal.Inproj.conv_final m c), (h c).2.1.trans (Cert.Kernel2Ideal.Inproj.rest_final m c), (h c).2.2⟩
  · refine (θ_run _ _ _).mono (fun r h c => ?_) (Cert.Reference2Ideal.Value.run (F := Ideal) m' ρ')
    obtain ⟨a0, a1, a2, a3⟩ := hA c
    have e (b : Fin 16) (r : Fin 4352) (q : Fin 4096) : meant m' c b r q = Cert.Kernel2Ideal.Inproj.meant m c b r q := by
      show entry (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3)) b r q = _
      rw [a0, a1, a2, a3]
    refine ⟨(h c).1.trans (funext fun i => ?_), (h c).2.1.trans (funext fun i => ?_), (h c).2.2⟩
    · idx_vars i
      exact (conv_at m' c i0 i1 i2).trans (e _ _ _)
    · idx_vars i
      exact (rest_at m' c i0 i1 i2).trans (e _ _ _)

end Cert.Inproj

end
-- ==== Proof.Outproj.Heads.lean ====
/-
  A head's mean and variance over its 64 columns, and the kernel's way to them: each value split in two, the two parts multiplied by a matrix of ones and zeros.
-/
module

public import Idealize.ShloMosaic.PureOps.Ideal
public import Idealize.ShloMosaic.Lib.Pointwise

@[expose] public section

set_option maxRecDepth 16384

noncomputable section

namespace Cert.Outproj

open Idealize.ShloMosaic

/-! ## Real numbers among the extended ones -/

/-- `x` is a real number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem IsReal.sum {ι : Type} (s : Finset ι) {f : ι → EReal} (h : ∀ i, IsReal (f i)) : IsReal (∑ i ∈ s, f i) :=
  Finset.sum_induction f IsReal (fun _ _ => IsReal.add) ⟨0, EReal.coe_zero.symm⟩ fun i _ => h i

/-- A real number less itself is zero. -/
theorem IsReal.sub_self {x : EReal} : IsReal x → x - x = 0
  | ⟨a, ha⟩ => by rw [ha, ← EReal.coe_sub, _root_.sub_self, EReal.coe_zero]

/-- What lies below infinity in magnitude is a real number. -/
theorem isReal_of_abs_lt {x : EReal} (h : max x (-x) < ⊤) : IsReal x := by
  induction x with
  | bot => exact absurd h (by simp)
  | top => exact absurd h (by simp)
  | coe a => exact ⟨a, rfl⟩

/-- The literals 64 and 1/64. -/
theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

/-- To divide by 64 is to multiply by 1/64. -/
theorem div_64 (x : EReal) : Ideal.div x (Ideal.ofBits .f32 0x42800000#32) = x * Ideal.ofBits .f32 0x3C800000#32 := by
  rw [ofBits_64, ofBits_64th, Ideal.div_coe (by norm_num : (64 : ℝ) ≠ 0)]

/-! ## Heads -/

/-- The head of column `q`. -/
def head (q : Fin 512) : Fin 8 := ⟨q.val / 64, by omega⟩

/-- Column `k` of head `h`. -/
def col (h : Fin 8) (k : Fin 64) : Fin 512 := ⟨h.val * 64 + k.val, by omega⟩

theorem head_col (h : Fin 8) (k : Fin 64) : head (col h k) = h :=
  Fin.ext (by show (h.val * 64 + k.val) / 64 = h.val; omega)

/-- A head's mean. -/
def headMean (z : Fin 512 → EReal) (h : Fin 8) : EReal :=
  Ideal.div (∑ k, z (col h k)) (Ideal.ofBits .f32 0x42800000#32)

/-- A value less its head's mean. -/
def centred (z : Fin 512 → EReal) (q : Fin 512) : EReal := z q - headMean z (head q)

/-- A head's variance. -/
def headVar (z : Fin 512 → EReal) (h : Fin 8) : EReal := headMean (fun q => centred z q * centred z q) h

theorem isReal_headMean {z : Fin 512 → EReal} (hz : ∀ q, IsReal (z q)) (h : Fin 8) : IsReal (headMean z h) := by
  unfold headMean
  rw [div_64, ofBits_64th]
  exact (IsReal.sum _ fun k => hz _).mul ⟨_, rfl⟩

theorem isReal_centred {z : Fin 512 → EReal} (hz : ∀ q, IsReal (z q)) (q : Fin 512) : IsReal (centred z q) :=
  (hz q).sub (isReal_headMean hz _)

theorem isReal_square {z : Fin 512 → EReal} (hz : ∀ q, IsReal (z q)) (q : Fin 512) : IsReal (z q * z q) := (hz q).mul (hz q)

/-- Every column is in the first half or in the second. -/
theorem halves {P : Fin 512 → Prop} (lo : ∀ p : Fin 256, P ⟨p.val, by omega⟩) (hi : ∀ p : Fin 256, P ⟨256 + p.val, by omega⟩) (q : Fin 512) : P q := by
  by_cases h : q.val < 256
  · exact lo ⟨q.val, h⟩
  · have e := hi ⟨q.val - 256, by omega⟩
    have hq : (⟨256 + (q.val - 256), by omega⟩ : Fin 512) = q := Fin.ext (by show 256 + (q.val - 256) = q.val; omega)
    exact hq ▸ e

/-! ## The kernel's sums -/

section Sums

variable (bd : (⟨2, ![512, 256]⟩ : Shape).Idx → EReal)

/-- The matrix of the heads: in its upper half, one where row and column are of one head, zero elsewhere. -/
def OfHeads : Prop :=
  ∀ k q : Fin 256, bd (ix2 ⟨k.val, by omega⟩ q) = if k.val / 64 = q.val / 64 then 1 else 0

variable {bd}

/-- 256 columns times the matrix: each column's head's sum, the parts that are zero adding nothing. -/
theorem sum_heads (hbd : OfHeads bd) {u : Fin 256 → EReal} (hu : ∀ x, IsReal (u x)) (q : Fin 256) :
    ∑ x : Fin 256, u x * bd (ix2 ⟨x.val, by omega⟩ q) + ∑ x : Fin 256, (u x - u x) * bd (ix2 ⟨256 + x.val, by omega⟩ q)
      = ∑ k : Fin 64, u ⟨q.val / 64 * 64 + k.val, by omega⟩ := by
  have h2 : ∑ x : Fin 256, (u x - u x) * bd (ix2 ⟨256 + x.val, by omega⟩ q) = 0 :=
    Finset.sum_eq_zero fun x _ => by rw [(hu x).sub_self, zero_mul]
  rw [h2, add_zero]
  have h1 : ∑ x : Fin 256, u x * bd (ix2 ⟨x.val, by omega⟩ q) = ∑ x : Fin 256, if x.val / 64 = q.val / 64 then u x else 0 :=
    Finset.sum_congr rfl fun x _ => by
      rw [hbd]
      split <;> simp
  rw [h1, ← Finset.sum_filter]
  refine Finset.sum_nbij' (fun x => ⟨x.val % 64, by omega⟩) (fun k => ⟨q.val / 64 * 64 + k.val, by omega⟩) ?_ ?_ ?_ ?_ ?_
  · intro x _; exact Finset.mem_univ _
  · intro k _
    refine Finset.mem_filter.2 ⟨Finset.mem_univ _, ?_⟩
    show (q.val / 64 * 64 + k.val) / 64 = q.val / 64
    omega
  · intro x hx
    have e := (Finset.mem_filter.1 hx).2
    refine Fin.ext ?_
    show q.val / 64 * 64 + x.val % 64 = x.val
    omega
  · intro k _
    refine Fin.ext ?_
    show (q.val / 64 * 64 + k.val) % 64 = k.val
    omega
  · intro x hx
    have e := (Finset.mem_filter.1 hx).2
    refine congrArg u (Fin.ext ?_)
    show x.val = q.val / 64 * 64 + x.val % 64
    omega

/-- The first 256 columns' means, -/
theorem mean_low (hbd : OfHeads bd) {z : Fin 512 → EReal} (hz : ∀ x, IsReal (z x)) (q : Fin 256) :
    (∑ x : Fin 256, z ⟨x.val, by omega⟩ * bd (ix2 ⟨x.val, by omega⟩ q)
      + ∑ x : Fin 256, (z ⟨x.val, by omega⟩ - z ⟨x.val, by omega⟩) * bd (ix2 ⟨256 + x.val, by omega⟩ q)) * Ideal.ofBits .f32 0x3C800000#32
      = headMean z (head ⟨q.val, by omega⟩) := by
  unfold headMean
  rw [div_64, sum_heads hbd (u := fun x => z ⟨x.val, by omega⟩) (fun x => hz _) q]
  rfl

/-- and the others'. -/
theorem mean_high (hbd : OfHeads bd) {z : Fin 512 → EReal} (hz : ∀ x, IsReal (z x)) (q : Fin 256) :
    (∑ x : Fin 256, z ⟨256 + x.val, by omega⟩ * bd (ix2 ⟨x.val, by omega⟩ q)
      + ∑ x : Fin 256, (z ⟨256 + x.val, by omega⟩ - z ⟨256 + x.val, by omega⟩) * bd (ix2 ⟨256 + x.val, by omega⟩ q)) * Ideal.ofBits .f32 0x3C800000#32
      = headMean z (head ⟨256 + q.val, by omega⟩) := by
  unfold headMean
  rw [div_64, sum_heads hbd (u := fun x => z ⟨256 + x.val, by omega⟩) (fun x => hz _) q]
  refine congrArg (· * _) (Finset.sum_congr rfl fun k _ => congrArg z (Fin.ext ?_))
  show 256 + (q.val / 64 * 64 + k.val) = (256 + q.val) / 64 * 64 + k.val
  omega

end Sums

end Cert.Outproj

end
-- ==== Proof.Outproj.Reads.lean ====
/-
  What the output projection's steps read: the windows' blocks, and the parts of them a tile loads, of the arguments.
-/
module

public import proofs.«01_k».proof.Proof.Gen.Kernel3Ideal.Value
public import proofs.«01_k».proof.Proof.Outproj.Heads
public import Idealize.ShloMosaic.Lib.Pipeline.ValueKit
public import Idealize.ShloMosaic.Lib.Pointwise

@[expose] public section

set_option maxRecDepth 16384

noncomputable section

namespace Cert.Kernel3Ideal.Outproj

open Cert.Kernel3Ideal Cert.Kernel3Ideal.Gen Cert.Kernel3Ideal.Value
open Idealize.ShloMosaic
open Idealize.ShloMosaic.TcCoe

variable (m : (ℓ : Loc nD τ sig) → Buf (Elt Ideal) ℓ) (c : Dev nD)

/-- The windows' block indices at point `t = 8 i + j`: sequence `i`, its block `j` of latent rows; the gates' blocks are of all rows, half as long. -/
theorem idx : ∀ t : Fin cfg0.N, win0_0.index t = ![t.val / 8, t.val % 8, 0] ∧ win0_1.index t = ![t.val / 8, t.val % 8, 0]
    ∧ win0_2.index t = ![t.val / 8, 2 * (t.val % 8) + 1, 1] ∧ win0_3.index t = ![t.val / 8, 2 * (t.val % 8) + 2, 1]
    ∧ win0_4.index t = ![t.val / 8, t.val % 8, 0] ∧ win0_5.index t = ![t.val / 8, t.val % 8, 0]
    ∧ win0_6.index t = ![t.val / 8, 2 * (t.val % 8) + 1, 0] ∧ win0_7.index t = ![t.val / 8, 2 * (t.val % 8) + 2, 0]
    ∧ win0_8.index t = ![t.val / 8, 2 * (t.val % 8) + 1, 0] ∧ win0_9.index t = ![t.val / 8, 2 * (t.val % 8) + 2, 0]
    ∧ win0_10.index t = ![t.val / 8, t.val % 8, 0] ∧ win0_11.index t = ![t.val / 8, 0, 0]
    ∧ win0_12.index t = ![0, 0] ∧ win0_13.index t = ![0, 0] ∧ win0_14.index t = ![0, 0] ∧ win0_17.index t = ![0, 0]
    ∧ win0_18.index t = ![t.val / 8, t.val % 8, 0] ∧ win0_19.index t = ![t.val / 8, t.val % 8, 0] := by
  decide +kernel

/-- The sequence of point `t`. -/
abbrev seqOf (t : Fin cfg0.N) : Fin 16 := ⟨t.val / 8, by have ht : t.val < 128 := t.isLt; omega⟩

/-- Row `r` of point `t`'s block among the sequence's latent rows. -/
abbrev rowOf (t : Fin cfg0.N) (r : Fin 512) : Fin 4096 := ⟨t.val % 8 * 512 + r.val, by omega⟩

/-- A tile's row among its block's. -/
abbrev low (r : Fin 256) : Fin 512 := ⟨r.val, by omega⟩
abbrev high (r : Fin 256) : Fin 512 := ⟨256 + r.val, by omega⟩

/-! ## The matrix of the heads -/

theorem quotient : ∀ k : Fin 256, IntOp.divsi ArithUnit.host (BitVec.ofNat 32 k.val) 64#32 = BitVec.ofNat 32 (k.val / 64) := by
  decide +kernel

theorem equal : ∀ a b : Fin 4, IntOp.cmpi .eq (BitVec.ofNat 32 a.val) (BitVec.ofNat 32 b.val) = if a.val = b.val then 1#1 else 0#1 := by
  decide +kernel

theorem heads_entry (k q : Fin 256) : V m c main_v9 (ix2 ⟨k.val, by omega⟩ q) = ((if k.val / 64 = q.val / 64 then 1 else 0 : EReal) : EReal) := by
  entry_read
  pointwise
  rw [quotient, quotient, equal ⟨k.val / 64, by omega⟩ ⟨q.val / 64, by omega⟩]
  by_cases h : k.val / 64 = q.val / 64
  · rw [if_pos h, if_pos h]
    show (((1#1 : BitVec 1).toNat : ℝ) : EReal) = 1
    simp
  · rw [if_neg h, if_neg h]
    show (((0#1 : BitVec 1).toNat : ℝ) : EReal) = 0
    simp

theorem heads_block (t : Fin cfg0.N) (k : Fin 512) (q : Fin 256) : iblk m c 17 t (ix2 k q) = V m c main_v9 (ix2 k q) := by
  blk_ext [iblk, (idx t).2.2.2.2.2.2.2.2.2.2.2.2.2.2.2.1]

theorem heads_at (t : Fin cfg0.N) : Cert.Outproj.OfHeads (iblk m c 17 t) := fun k q =>
  (heads_block m c t _ q).trans (heads_entry m c k q)

/-! ## The blocks -/

theorem hf_at (t : Fin cfg0.N) (r : Fin 512) (k : Fin 512) : iblk m c 0 t (ix3 0 r k) = m ((c : Thread nD τ).loc main_arg0) (ix3 (seqOf t) (rowOf t r) k) := by
  blk_ext [iblk, V, (idx t).1]

theorem hb_at (t : Fin cfg0.N) (r : Fin 512) (k : Fin 512) : iblk m c 1 t (ix3 0 r k) = m ((c : Thread nD τ).loc main_arg1) (ix3 (seqOf t) (rowOf t r) k) := by
  blk_ext [iblk, V, (idx t).2.1]

theorem yf_at (t : Fin cfg0.N) (r : Fin 512) (k : Fin 512) : iblk m c 4 t (ix3 0 r k) = m ((c : Thread nD τ).loc main_arg3) (ix3 (seqOf t) (rowOf t r) k) := by
  blk_ext [iblk, V, (idx t).2.2.2.2.1]

theorem yb_at (t : Fin cfg0.N) (r : Fin 512) (k : Fin 512) : iblk m c 5 t (ix3 0 r k) = m ((c : Thread nD τ).loc main_arg4) (ix3 (seqOf t) (rowOf t r) k) := by
  blk_ext [iblk, V, (idx t).2.2.2.2.2.1]

theorem x_at (t : Fin cfg0.N) (r : Fin 512) (k : Fin 1024) : iblk m c 10 t (ix3 0 r k) = m ((c : Thread nD τ).loc main_arg7) (ix3 (seqOf t) (rowOf t r) k) := by
  blk_ext [iblk, V, (idx t).2.2.2.2.2.2.2.2.2.2.1]

theorem gate_low (t : Fin cfg0.N) (r : Fin 256) (k : Fin 512) :
    iblk m c 2 t (ix3 0 r k) = m ((c : Thread nD τ).loc main_arg2) (ix3 (seqOf t) ⟨256 + (rowOf t (low r)).val, by omega⟩ ⟨512 + k.val, by omega⟩) := by
  blk_ext [iblk, V, (idx t).2.2.1]

theorem gate_high (t : Fin cfg0.N) (r : Fin 256) (k : Fin 512) :
    iblk m c 3 t (ix3 0 r k) = m ((c : Thread nD τ).loc main_arg2) (ix3 (seqOf t) ⟨256 + (rowOf t (high r)).val, by omega⟩ ⟨512 + k.val, by omega⟩) := by
  blk_ext [iblk, V, (idx t).2.2.2.1]

theorem out_low (t : Fin cfg0.N) (r : Fin 256) (k : Fin 512) :
    iblk m c 6 t (ix3 0 r k) = m ((c : Thread nD τ).loc main_arg5) (ix3 (seqOf t) ⟨256 + (rowOf t (low r)).val, by omega⟩ k) := by
  blk_ext [iblk, V, (idx t).2.2.2.2.2.2.1]

theorem out_high (t : Fin cfg0.N) (r : Fin 256) (k : Fin 512) :
    iblk m c 7 t (ix3 0 r k) = m ((c : Thread nD τ).loc main_arg5) (ix3 (seqOf t) ⟨256 + (rowOf t (high r)).val, by omega⟩ k) := by
  blk_ext [iblk, V, (idx t).2.2.2.2.2.2.2.1]

theorem bonus_low (t : Fin cfg0.N) (r : Fin 256) (k : Fin 512) :
    iblk m c 8 t (ix3 0 r k) = m ((c : Thread nD τ).loc main_arg6) (ix3 (seqOf t) ⟨256 + (rowOf t (low r)).val, by omega⟩ k) := by
  blk_ext [iblk, V, (idx t).2.2.2.2.2.2.2.2.1]

theorem bonus_high (t : Fin cfg0.N) (r : Fin 256) (k : Fin 512) :
    iblk m c 9 t (ix3 0 r k) = m ((c : Thread nD τ).loc main_arg6) (ix3 (seqOf t) ⟨256 + (rowOf t (high r)).val, by omega⟩ k) := by
  blk_ext [iblk, V, (idx t).2.2.2.2.2.2.2.2.2.1]

theorem mod_at (t : Fin cfg0.N) (s : Fin 6) (k : Fin 1024) :
    iblk m c 11 t (ix3 0 s k) = m ((c : Thread nD τ).loc main_arg8) (ix3 ⟨(seqOf t).val, by omega⟩ s k) := by
  blk_ext [iblk, V, (idx t).2.2.2.2.2.2.2.2.2.2.2.1]

theorem weight_at (t : Fin cfg0.N) (k p : Fin 1024) : iblk m c 12 t (ix2 k p) = m ((c : Thread nD τ).loc main_arg9) (ix2 k p) := by
  blk_ext [iblk, V, (idx t).2.2.2.2.2.2.2.2.2.2.2.2.1]

theorem head_at (t : Fin cfg0.N) (s : Fin 8) (k : Fin 512) : iblk m c 13 t (ix2 s k) = m ((c : Thread nD τ).loc main_arg10) (ix2 s k) := by
  blk_ext [iblk, V, (idx t).2.2.2.2.2.2.2.2.2.2.2.2.2.1]

theorem norm_at (t : Fin cfg0.N) (s : Fin 8) (k : Fin 1024) : iblk m c 14 t (ix2 s k) = m ((c : Thread nD τ).loc main_arg11) (ix2 s k) := by
  blk_ext [iblk, V, (idx t).2.2.2.2.2.2.2.2.2.2.2.2.2.2.1]

theorem x1_place (t : Fin cfg0.N) (r : Fin 512) (q : Fin 1024) :
    ((cfg0.win 18).blk t).view.emb (ix3 0 r q) = (ix3 (seqOf t) (rowOf t r) q : S16x4096x1024.Idx) := by
  blk_ext [(idx t).2.2.2.2.2.2.2.2.2.2.2.2.2.2.2.2.1]

theorem tok_place (t : Fin cfg0.N) (r : Fin 512) (q : Fin 1024) :
    ((cfg0.win 19).blk t).view.emb (ix3 0 r q) = (ix3 (seqOf t) (rowOf t r) q : S16x4096x1024.Idx) := by
  blk_ext [(idx t).2.2.2.2.2.2.2.2.2.2.2.2.2.2.2.2.2]

/-! ## The parts loaded -/

theorem ld_low (X : Vec Ideal S1x512x512 .f32) (r : Fin 256) (k : Fin 512) :
    View.ld X (Rect.unit ![0, 0, 0] ![1, 256, 512] inb_S1x512x512_S1x256x512_0_0_0) (ix3 0 r k) = X (ix3 0 (low r) k) := by
  pointwise

theorem ld_high (X : Vec Ideal S1x512x512 .f32) (r : Fin 256) (k : Fin 512) :
    View.ld X (Rect.unit ![0, 256, 0] ![1, 256, 512] inb_S1x512x512_S1x256x512_0_256_0) (ix3 0 r k) = X (ix3 0 (high r) k) := by
  pointwise

theorem ldx_low (X : Vec Ideal S1x512x1024 .f32) (r : Fin 256) (k : Fin 1024) :
    View.ld X (Rect.unit ![0, 0, 0] ![1, 256, 1024] inb_S1x512x1024_S1x256x1024_0_0_0) (ix3 0 r k) = X (ix3 0 (low r) k) := by
  pointwise

theorem ldx_high (X : Vec Ideal S1x512x1024 .f32) (r : Fin 256) (k : Fin 1024) :
    View.ld X (Rect.unit ![0, 256, 0] ![1, 256, 1024] inb_S1x512x1024_S1x256x1024_0_256_0) (ix3 0 r k) = X (ix3 0 (high r) k) := by
  pointwise

theorem ld_wm (X : Vec Ideal S8x512 .f32) (k : Fin 512) :
    View.ld X (Rect.unit ![0, 0] ![1, 512] inb_S8x512_S1x512_0_0) (ix2 0 k) = X (ix2 0 k) := by
  pointwise

theorem ld_wr (X : Vec Ideal S8x512 .f32) (k : Fin 512) :
    View.ld X (Rect.unit ![1, 0] ![1, 512] inb_S8x512_S1x512_1_0) (ix2 0 k) = X (ix2 1 k) := by
  pointwise

theorem ld_br (X : Vec Ideal S8x512 .f32) (k : Fin 512) :
    View.ld X (Rect.unit ![2, 0] ![1, 512] inb_S8x512_S1x512_2_0) (ix2 0 k) = X (ix2 2 k) := by
  pointwise

theorem ld_w0 (X : Vec Ideal S1024x1024 .bf16) (k : Fin 512) (p : Fin 1024) :
    View.ld X (Rect.unit ![0, 0] ![512, 1024] inb_S1024x1024_S512x1024_0_0) (ix2 k p) = X (ix2 ⟨k.val, by omega⟩ p) := by
  pointwise

theorem ld_w1 (X : Vec Ideal S1024x1024 .bf16) (k : Fin 512) (p : Fin 1024) :
    View.ld X (Rect.unit ![512, 0] ![512, 1024] inb_S1024x1024_S512x1024_512_0) (ix2 k p) = X (ix2 ⟨512 + k.val, by omega⟩ p) := by
  pointwise

theorem ld_g1 (X : Vec Ideal S1x6x1024 .f32) (k : Fin 1024) :
    View.ld X (Rect.unit ![0, 2, 0] ![1, 1, 1024] inb_S1x6x1024_S1x1x1024_0_2_0) (ix3 0 0 k) = X (ix3 0 2 k) := by
  pointwise

theorem ld_sh (X : Vec Ideal S1x6x1024 .f32) (k : Fin 1024) :
    View.ld X (Rect.unit ![0, 3, 0] ![1, 1, 1024] inb_S1x6x1024_S1x1x1024_0_3_0) (ix3 0 0 k) = X (ix3 0 3 k) := by
  pointwise

theorem ld_sc (X : Vec Ideal S1x6x1024 .f32) (k : Fin 1024) :
    View.ld X (Rect.unit ![0, 4, 0] ![1, 1, 1024] inb_S1x6x1024_S1x1x1024_0_4_0) (ix3 0 0 k) = X (ix3 0 4 k) := by
  pointwise

theorem ld_lg (X : Vec Ideal S8x1024 .f32) (k : Fin 1024) :
    View.ld X (Rect.unit ![0, 0] ![1, 1024] inb_S8x1024_S1x1024_0_0) (ix2 0 k) = X (ix2 0 k) := by
  pointwise

theorem ld_lb (X : Vec Ideal S8x1024 .f32) (k : Fin 1024) :
    View.ld X (Rect.unit ![1, 0] ![1, 1024] inb_S8x1024_S1x1024_1_0) (ix2 0 k) = X (ix2 1 k) := by
  pointwise

end Cert.Kernel3Ideal.Outproj

end
-- ==== Proof.Outproj.Math.lean ====
/-
  The mathematics of the output projection on one token's row, and the reading of the kernel's payloads by it.
-/
module

public import proofs.«01_k».proof.Proof.Gen.Kernel3Ideal.Skeleton
public import proofs.«01_k».proof.Proof.Inproj.Math
public import proofs.«01_k».proof.Proof.Outproj.Heads
public import Idealize.ShloMosaic.Lib.Pointwise

@[expose] public section

set_option maxRecDepth 16384

noncomputable section

namespace Cert.Outproj

open Idealize.ShloMosaic
open Cert.Inproj (mean variance modulated)

/-- One entry of a row's layer norm. -/
def normed (z : Fin 1024 → EReal) (p : Fin 1024) : EReal :=
  (z p - mean z) * Ideal.rsqrt (variance z + Ideal.ofBits .f32 0x358637BD#32)

/-- The gated half: the heads' layer norm by its gain, times the logistic function of the gate. -/
def gated (z gate w : Fin 512 → EReal) (q : Fin 512) : EReal :=
  Ideal.logistic (gate q) * (centred z q * Ideal.rsqrt (headVar z (head q) + Ideal.ofBits .f32 0x358637BD#32) * w q)

/-- The other half: the heads' group norm by its gain and bias, with the bonus added, times the output gate. -/
def grouped (z w b bo g : Fin 512 → EReal) (q : Fin 512) : EReal :=
  (centred z q * Ideal.rsqrt (headVar z (head q) + Ideal.ofBits .f32 0x3A27C5AC#32) * w q + b q + bo q) * g q

/-- The two halves' products with the two halves of the output matrix, added. -/
def products (f g : Fin 512 → EReal) (w0 w1 : Fin 512 → Fin 1024 → EReal) (p : Fin 1024) : EReal :=
  ∑ k : Fin 512, f k * w0 k p + ∑ k : Fin 512, g k * w1 k p

/-- The scaled residual and the gated products. -/
def added (e x g1 : Fin 1024 → EReal) (p : Fin 1024) : EReal := Ideal.ofBits .f32 0x3F9837F0#32 * x p + g1 p * e p

/-- The first layer norm by its gain and bias. -/
def affine (z lg lb : Fin 1024 → EReal) (p : Fin 1024) : EReal := normed z p * lg p + lb p

/-- One token's row of the first result. -/
def x1Row (zm gate wm zr wr br bo gg : Fin 512 → EReal) (w0 w1 : Fin 512 → Fin 1024 → EReal) (x g1 lg lb : Fin 1024 → EReal) : Fin 1024 → EReal :=
  affine (added (products (gated zm gate wm) (grouped zr wr br bo gg) w0 w1) x g1) lg lb

/-! ## The kernel's payloads at an index -/

section Kernel

open Cert.Kernel3Ideal Cert.Kernel3Ideal.Gen

variable {bd : Vec Ideal S512x256 .bf16} (hbd : OfHeads bd)
variable {a b : Vec Ideal S1x256x512 .f32} {z : Fin 512 → EReal} {r : Fin 256}

/-- Row `r` of two blocks' sum is `z`, and real. -/
def SumRow (a b : Vec Ideal S1x256x512 .f32) (r : Fin 256) (z : Fin 512 → EReal) : Prop :=
  (∀ k, a (ix3 0 r k) + b (ix3 0 r k) = z k) ∧ ∀ k, IsReal (z k)

/-- Row `r` of an array is `f`. -/
def Row {n : ℕ} (v : (⟨2, ![256, n]⟩ : Shape).Idx → EReal) (r : Fin 256) (f : Fin n → EReal) : Prop :=
  ∀ q, v (ix2 r q) = f q

include hbd

/-! ### The first tile -/

theorem pay7_row (h : SumRow a b r z) : Row (k0_pay7 bd a b) r fun q => headMean z (head q) := by
  refine halves (fun p => ?_) fun p => ?_
  · pointwise [k0_pay7, k0_pay5, k0_pay4]
    simp only [h.1]
    exact mean_low hbd h.2 p
  · pointwise [k0_pay7, k0_pay5, k0_pay4]
    simp only [h.1]
    exact mean_high hbd h.2 p

theorem pay10_row (h : SumRow a b r z) : Row (k0_pay10 (k0_pay4 bd) (k0_pay6 a b) (k0_pay8 a b) (k0_pay9 a b)) r fun q => headMean z (head q) := by
  refine halves (fun p => ?_) fun p => ?_
  · pointwise [k0_pay10, k0_pay9, k0_pay8, k0_pay6, k0_pay4]
    simp only [h.1]
    exact mean_low hbd h.2 p
  · pointwise [k0_pay10, k0_pay9, k0_pay8, k0_pay6, k0_pay4]
    simp only [h.1]
    exact mean_high hbd h.2 p

theorem pay15_row (h : SumRow a b r z) : Row (k0_pay15 (k0_pay5 a b) (k0_pay7 bd a b)) r (centred z) := by
  intro q
  pointwise [k0_pay15, k0_pay5]
  rw [h.1, pay7_row hbd h q]
  rfl

theorem pay16_row (h : SumRow a b r z) :
    Row (k0_pay16 (k0_pay6 a b) (k0_pay10 (k0_pay4 bd) (k0_pay6 a b) (k0_pay8 a b) (k0_pay9 a b))) r (centred z) := by
  intro q
  pointwise [k0_pay16, k0_pay6]
  rw [h.1]
  exact congrArg (z q - ·) (pay10_row hbd h q)

/-- The square's means, from the centred rows. -/
theorem pay17_row {u v : FVec Ideal S256x512 .f32} (hz : ∀ q, IsReal (z q)) (h : Row (k0_pay15 u v) r (centred z)) :
    Row (k0_pay17 (k0_pay4 bd) u v) r fun q => headVar z (head q) := by
  refine halves (fun p => ?_) fun p => ?_
  · pointwise [k0_pay17, k0_pay4]
    simp only [h _]
    exact mean_low hbd (isReal_square (isReal_centred hz)) p
  · pointwise [k0_pay17, k0_pay4]
    simp only [h _]
    exact mean_high hbd (isReal_square (isReal_centred hz)) p

theorem pay18_row {u v : FVec Ideal S256x512 .f32} (hz : ∀ q, IsReal (z q)) (h : Row (k0_pay16 u v) r (centred z)) :
    Row (k0_pay18 (k0_pay4 bd) u v) r fun q => headVar z (head q) := by
  refine halves (fun p => ?_) fun p => ?_
  · pointwise [k0_pay18, k0_pay4]
    simp only [h _]
    exact mean_low hbd (isReal_square (isReal_centred hz)) p
  · pointwise [k0_pay18, k0_pay4]
    simp only [h _]
    exact mean_high hbd (isReal_square (isReal_centred hz)) p

/-! ### The second tile -/

theorem pay14_row (h : SumRow a b r z) : Row (k0_pay14 bd a b) r fun q => headMean z (head q) := by
  refine halves (fun p => ?_) fun p => ?_
  · pointwise [k0_pay14, k0_pay12, k0_pay11]
    simp only [h.1]
    exact mean_low hbd h.2 p
  · pointwise [k0_pay14, k0_pay12, k0_pay11]
    simp only [h.1]
    exact mean_high hbd h.2 p

theorem pay19_row (h : SumRow a b r z) : Row (k0_pay19 (k0_pay12 a b) (k0_pay14 bd a b)) r (centred z) := by
  intro q
  pointwise [k0_pay19, k0_pay12]
  rw [h.1, pay14_row hbd h q]
  rfl

theorem pay20_row (h : SumRow a b r z) : Row (k0_pay20 (k0_pay11 bd) (k0_pay13 a b)) r (centred z) := by
  refine halves (fun p => ?_) fun p => ?_
  · pointwise [k0_pay20, k0_pay13, k0_pay11]
    simp only [h.1]
    exact congrArg (z _ - ·) (mean_low hbd h.2 p)
  · pointwise [k0_pay20, k0_pay13, k0_pay11]
    simp only [h.1]
    exact congrArg (z _ - ·) (mean_high hbd h.2 p)

theorem pay21_row {u : FVec Ideal S256x512 .f32} (hz : ∀ q, IsReal (z q)) (h : Row u r (centred z)) :
    Row (k0_pay21 (k0_pay11 bd) u) r fun q => headVar z (head q) := by
  refine halves (fun p => ?_) fun p => ?_
  · pointwise [k0_pay21, k0_pay11]
    simp only [h _]
    exact mean_low hbd (isReal_square (isReal_centred hz)) p
  · pointwise [k0_pay21, k0_pay11]
    simp only [h _]
    exact mean_high hbd (isReal_square (isReal_centred hz)) p

theorem pay22_row {u : FVec Ideal S256x512 .f32} (hz : ∀ q, IsReal (z q)) (h : Row u r (centred z)) :
    Row (k0_pay22 (k0_pay11 bd) u) r fun q => headVar z (head q) := by
  refine halves (fun p => ?_) fun p => ?_
  · pointwise [k0_pay22, k0_pay11]
    simp only [h _]
    exact mean_low hbd (isReal_square (isReal_centred hz)) p
  · pointwise [k0_pay22, k0_pay11]
    simp only [h _]
    exact mean_high hbd (isReal_square (isReal_centred hz)) p

omit hbd

/-! ### The halves, the projection and the layer norms of either tile -/

section Rows

variable {u v : FVec Ideal S256x512 .f32} {gate : Vec Ideal S1x256x512 .f32} {w : Vec Ideal S1x512 .f32}

theorem pay23_row (hu : Row u r (centred z)) (hv : Row v r fun q => headVar z (head q)) :
    Row (k0_pay23 u v gate w) r (gated z (fun q => gate (ix3 0 r q)) fun q => w (ix2 0 q)) := by
  intro q
  pointwise [k0_pay23]
  rw [hu, hv]
  rfl

theorem pay26_row (hu : Row u r (centred z)) (hv : Row v r fun q => headVar z (head q)) :
    Row (k0_pay26 u v gate w) r (gated z (fun q => gate (ix3 0 r q)) fun q => w (ix2 0 q)) := by
  intro q
  pointwise [k0_pay26]
  rw [hu, hv]
  rfl

variable {y : FVec Ideal S256x512 .f32} {zr : Fin 512 → EReal} {f : Fin 512 → EReal} {wr br : Vec Ideal S1x512 .f32} {bo gg : Vec Ideal S1x256x512 .f32}
  {w0 w1 : Vec Ideal S512x1024 .bf16}

theorem pay25_row (hy : Row y r f) (hu : Row u r (centred zr)) (hv : Row v r fun q => headVar zr (head q)) :
    Row (k0_pay25 y (k0_pay24 u v) wr br bo gg w0 w1) r
      (products f (grouped zr (fun q => wr (ix2 0 q)) (fun q => br (ix2 0 q)) (fun q => bo (ix3 0 r q)) fun q => gg (ix3 0 r q)) (fun k p => w0 (ix2 k p)) fun k p => w1 (ix2 k p)) := by
  intro p
  pointwise [k0_pay25, k0_pay24]
  simp only [hy _, hu _, hv _]
  rfl

theorem pay28_row (hy : Row y r f) (hu : Row u r (centred zr)) (hv : Row v r fun q => headVar zr (head q)) :
    Row (k0_pay28 y (k0_pay27 u v) wr br bo gg w0 w1) r
      (products f (grouped zr (fun q => wr (ix2 0 q)) (fun q => br (ix2 0 q)) (fun q => bo (ix3 0 r q)) fun q => gg (ix3 0 r q)) (fun k p => w0 (ix2 k p)) fun k p => w1 (ix2 k p)) := by
  intro p
  pointwise [k0_pay28, k0_pay27]
  simp only [hy _, hu _, hv _]
  rfl

variable {o : FVec Ideal S256x1024 .f32} {e : Fin 1024 → EReal} {g1 sh sc : Vec Ideal S1x1x1024 .f32} {x : Vec Ideal S1x256x1024 .f32} {lg lb : Vec Ideal S1x1024 .f32}

theorem pay33_row (ho : Row o r e) :
    Row (k0_pay33 (k0_pay31 o g1 x) (k0_pay32 o g1 x) lg lb) r
      (affine (added e (fun p => x (ix3 0 r p)) fun p => g1 (ix3 0 0 p)) (fun p => lg (ix2 0 p)) fun p => lb (ix2 0 p)) := by
  intro p
  pointwise [k0_pay33, k0_pay32, k0_pay31]
  simp only [ho _]
  rfl

theorem pay43_row (ho : Row o r e) :
    Row (k0_pay43 (k0_pay42 o g1 x) lg lb) r
      (affine (added e (fun p => x (ix3 0 r p)) fun p => g1 (ix3 0 0 p)) (fun p => lg (ix2 0 p)) fun p => lb (ix2 0 p)) := by
  intro p
  pointwise [k0_pay43, k0_pay42]
  simp only [ho _]
  rfl

theorem pay34_row (ho : Row o r e) (p : Fin 1024) :
    k0_pay34 (k0_pay31 o g1 x) (k0_pay32 o g1 x) lg lb (ix3 0 r p)
      = affine (added e (fun p => x (ix3 0 r p)) fun p => g1 (ix3 0 0 p)) (fun p => lg (ix2 0 p)) (fun p => lb (ix2 0 p)) p := by
  pointwise [k0_pay34]
  exact pay33_row ho p

theorem pay44_row (ho : Row o r e) (p : Fin 1024) :
    k0_pay44 (k0_pay42 o g1 x) lg lb (ix3 0 r p)
      = affine (added e (fun p => x (ix3 0 r p)) fun p => g1 (ix3 0 0 p)) (fun p => lg (ix2 0 p)) (fun p => lb (ix2 0 p)) p := by
  pointwise [k0_pay44]
  exact pay43_row ho p

theorem pay38_row {s : Fin 1024 → EReal} {v238 : FVec Ideal S256x1024 .f32} {v239 : FVec Ideal S256 .f32} (h : Row (k0_pay33 v238 v239 lg lb) r s) (p : Fin 1024) :
    k0_pay38 (k0_pay29 sh) (k0_pay35 v238 v239 lg lb) (k0_pay36 (k0_pay30 sc)) (ix3 0 r p)
      = modulated s (fun p => sc (ix3 0 0 p)) (fun p => sh (ix3 0 0 p)) p := by
  pointwise [k0_pay38, k0_pay37, k0_pay36, k0_pay35, k0_pay30, k0_pay29]
  simp only [h _]
  rfl

theorem pay46_row {s : Fin 1024 → EReal} {v317 : FVec Ideal S256x1024 .f32} (h : Row (k0_pay43 v317 lg lb) r s) (p : Fin 1024) :
    k0_pay46 (k0_pay45 (k0_pay40 sh) (k0_pay41 sc) v317 lg lb) (ix3 0 r p)
      = modulated s (fun p => sc (ix3 0 0 p)) (fun p => sh (ix3 0 0 p)) p := by
  pointwise [k0_pay46, k0_pay45, k0_pay41, k0_pay40]
  simp only [h _]
  rfl

end Rows

/-! ### A tile's row of the first result, before it is stored -/

section Tiles

variable {hf hb yf yb mo bo gg : Vec Ideal S1x256x512 .f32} {wm wr br : Vec Ideal S1x512 .f32} {w0 w1 : Vec Ideal S512x1024 .bf16}
  {g1 : Vec Ideal S1x1x1024 .f32} {x : Vec Ideal S1x256x1024 .f32} {lg lb : Vec Ideal S1x1024 .f32} {zm zr : Fin 512 → EReal}

include hbd

theorem first_row (hm : SumRow hf hb r zm) (hr : SumRow yf yb r zr) :
    Row (k0_pay25
        (k0_pay23 (k0_pay15 (k0_pay5 hf hb) (k0_pay7 bd hf hb)) (k0_pay17 (k0_pay4 bd) (k0_pay5 hf hb) (k0_pay7 bd hf hb)) mo wm)
        (k0_pay24 (k0_pay16 (k0_pay6 yf yb) (k0_pay10 (k0_pay4 bd) (k0_pay6 yf yb) (k0_pay8 yf yb) (k0_pay9 yf yb)))
          (k0_pay18 (k0_pay4 bd) (k0_pay6 yf yb) (k0_pay10 (k0_pay4 bd) (k0_pay6 yf yb) (k0_pay8 yf yb) (k0_pay9 yf yb))))
        wr br bo gg w0 w1) r
      (products (gated zm (fun q => mo (ix3 0 r q)) fun q => wm (ix2 0 q))
        (grouped zr (fun q => wr (ix2 0 q)) (fun q => br (ix2 0 q)) (fun q => bo (ix3 0 r q)) fun q => gg (ix3 0 r q))
        (fun k p => w0 (ix2 k p)) fun k p => w1 (ix2 k p)) :=
  pay25_row (pay23_row (pay15_row hbd hm) (pay17_row hbd hm.2 (pay15_row hbd hm)))
    (pay16_row hbd hr) (pay18_row hbd hr.2 (pay16_row hbd hr))

theorem second_row (hm : SumRow hf hb r zm) (hr : SumRow yf yb r zr) :
    Row (k0_pay28
        (k0_pay26 (k0_pay19 (k0_pay12 hf hb) (k0_pay14 bd hf hb)) (k0_pay21 (k0_pay11 bd) (k0_pay19 (k0_pay12 hf hb) (k0_pay14 bd hf hb))) mo wm)
        (k0_pay27 (k0_pay20 (k0_pay11 bd) (k0_pay13 yf yb)) (k0_pay22 (k0_pay11 bd) (k0_pay20 (k0_pay11 bd) (k0_pay13 yf yb))))
        wr br bo gg w0 w1) r
      (products (gated zm (fun q => mo (ix3 0 r q)) fun q => wm (ix2 0 q))
        (grouped zr (fun q => wr (ix2 0 q)) (fun q => br (ix2 0 q)) (fun q => bo (ix3 0 r q)) fun q => gg (ix3 0 r q))
        (fun k p => w0 (ix2 k p)) fun k p => w1 (ix2 k p)) :=
  pay28_row (pay26_row (pay19_row hbd hm) (pay21_row hbd hm.2 (pay19_row hbd hm)))
    (pay20_row hbd hr) (pay22_row hbd hr.2 (pay20_row hbd hr))

end Tiles

end Kernel

/-! ## The results over whole arrays -/

section Arrays

variable (hf hb : (⟨3, ![16, 4096, 512]⟩ : Shape).Idx → EReal) (pr : (⟨3, ![16, 4352, 1536]⟩ : Shape).Idx → EReal)
  (yf yb : (⟨3, ![16, 4096, 512]⟩ : Shape).Idx → EReal) (g bo : (⟨3, ![16, 4352, 512]⟩ : Shape).Idx → EReal)
  (x : (⟨3, ![16, 4096, 1024]⟩ : Shape).Idx → EReal) (mod : (⟨3, ![17, 6, 1024]⟩ : Shape).Idx → EReal)
  (wo : (⟨2, ![1024, 1024]⟩ : Shape).Idx → EReal) (hp : (⟨2, ![8, 512]⟩ : Shape).Idx → EReal) (lp : (⟨2, ![8, 1024]⟩ : Shape).Idx → EReal)

/-- Latent token `r` of sequence `b`: its row of the first result. The gates and the bonus are of all tokens, the 256 of the context first. -/
def x1Entry (b : Fin 16) (r : Fin 4096) : Fin 1024 → EReal :=
  x1Row (fun k => hf (ix3 b r k) + hb (ix3 b r k)) (fun k => pr (ix3 b ⟨256 + r.val, by omega⟩ ⟨512 + k.val, by omega⟩)) (fun k => hp (ix2 0 k))
    (fun k => yf (ix3 b r k) + yb (ix3 b r k)) (fun k => hp (ix2 1 k)) (fun k => hp (ix2 2 k))
    (fun k => bo (ix3 b ⟨256 + r.val, by omega⟩ k)) (fun k => g (ix3 b ⟨256 + r.val, by omega⟩ k))
    (fun k p => wo (ix2 ⟨k.val, by omega⟩ p)) (fun k p => wo (ix2 ⟨512 + k.val, by omega⟩ p))
    (fun p => x (ix3 b r p)) (fun p => mod (ix3 ⟨b.val, by omega⟩ 2 p)) (fun p => lp (ix2 0 p)) fun p => lp (ix2 1 p)

/-- Its row of the second result: the first's layer norm, modulated. -/
def tokEntry (b : Fin 16) (r : Fin 4096) : Fin 1024 → EReal :=
  modulated (x1Entry hf hb pr yf yb g bo x mod wo hp lp b r) (fun p => mod (ix3 ⟨b.val, by omega⟩ 4 p)) fun p => mod (ix3 ⟨b.val, by omega⟩ 3 p)

end Arrays

end Cert.Outproj

end
-- ==== Proof.Outproj.Value.lean ====
/-
  The idealized output projection's first two result arrays, block by block: at every latent row, the reference's entry.
-/
module

public import proofs.«01_k».proof.Proof.Outproj.Reads
public import proofs.«01_k».proof.Proof.Outproj.Math

@[expose] public section

set_option maxRecDepth 16384

noncomputable section

namespace Cert.Kernel3Ideal.Outproj

open Cert.Kernel3Ideal Cert.Kernel3Ideal.Gen Cert.Kernel3Ideal.Value
open Cert.Outproj
open Idealize.ShloMosaic
open Idealize.ShloMosaic.TcCoe

variable (m : (ℓ : Loc nD τ sig) → Buf (Elt Ideal) ℓ) (c : Dev nD)

/-- A latent token's rows meant, of this memory's arguments. -/
abbrev meantX1 (b : Fin 16) (r : Fin 4096) : Fin 1024 → EReal :=
  x1Entry (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) b r

abbrev meantTok (b : Fin 16) (r : Fin 4096) : Fin 1024 → EReal :=
  tokEntry (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) b r

/-- The first result. -/
def x1 : S16x4096x1024.Idx → EReal := fun i => meantX1 m c (i 0) (i 1) (i 2)

/-- The second result. -/
def tok : S16x4096x1024.Idx → EReal := fun i => meantTok m c (i 0) (i 1) (i 2)

/-- A row of two arrays' sum. -/
abbrev sumAt (a b : S16x4096x512.Idx → EReal) (i : Fin 16) (r : Fin 4096) : Fin 512 → EReal := fun k => a (ix3 i r k) + b (ix3 i r k)

/-- The scans' outputs are real numbers. -/
def Reals : Prop := ∀ i : S16x4096x512.Idx, IsReal (m ((c : Thread nD τ).loc main_arg0) i) ∧ IsReal (m ((c : Thread nD τ).loc main_arg1) i)
  ∧ IsReal (m ((c : Thread nD τ).loc main_arg3) i) ∧ IsReal (m ((c : Thread nD τ).loc main_arg4) i)

theorem x1Row_congr {zm gate gate' wm wm' zr wr wr' br br' bo bo' gg gg' : Fin 512 → EReal} {w0 w0' w1 w1' : Fin 512 → Fin 1024 → EReal}
    {x x' g1 g1' lg lg' lb lb' : Fin 1024 → EReal} (hgate : ∀ k, gate k = gate' k) (hwm : ∀ k, wm k = wm' k) (hwr : ∀ k, wr k = wr' k) (hbr : ∀ k, br k = br' k)
    (hbo : ∀ k, bo k = bo' k) (hgg : ∀ k, gg k = gg' k) (hw0 : ∀ k p, w0 k p = w0' k p) (hw1 : ∀ k p, w1 k p = w1' k p) (hx : ∀ p, x p = x' p)
    (hg1 : ∀ p, g1 p = g1' p) (hlg : ∀ p, lg p = lg' p) (hlb : ∀ p, lb p = lb' p) :
    x1Row zm gate wm zr wr br bo gg w0 w1 x g1 lg lb = x1Row zm gate' wm' zr wr' br' bo' gg' w0' w1' x' g1' lg' lb' := by
  rw [funext hgate, funext hwm, funext hwr, funext hbr, funext hbo, funext hgg, funext fun k => funext (hw0 k), funext fun k => funext (hw1 k), funext hx, funext hg1, funext hlg,
    funext hlb]

theorem modulated_congr {z z' sc sc' sh sh' : Fin 1024 → EReal} (hz : z = z') (hc : ∀ k, sc k = sc' k) (hh : ∀ k, sh k = sh' k) (p : Fin 1024) :
    Cert.Inproj.modulated z sc sh p = Cert.Inproj.modulated z' sc' sh' p := by
  rw [hz, funext hc, funext hh]

variable {m c}

/-! ## The scans' sums -/

theorem mlstm_low (hz : Reals m c) (t : Fin cfg0.N) (r : Fin 256) :
    SumRow (View.ld (iblk m c 0 t) (Rect.unit ![0, 0, 0] ![1, 256, 512] inb_S1x512x512_S1x256x512_0_0_0))
      (View.ld (iblk m c 1 t) (Rect.unit ![0, 0, 0] ![1, 256, 512] inb_S1x512x512_S1x256x512_0_0_0)) r
      (sumAt (m ((c : Thread nD τ).loc main_arg0)) (m ((c : Thread nD τ).loc main_arg1)) (seqOf t) (rowOf t (low r))) :=
  ⟨fun k => congrArg₂ (· + ·) ((ld_low _ r k).trans (hf_at m c t _ k)) ((ld_low _ r k).trans (hb_at m c t _ k)), fun k => (hz _).1.add (hz _).2.1⟩

theorem mlstm_high (hz : Reals m c) (t : Fin cfg0.N) (r : Fin 256) :
    SumRow (View.ld (iblk m c 0 t) (Rect.unit ![0, 256, 0] ![1, 256, 512] inb_S1x512x512_S1x256x512_0_256_0))
      (View.ld (iblk m c 1 t) (Rect.unit ![0, 256, 0] ![1, 256, 512] inb_S1x512x512_S1x256x512_0_256_0)) r
      (sumAt (m ((c : Thread nD τ).loc main_arg0)) (m ((c : Thread nD τ).loc main_arg1)) (seqOf t) (rowOf t (high r))) :=
  ⟨fun k => congrArg₂ (· + ·) ((ld_high _ r k).trans (hf_at m c t _ k)) ((ld_high _ r k).trans (hb_at m c t _ k)), fun k => (hz _).1.add (hz _).2.1⟩

theorem rwkv_low (hz : Reals m c) (t : Fin cfg0.N) (r : Fin 256) :
    SumRow (View.ld (iblk m c 4 t) (Rect.unit ![0, 0, 0] ![1, 256, 512] inb_S1x512x512_S1x256x512_0_0_0))
      (View.ld (iblk m c 5 t) (Rect.unit ![0, 0, 0] ![1, 256, 512] inb_S1x512x512_S1x256x512_0_0_0)) r
      (sumAt (m ((c : Thread nD τ).loc main_arg3)) (m ((c : Thread nD τ).loc main_arg4)) (seqOf t) (rowOf t (low r))) :=
  ⟨fun k => congrArg₂ (· + ·) ((ld_low _ r k).trans (yf_at m c t _ k)) ((ld_low _ r k).trans (yb_at m c t _ k)), fun k => (hz _).2.2.1.add (hz _).2.2.2⟩

theorem rwkv_high (hz : Reals m c) (t : Fin cfg0.N) (r : Fin 256) :
    SumRow (View.ld (iblk m c 4 t) (Rect.unit ![0, 256, 0] ![1, 256, 512] inb_S1x512x512_S1x256x512_0_256_0))
      (View.ld (iblk m c 5 t) (Rect.unit ![0, 256, 0] ![1, 256, 512] inb_S1x512x512_S1x256x512_0_256_0)) r
      (sumAt (m ((c : Thread nD τ).loc main_arg3)) (m ((c : Thread nD τ).loc main_arg4)) (seqOf t) (rowOf t (high r))) :=
  ⟨fun k => congrArg₂ (· + ·) ((ld_high _ r k).trans (yf_at m c t _ k)) ((ld_high _ r k).trans (yb_at m c t _ k)), fun k => (hz _).2.2.1.add (hz _).2.2.2⟩

/-! ## The two tiles' rows -/

theorem x1_low (t : Fin cfg0.N) (r : Fin 256) :
    x1Row (sumAt (m ((c : Thread nD τ).loc main_arg0)) (m ((c : Thread nD τ).loc main_arg1)) (seqOf t) (rowOf t (low r)))
      (fun k => iblk m c 2 t (ix3 0 r k)) (fun k => View.ld (iblk m c 13 t) (Rect.unit ![0, 0] ![1, 512] inb_S8x512_S1x512_0_0) (ix2 0 k))
      (sumAt (m ((c : Thread nD τ).loc main_arg3)) (m ((c : Thread nD τ).loc main_arg4)) (seqOf t) (rowOf t (low r)))
      (fun k => View.ld (iblk m c 13 t) (Rect.unit ![1, 0] ![1, 512] inb_S8x512_S1x512_1_0) (ix2 0 k))
      (fun k => View.ld (iblk m c 13 t) (Rect.unit ![2, 0] ![1, 512] inb_S8x512_S1x512_2_0) (ix2 0 k))
      (fun k => iblk m c 8 t (ix3 0 r k)) (fun k => iblk m c 6 t (ix3 0 r k))
      (fun k p => View.ld (iblk m c 12 t) (Rect.unit ![0, 0] ![512, 1024] inb_S1024x1024_S512x1024_0_0) (ix2 k p))
      (fun k p => View.ld (iblk m c 12 t) (Rect.unit ![512, 0] ![512, 1024] inb_S1024x1024_S512x1024_512_0) (ix2 k p))
      (fun p => View.ld (iblk m c 10 t) (Rect.unit ![0, 0, 0] ![1, 256, 1024] inb_S1x512x1024_S1x256x1024_0_0_0) (ix3 0 r p))
      (fun p => View.ld (iblk m c 11 t) (Rect.unit ![0, 2, 0] ![1, 1, 1024] inb_S1x6x1024_S1x1x1024_0_2_0) (ix3 0 0 p))
      (fun p => View.ld (iblk m c 14 t) (Rect.unit ![0, 0] ![1, 1024] inb_S8x1024_S1x1024_0_0) (ix2 0 p))
      (fun p => View.ld (iblk m c 14 t) (Rect.unit ![1, 0] ![1, 1024] inb_S8x1024_S1x1024_1_0) (ix2 0 p))
      = meantX1 m c (seqOf t) (rowOf t (low r)) :=
  x1Row_congr (gate_low m c t r) (fun k => (ld_wm _ k).trans (head_at m c t 0 k)) (fun k => (ld_wr _ k).trans (head_at m c t 1 k)) (fun k => (ld_br _ k).trans (head_at m c t 2 k))
    (bonus_low m c t r) (out_low m c t r) (fun k p => (ld_w0 _ k p).trans (weight_at m c t _ p)) (fun k p => (ld_w1 _ k p).trans (weight_at m c t _ p))
    (fun p => (ldx_low _ r p).trans (x_at m c t _ p)) (fun p => (ld_g1 _ p).trans (mod_at m c t 2 p)) (fun p => (ld_lg _ p).trans (norm_at m c t 0 p))
    fun p => (ld_lb _ p).trans (norm_at m c t 1 p)

theorem x1_high (t : Fin cfg0.N) (r : Fin 256) :
    x1Row (sumAt (m ((c : Thread nD τ).loc main_arg0)) (m ((c : Thread nD τ).loc main_arg1)) (seqOf t) (rowOf t (high r)))
      (fun k => iblk m c 3 t (ix3 0 r k)) (fun k => View.ld (iblk m c 13 t) (Rect.unit ![0, 0] ![1, 512] inb_S8x512_S1x512_0_0) (ix2 0 k))
      (sumAt (m ((c : Thread nD τ).loc main_arg3)) (m ((c : Thread nD τ).loc main_arg4)) (seqOf t) (rowOf t (high r)))
      (fun k => View.ld (iblk m c 13 t) (Rect.unit ![1, 0] ![1, 512] inb_S8x512_S1x512_1_0) (ix2 0 k))
      (fun k => View.ld (iblk m c 13 t) (Rect.unit ![2, 0] ![1, 512] inb_S8x512_S1x512_2_0) (ix2 0 k))
      (fun k => iblk m c 9 t (ix3 0 r k)) (fun k => iblk m c 7 t (ix3 0 r k))
      (fun k p => View.ld (iblk m c 12 t) (Rect.unit ![0, 0] ![512, 1024] inb_S1024x1024_S512x1024_0_0) (ix2 k p))
      (fun k p => View.ld (iblk m c 12 t) (Rect.unit ![512, 0] ![512, 1024] inb_S1024x1024_S512x1024_512_0) (ix2 k p))
      (fun p => View.ld (iblk m c 10 t) (Rect.unit ![0, 256, 0] ![1, 256, 1024] inb_S1x512x1024_S1x256x1024_0_256_0) (ix3 0 r p))
      (fun p => View.ld (iblk m c 11 t) (Rect.unit ![0, 2, 0] ![1, 1, 1024] inb_S1x6x1024_S1x1x1024_0_2_0) (ix3 0 0 p))
      (fun p => View.ld (iblk m c 14 t) (Rect.unit ![0, 0] ![1, 1024] inb_S8x1024_S1x1024_0_0) (ix2 0 p))
      (fun p => View.ld (iblk m c 14 t) (Rect.unit ![1, 0] ![1, 1024] inb_S8x1024_S1x1024_1_0) (ix2 0 p))
      = meantX1 m c (seqOf t) (rowOf t (high r)) :=
  x1Row_congr (gate_high m c t r) (fun k => (ld_wm _ k).trans (head_at m c t 0 k)) (fun k => (ld_wr _ k).trans (head_at m c t 1 k)) (fun k => (ld_br _ k).trans (head_at m c t 2 k))
    (bonus_high m c t r) (out_high m c t r) (fun k p => (ld_w0 _ k p).trans (weight_at m c t _ p)) (fun k p => (ld_w1 _ k p).trans (weight_at m c t _ p))
    (fun p => (ldx_high _ r p).trans (x_at m c t _ p)) (fun p => (ld_g1 _ p).trans (mod_at m c t 2 p)) (fun p => (ld_lg _ p).trans (norm_at m c t 0 p))
    fun p => (ld_lb _ p).trans (norm_at m c t 1 p)

/-! ## The blocks stored -/

theorem x1_block (hz : Reals m c) (t : Fin cfg0.N) (y : S1x512x1024.Idx) : (dats m 0 c).flushed 18 t y = x1 m c (((cfg0.win 18).blk t).view.emb y) := by
  idx_vars y
  obtain rfl : y0 = 0 := Subsingleton.elim _ _
  rw [x1_place]
  by_cases h0 : t.val % 128 = 0
  on_goal 1 => rw [flushed18_A m c t h0]
  on_goal 2 => rw [flushed18_B m c t h0]
  all_goals
    frame_out
    canon_tiles x h
    · idx_vars x
      obtain rfl : x0 = 0 := Subsingleton.elim _ _
      obtain rfl : y1 = high x1 := Fin.ext h1
      obtain rfl : y2 = x2 := Fin.ext h2
      exact (pay44_row (second_row (heads_at m c t) (mlstm_high hz t x1) (rwkv_high hz t x1)) y2).trans (congrFun (x1_high t x1) y2)
    · idx_vars x
      obtain rfl : x0 = 0 := Subsingleton.elim _ _
      obtain rfl : y1 = low x1 := Fin.ext h1
      obtain rfl : y2 = x2 := Fin.ext h2
      exact (pay34_row (first_row (heads_at m c t) (mlstm_low hz t x1) (rwkv_low hz t x1)) y2).trans (congrFun (x1_low t x1) y2)

theorem tok_block (hz : Reals m c) (t : Fin cfg0.N) (y : S1x512x1024.Idx) : (dats m 0 c).flushed 19 t y = tok m c (((cfg0.win 19).blk t).view.emb y) := by
  idx_vars y
  obtain rfl : y0 = 0 := Subsingleton.elim _ _
  rw [tok_place]
  by_cases h0 : t.val % 128 = 0
  on_goal 1 => rw [flushed19_A m c t h0]
  on_goal 2 => rw [flushed19_B m c t h0]
  all_goals
    frame_out
    canon_tiles x h
    · idx_vars x
      obtain rfl : x0 = 0 := Subsingleton.elim _ _
      obtain rfl : y1 = high x1 := Fin.ext h1
      obtain rfl : y2 = x2 := Fin.ext h2
      exact (pay46_row (pay43_row (second_row (heads_at m c t) (mlstm_high hz t x1) (rwkv_high hz t x1))) y2).trans
        (modulated_congr (x1_high t x1) (fun k => (ld_sc _ k).trans (mod_at m c t 4 k)) (fun k => (ld_sh _ k).trans (mod_at m c t 3 k)) y2)
    · idx_vars x
      obtain rfl : x0 = 0 := Subsingleton.elim _ _
      obtain rfl : y1 = low x1 := Fin.ext h1
      obtain rfl : y2 = x2 := Fin.ext h2
      exact (pay38_row (pay33_row (first_row (heads_at m c t) (mlstm_low hz t x1) (rwkv_low hz t x1))) y2).trans
        (modulated_congr (x1_low t x1) (fun k => (ld_sc _ k).trans (mod_at m c t 4 k)) (fun k => (ld_sh _ k).trans (mod_at m c t 3 k)) y2)

/-- The two result arrays after the run: the entries meant, everywhere. -/
theorem x1_final (hz : Reals m c) : (dats m 0 c).arrAt 18 cfg0.N = x1 m c := by
  refine (dats m 0 c).arrAt_eq_of_covers 18 (x1 m c) (by decide +kernel) fun t hf y => ?_
  exact x1_block hz t y

theorem tok_final (hz : Reals m c) : (dats m 0 c).arrAt 19 cfg0.N = tok m c := by
  refine (dats m 0 c).arrAt_eq_of_covers 19 (tok m c) (by decide +kernel) fun t hf y => ?_
  exact tok_block hz t y

end Cert.Kernel3Ideal.Outproj

end
-- ==== Proof.Outproj.Range.lean ====
/-
  What the precondition says of the scans' outputs: every value is a real number.
-/
module

public import proofs.«01_k».proof.Proof.Gen.Pre_scans_finite
public import proofs.«01_k».proof.Proof.Outproj.Heads
public import Idealize.ShloMosaic.Lib.ReduceAll

@[expose] public section

set_option maxRecDepth 16384

noncomputable section

namespace Cert.Outproj.Range

open Idealize.ShloMosaic
open Cert.Pre_scans_finite Cert.Pre_scans_finite.Gen

variable {hf hb yf yb : FVec Ideal S16x4096x512 .f32} {pr : FVec Ideal S16x4352x1536 .f32} {g bo : FVec Ideal S16x4352x512 .f32}
  {x : FVec Ideal S16x4096x1024 .f32} {mod : FVec Ideal S17x6x1024 .f32} {wo : FVec Ideal S1024x1024 .bf16} {hp : FVec Ideal S8x512 .f32}
  {lp : FVec Ideal S8x1024 .f32} {rw' : FVec Ideal S3072x128 .bf16} {rb : FVec Ideal S1x128 .f32}

instance : Subsingleton S_.Idx := ⟨fun a b => funext fun i => i.elim0⟩

/-- The literal infinity. -/
theorem ofBits_infinity : Ideal.ofBits .f32 0x7F800000#32 = ⊤ := by
  simp [Ideal.ofBits, Ideal.ieee]

/-- A magnitude that compares below infinity is a real number's. -/
theorem real_of_below {a : EReal} (h : Ideal.cmp .olt (max a (-a)) (Ideal.ofBits .f32 0x7F800000#32) = 1#1) : IsReal a := by
  rw [ofBits_infinity] at h
  refine isReal_of_abs_lt ?_
  by_contra hn
  have e : Ideal.cmp .olt (max a (-a)) ⊤ = 0#1 := by simp only [Ideal.cmp]; simp [hn]
  rw [e] at h
  exact absurd h (by decide)

/-- Both scans' both directions. -/
theorem reals (h : fn hf hb pr yf yb g bo x mod wo hp lp rw' rb = fun _ => 1#1) (i : S16x4096x512.Idx) :
    IsReal (hf i) ∧ IsReal (hb i) ∧ IsReal (yf i) ∧ IsReal (yb i) := by
  have h0 := congrFun h (fun i => i.elim0)
  obtain ⟨h1, hD⟩ := IntOp.andi_eq_one.1 h0
  obtain ⟨h2, hC⟩ := IntOp.andi_eq_one.1 h1
  obtain ⟨hA, hB⟩ := IntOp.andi_eq_one.1 h2
  exact ⟨real_of_below (Host.reduce_andi_all _ _ _ _ _ hA i), real_of_below (Host.reduce_andi_all _ _ _ _ _ hB i),
    real_of_below (Host.reduce_andi_all _ _ _ _ _ hC i), real_of_below (Host.reduce_andi_all _ _ _ _ _ hD i)⟩

end Cert.Outproj.Range

end
-- ==== Proof.Outproj.Reference.lean ====
/-
  The output projection's reference, read at an index.
-/
module

public import proofs.«01_k».proof.Proof.Gen.Reference3Ideal.Run
public import proofs.«01_k».proof.Proof.Outproj.Math

@[expose] public section

set_option maxRecDepth 16384

noncomputable section

namespace Cert.Outproj

open Idealize.ShloMosaic
open Cert.Reference3Ideal Cert.Reference3Ideal.Value

variable (A : Valuation τ sig (Elt Ideal))

/-- The entries of the two scans' sums. -/
abbrev sumM (b : Fin 16) (r : Fin 4096) (q : Fin 512) : EReal :=
  (show S16x4096x512.Idx → EReal from A (Proc.devRef .tc main_arg0)) (ix3 b r q) + (show S16x4096x512.Idx → EReal from A (Proc.devRef .tc main_arg1)) (ix3 b r q)

abbrev sumR (b : Fin 16) (r : Fin 4096) (q : Fin 512) : EReal :=
  (show S16x4096x512.Idx → EReal from A (Proc.devRef .tc main_arg3)) (ix3 b r q) + (show S16x4096x512.Idx → EReal from A (Proc.devRef .tc main_arg4)) (ix3 b r q)

/-- A column is column `q % 64` of head `q / 64`. -/
theorem col_divmod (q : Fin 512) : (⟨q.val / 64 * 64 + q.val % 64, by omega⟩ : Fin 512) = q :=
  Fin.ext (by show q.val / 64 * 64 + q.val % 64 = q.val; omega)

theorem v2_at (b : Fin 16) (r : Fin 4096) (h : Fin 8) (k : Fin 64) : res_main_v2 (F := Ideal) A (ix4 b r h k) = sumM A b r (col h k) := by
  pointwise [res_main_v2]
  rfl

theorem v36_at (b : Fin 16) (r : Fin 4096) (h : Fin 8) (k : Fin 64) : res_main_v36 (F := Ideal) A (ix4 b r h k) = sumR A b r (col h k) := by
  pointwise [res_main_v36]
  rfl

theorem v6_at (b : Fin 16) (r : Fin 4096) (h : Fin 8) : res_main_v6 (F := Ideal) A (ix4 b r h 0) = headMean (sumM A b r) h := by
  pointwise [res_main_v6]
  simp only [v2_at]
  rfl

theorem v40_at (b : Fin 16) (r : Fin 4096) (h : Fin 8) : res_main_v40 (F := Ideal) A (ix4 b r h 0) = headMean (sumR A b r) h := by
  pointwise [res_main_v40]
  simp only [v36_at]
  rfl

theorem v8_at (b : Fin 16) (r : Fin 4096) (h : Fin 8) (k : Fin 64) : res_main_v8 (F := Ideal) A (ix4 b r h k) = centred (sumM A b r) (col h k) := by
  pointwise [res_main_v8]
  rw [v2_at, v6_at]
  unfold centred
  rw [head_col]

theorem v42_at (b : Fin 16) (r : Fin 4096) (h : Fin 8) (k : Fin 64) : res_main_v42 (F := Ideal) A (ix4 b r h k) = centred (sumR A b r) (col h k) := by
  pointwise [res_main_v42]
  rw [v36_at, v40_at]
  unfold centred
  rw [head_col]

/-- The first layer norm's row. -/
abbrev addedRow (b : Fin 16) (r : Fin 4096) : Fin 1024 → EReal :=
  added (products (gated (sumM A b r) (fun k => A (Proc.devRef .tc main_arg2) (ix3 b ⟨256 + r.val, by omega⟩ ⟨512 + k.val, by omega⟩)) fun k => A (Proc.devRef .tc main_arg10) (ix2 0 k))
      (grouped (sumR A b r) (fun k => A (Proc.devRef .tc main_arg10) (ix2 1 k)) (fun k => A (Proc.devRef .tc main_arg10) (ix2 2 k))
        (fun k => A (Proc.devRef .tc main_arg6) (ix3 b ⟨256 + r.val, by omega⟩ k)) fun k => A (Proc.devRef .tc main_arg5) (ix3 b ⟨256 + r.val, by omega⟩ k))
      (fun k p => A (Proc.devRef .tc main_arg9) (ix2 ⟨k.val, by omega⟩ p)) fun k p => A (Proc.devRef .tc main_arg9) (ix2 ⟨512 + k.val, by omega⟩ p))
    (fun p => A (Proc.devRef .tc main_arg7) (ix3 b r p)) fun p => A (Proc.devRef .tc main_arg8) (ix3 ⟨b.val, by omega⟩ 2 p)

theorem v88_at (b : Fin 16) (r : Fin 4096) (p : Fin 1024) : res_main_v88 (F := Ideal) A (ix3 b r p) = addedRow A b r p := by
  pointwise [res_main_v88]
  simp only [v2_at, v36_at, v6_at, v40_at, v8_at, v42_at, col, col_divmod]
  rfl

/-- The two results' entries, of the arguments given. -/
abbrev meantX1 (b : Fin 16) (r : Fin 4096) : Fin 1024 → EReal :=
  x1Entry (A (Proc.devRef .tc main_arg0)) (A (Proc.devRef .tc main_arg1)) (A (Proc.devRef .tc main_arg2)) (A (Proc.devRef .tc main_arg3)) (A (Proc.devRef .tc main_arg4))
    (A (Proc.devRef .tc main_arg5)) (A (Proc.devRef .tc main_arg6)) (A (Proc.devRef .tc main_arg7)) (A (Proc.devRef .tc main_arg8)) (A (Proc.devRef .tc main_arg9))
    (A (Proc.devRef .tc main_arg10)) (A (Proc.devRef .tc main_arg11)) b r

theorem v92_at (b : Fin 16) (r : Fin 4096) : res_main_v92 (F := Ideal) A (ix3 b r 0) = Cert.Inproj.mean (addedRow A b r) := by
  pointwise [res_main_v92]
  simp only [v88_at]
  rfl

theorem v94_at (b : Fin 16) (r : Fin 4096) (p : Fin 1024) : res_main_v94 (F := Ideal) A (ix3 b r p) = addedRow A b r p - Cert.Inproj.mean (addedRow A b r) := by
  pointwise [res_main_v94]
  rw [v88_at, v92_at]

theorem x1_at (b : Fin 16) (r : Fin 4096) (p : Fin 1024) : res_main_v116 (F := Ideal) A (ix3 b r p) = meantX1 A b r p := by
  pointwise [res_main_v116]
  simp only [v88_at, v92_at, v94_at]
  rfl

theorem v120_at (b : Fin 16) (r : Fin 4096) : res_main_v120 (F := Ideal) A (ix3 b r 0) = Cert.Inproj.mean (meantX1 A b r) := by
  pointwise [res_main_v120]
  simp only [x1_at]
  rfl

theorem v122_at (b : Fin 16) (r : Fin 4096) (p : Fin 1024) : res_main_v122 (F := Ideal) A (ix3 b r p) = meantX1 A b r p - Cert.Inproj.mean (meantX1 A b r) := by
  pointwise [res_main_v122]
  rw [x1_at, v120_at]

end Cert.Outproj

end
-- ==== Proof.Outproj.Claims.lean ====
/-
  The claims about the output projection.
-/
module

public import proofs.«01_k».proof.Defs
public import proofs.«01_k».proof.Proof.Gen.Kernel3.Frame
public import proofs.«01_k».proof.Proof.Outproj.Value
public import proofs.«01_k».proof.Proof.Outproj.Range
public import proofs.«01_k».proof.Proof.Outproj.Reference
public import Idealize.ShloMosaic.Lib.Quiescent

@[expose] public section

set_option maxRecDepth 16384

noncomputable section

namespace Cert.Outproj

open Idealize.ShloMosaic Idealize.SL.Sem

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_ideal_finite : Cert.quiescent_Kernel3Ideal_pre_scans_finite := fun m ρ _ => Cert.Kernel3Ideal.Gen.frame m ρ

/-- The reference runs and leaves its arguments; it has no semaphore. -/
theorem frame_reference : Cert.quiescent_Reference3Ideal := fun m ρ _ =>
  (θ_run _ _ _).mono (fun r h => ⟨fun c => (h c).2.2, sem_eq_zero_of_no_sems (by decide) r.2⟩) (Cert.Reference3Ideal.Value.run (F := Ideal) m ρ)

theorem frame_reference_finite : Cert.quiescent_Reference3Ideal_pre_scans_finite := fun m ρ _ => frame_reference m ρ True.intro

/-- The precondition makes the scans' outputs real numbers. -/
theorem reals {m : (ℓ : Loc Cert.Kernel3Ideal.nD Cert.Kernel3Ideal.τ Cert.Kernel3Ideal.sig) → Buf (Elt Ideal) ℓ} (h : Cert.Pre_Kernel3Ideal_scans_finite m)
    (c : Dev Cert.Kernel3Ideal.nD) : Cert.Kernel3Ideal.Outproj.Reals m c := fun i => Range.reals (h c) i

/-- The kernel's first two result arrays and the reference's are the same functions of the arguments. -/
theorem values : Cert.algebraic_Kernel3Ideal_Reference3Ideal_pre_scans_finite := by
  intro m ρ m' ρ' hP hA
  refine ⟨fun c => Cert.Kernel3Ideal.Outproj.x1 m c, fun c => Cert.Kernel3Ideal.Outproj.tok m c, ?_, ?_⟩
  · refine (θ_run _ _ _).mono (fun r h c => ?_) (Cert.Kernel3Ideal.Value.run_blocks (F := Ideal) m ρ)
    exact ⟨(h c).1.trans (Cert.Kernel3Ideal.Outproj.x1_final (reals hP c)), (h c).2.1.trans (Cert.Kernel3Ideal.Outproj.tok_final (reals hP c)), (h c).2.2.2.2.2⟩
  · refine (θ_run _ _ _).mono (fun r h c => ?_) (Cert.Reference3Ideal.Value.run (F := Ideal) m' ρ')
    obtain ⟨a0, a1, a2, a3, a4, a5, a6, a7, a8, a9, a10, a11, -, -⟩ := hA c
    have e (b : Fin 16) (r : Fin 4096) : meantX1 (StableHlo.launchContents m' c) b r = Cert.Kernel3Ideal.Outproj.meantX1 m c b r := by
      show x1Entry (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3))
        (m' ((c.tc : Thread Cert.Reference3Ideal.nD Cert.Reference3Ideal.τ).loc Cert.Reference3Ideal.main_arg4))
        (m' ((c.tc : Thread Cert.Reference3Ideal.nD Cert.Reference3Ideal.τ).loc Cert.Reference3Ideal.main_arg5))
        (m' ((c.tc : Thread Cert.Reference3Ideal.nD Cert.Reference3Ideal.τ).loc Cert.Reference3Ideal.main_arg6))
        (m' ((c.tc : Thread Cert.Reference3Ideal.nD Cert.Reference3Ideal.τ).loc Cert.Reference3Ideal.main_arg7))
        (m' ((c.tc : Thread Cert.Reference3Ideal.nD Cert.Reference3Ideal.τ).loc Cert.Reference3Ideal.main_arg8))
        (m' ((c.tc : Thread Cert.Reference3Ideal.nD Cert.Reference3Ideal.τ).loc Cert.Reference3Ideal.main_arg9))
        (m' ((c.tc : Thread Cert.Reference3Ideal.nD Cert.Reference3Ideal.τ).loc Cert.Reference3Ideal.main_arg10))
        (m' ((c.tc : Thread Cert.Reference3Ideal.nD Cert.Reference3Ideal.τ).loc Cert.Reference3Ideal.main_arg11)) b r = _
      rw [a0, a1, a2, a3, a4, a5, a6, a7, a8, a9, a10, a11]
    refine ⟨(h c).1.trans (funext fun i => ?_), funext fun i => (congrFun (h c).2.1 i).trans ?_, (h c).2.2⟩
    · idx_vars i
      exact (x1_at _ i0 i1 i2).trans (congrFun (e i0 i1) i2)
    · idx_vars i
      pointwise
      simp only [x1_at, v120_at, v122_at, e]
      show _ = Cert.Inproj.modulated (Cert.Kernel3Ideal.Outproj.meantX1 m c i0 i1)
        (fun p => m ((c.tc : Thread Cert.Kernel3Ideal.nD Cert.Kernel3Ideal.τ).loc Cert.Kernel3Ideal.main_arg8) (ix3 ⟨i0.val, by omega⟩ 4 p))
        (fun p => m ((c.tc : Thread Cert.Kernel3Ideal.nD Cert.Kernel3Ideal.τ).loc Cert.Kernel3Ideal.main_arg8) (ix3 ⟨i0.val, by omega⟩ 3 p)) i2
      rw [← a8]
      rfl

end Cert.Outproj

end
-- ==== Proof.Prep.Rows.lean ====
/-
  The mathematics of the preparation on one token's row, apart from the convolution, and the kernel's payloads read by it.
-/
module

public import proofs.«01_k».proof.Proof.Gen.Kernel4Ideal.Skeleton
public import proofs.«01_k».proof.Proof.Outproj.Heads
public import Idealize.ShloMosaic.Lib.Pointwise

@[expose] public section

set_option maxRecDepth 16384

noncomputable section

namespace Cert.Prep

open Idealize.ShloMosaic
open Cert.Outproj (IsReal OfHeads sum_heads halves head col)

/-! ## The low-rank products -/

/-- 64 rows of weights as the first of 128, the others zero; -/
def first (w : Fin 64 → Fin 512 → EReal) (k : Fin 128) (q : Fin 512) : EReal := if h : k.val < 64 then w ⟨k.val, h⟩ q else 0

/-- as the last. -/
def last (w : Fin 64 → Fin 512 → EReal) (k : Fin 128) (q : Fin 512) : EReal := if h : k.val < 64 then 0 else w ⟨k.val - 64, by omega⟩ q

/-- The array is the weights, then what is left of them after they are split, then the weights again. -/
def Stacked (W : (⟨2, ![384, 512]⟩ : Shape).Idx → EReal) (w : Fin 128 → Fin 512 → EReal) : Prop :=
  ∀ k q, W (ix2 ⟨k.val, by omega⟩ q) = w k q ∧ W (ix2 ⟨128 + k.val, by omega⟩ q) = w k q - w k q ∧ W (ix2 ⟨128 + (128 + k.val), by omega⟩ q) = w k q

/-- A row over such an array: itself, itself again, and what is left of it after it is split. -/
def tripled (u : Fin 128 → EReal) (x : Fin 384) : EReal :=
  if h : x.val < 128 then u ⟨x.val, h⟩ else if h : x.val - 128 < 128 then u ⟨x.val - 128, h⟩ else u ⟨x.val - 128 - 128, by omega⟩ - u ⟨x.val - 128 - 128, by omega⟩

theorem sum_stacked {W : (⟨2, ![384, 512]⟩ : Shape).Idx → EReal} {w : Fin 128 → Fin 512 → EReal} (h : Stacked W w) {u : Fin 128 → EReal}
    (q : Fin 512) (hu : ∀ k, IsReal (u k) ∨ w k q = 0) (hw : ∀ k q, IsReal (w k q)) :
    ∑ x : Fin 384, tripled u x * W (ix2 x q) = ∑ k : Fin 128, u k * w k q := by
  rw [show (∑ x : Fin 384, tripled u x * W (ix2 x q)) = ∑ x : Fin (128 + 256), tripled u x * W (ix2 x q) from rfl, Fin.sum_univ_add,
    show (∑ x : Fin 256, tripled u (Fin.natAdd 128 x) * W (ix2 (Fin.natAdd 128 x) q)) = ∑ x : Fin (128 + 128), tripled u (Fin.natAdd 128 x) * W (ix2 (Fin.natAdd 128 x) q) from rfl,
    Fin.sum_univ_add]
  have h1 : ∀ k : Fin 128, tripled u (Fin.castAdd 256 k) * W (ix2 (Fin.castAdd 256 k) q) = u k * w k q := fun k => by
    refine congrArg₂ (· * ·) (dif_pos (show k.val < 128 from k.isLt)) (h k q).1
  have h2 : ∀ k : Fin 128, tripled u (Fin.natAdd 128 (Fin.castAdd 128 k)) * W (ix2 (Fin.natAdd 128 (Fin.castAdd 128 k)) q) = 0 := fun k => by
    have e : W (ix2 (Fin.natAdd 128 (Fin.castAdd 128 k)) q) = 0 := ((h k q).2.1).trans (hw k q).sub_self
    rw [e, mul_zero]
  have h3 : ∀ k : Fin 128, tripled u (Fin.natAdd 128 (Fin.natAdd 128 k)) * W (ix2 (Fin.natAdd 128 (Fin.natAdd 128 k)) q) = 0 := fun k => by
    have e : tripled u (Fin.natAdd 128 (Fin.natAdd 128 k)) = u k - u k := by
      unfold tripled
      rw [dif_neg, dif_neg]
      · exact congrArg (fun i => u i - u i) (Fin.ext (by show 128 + (128 + k.val) - 128 - 128 = k.val; omega))
      · show ¬ 128 + (128 + k.val) - 128 < 128
        omega
      · show ¬ 128 + (128 + k.val) < 128
        omega
    rw [e]
    cases hu k with
    | inl hr => rw [hr.sub_self, zero_mul]
    | inr hz => exact (congrArg (_ * ·) ((h k q).2.2.trans hz)).trans (mul_zero _)
  rw [Finset.sum_congr rfl fun k _ => h1 k, Finset.sum_congr rfl fun k _ => h2 k, Finset.sum_congr rfl fun k _ => h3 k]
  simp

/-- Over weights whose other half is zero a row's product is its half's. -/
theorem sum_first (w : Fin 64 → Fin 512 → EReal) (u : Fin 128 → EReal) (q : Fin 512) :
    ∑ k : Fin 128, u k * first w k q = ∑ k : Fin 64, u ⟨k.val, by omega⟩ * w k q := by
  rw [show (∑ k : Fin 128, u k * first w k q) = ∑ k : Fin (64 + 64), u k * first w k q from rfl, Fin.sum_univ_add]
  have h2 : ∀ k : Fin 64, u (Fin.natAdd 64 k) * first w (Fin.natAdd 64 k) q = 0 := fun k => by
    rw [show first w (Fin.natAdd 64 k) q = 0 from dif_neg (show ¬ 64 + k.val < 64 by omega), mul_zero]
  rw [Finset.sum_congr rfl fun k _ => h2 k, Finset.sum_const_zero, add_zero]
  exact Finset.sum_congr rfl fun k _ => congrArg (u _ * ·) (dif_pos (show k.val < 64 from k.isLt))

theorem sum_last (w : Fin 64 → Fin 512 → EReal) (u : Fin 128 → EReal) (q : Fin 512) :
    ∑ k : Fin 128, u k * last w k q = ∑ k : Fin 64, u ⟨64 + k.val, by omega⟩ * w k q := by
  rw [show (∑ k : Fin 128, u k * last w k q) = ∑ k : Fin (64 + 64), u k * last w k q from rfl, Fin.sum_univ_add]
  have h1 : ∀ k : Fin 64, u (Fin.castAdd 64 k) * last w (Fin.castAdd 64 k) q = 0 := fun k => by
    rw [show last w (Fin.castAdd 64 k) q = 0 from dif_pos (show k.val < 64 from k.isLt), mul_zero]
  rw [Finset.sum_congr rfl fun k _ => h1 k, Finset.sum_const_zero, zero_add]
  refine Finset.sum_congr rfl fun k _ => congrArg (u _ * ·) ((dif_neg (show ¬ 64 + k.val < 64 by omega)).trans ?_)
  exact congrArg (w · q) (Fin.ext (by show 64 + k.val - 64 = k.val; omega))

theorem isReal_first {w : Fin 64 → Fin 512 → EReal} (hw : ∀ k q, IsReal (w k q)) (k : Fin 128) (q : Fin 512) : IsReal (first w k q) := by
  unfold first
  split
  · exact hw _ _
  · exact ⟨0, EReal.coe_zero.symm⟩

theorem isReal_last {w : Fin 64 → Fin 512 → EReal} (hw : ∀ k q, IsReal (w k q)) (k : Fin 128) (q : Fin 512) : IsReal (last w k q) := by
  unfold last
  split
  · exact ⟨0, EReal.coe_zero.symm⟩
  · exact hw _ _

theorem isReal_tanh (x : EReal) : IsReal (Ideal.tanh x) := by
  induction x with
  | bot => exact ⟨-1, by simp⟩
  | top => exact ⟨1, by simp⟩
  | coe a => exact ⟨_, rfl⟩

theorem isReal_logistic (x : EReal) : IsReal (Ideal.logistic x) := by
  induction x with
  | bot => exact ⟨0, by simp⟩
  | top => exact ⟨1, by simp⟩
  | coe a => exact ⟨_, Ideal.logistic_coe a⟩

/-! ## The row's results -/

/-- A decay's logarithm. -/
def decay (w0 : Fin 512 → EReal) (l : Fin 64 → EReal) (w : Fin 64 → Fin 512 → EReal) (q : Fin 512) : EReal :=
  Ideal.ofBits .f32 0xBF1B4598#32 * Ideal.logistic (w0 q + ∑ k : Fin 64, Ideal.tanh (l k) * w k q)

/-- The in-context learning rate. -/
def rate (a0 : Fin 512 → EReal) (l : Fin 64 → EReal) (w : Fin 64 → Fin 512 → EReal) (q : Fin 512) : EReal :=
  Ideal.logistic (a0 q + ∑ k : Fin 64, l k * w k q)

/-- The output gate. -/
def gate (l : Fin 128 → EReal) (w : Fin 128 → Fin 512 → EReal) (q : Fin 512) : EReal := ∑ k : Fin 128, Ideal.logistic (l k) * w k q

/-- A key times its rate's factor. -/
def keyed (k a ka : Fin 512 → EReal) (q : Fin 512) : EReal :=
  k q * (1 + (a q - 1) * ka q)

/-- A head's sum. -/
def headSum (z : Fin 512 → EReal) (h : Fin 8) : EReal := ∑ k, z (col h k)

/-- A row over its heads' norms. -/
def unit (z : Fin 512 → EReal) (q : Fin 512) : EReal :=
  Ideal.div (z q) (max (Ideal.sqrt (headSum (fun q => z q * z q) (head q))) (Ideal.ofBits .f32 0x2B8CBCCC#32))

/-- The bonus. -/
def bonus (s v : Fin 512 → EReal) (q : Fin 512) : EReal := headSum s (head q) * v q

theorem isReal_one : IsReal 1 := ⟨1, EReal.coe_one.symm⟩

theorem isReal_keyed {k a ka : Fin 512 → EReal} (hk : ∀ q, IsReal (k q)) (ha : ∀ q, IsReal (a q)) (hka : ∀ q, IsReal (ka q)) (q : Fin 512) : IsReal (keyed k a ka q) :=
  (hk q).mul (isReal_one.add (((ha q).sub isReal_one).mul (hka q)))

/-! ## The kernel's payloads at an index -/

section Kernel

open Cert.Kernel4Ideal Cert.Kernel4Ideal.Gen

/-- Row `r` of an array is `f`. -/
def Row {n : ℕ} (v : (⟨2, ![256, n]⟩ : Shape).Idx → EReal) (r : Fin 256) (f : Fin n → EReal) : Prop :=
  ∀ q, v (ix2 r q) = f q

variable {r : Fin 256}

section Low

variable {x : Vec Ideal S1x256x128 .f32} {p : Vec Ideal S1x512 .f32} {W : Vec Ideal S384x512 .bf16} {w : Fin 64 → Fin 512 → EReal}

theorem pay68_row (hW : Stacked W (first w)) (hw : ∀ k q, IsReal (w k q)) (q : Fin 512) :
    k0_pay68 (k0_pay66 x) (k0_pay67 p) W (ix3 0 r q) = decay (fun q => p (ix2 0 q)) (fun k => x (ix3 0 r ⟨k.val, by omega⟩)) w q := by
  pointwise [k0_pay68, k0_pay67, k0_pay66]
  refine congrArg (fun s => _ * Ideal.logistic (_ + s)) ?_
  exact (sum_stacked hW (u := fun k => Ideal.tanh (x (ix3 0 r k))) q (fun k => .inl (isReal_tanh _)) (isReal_first hw)).trans (sum_first _ _ q)

theorem pay69_row (hW : Stacked W (last w)) (hw : ∀ k q, IsReal (w k q)) (q : Fin 512) :
    k0_pay69 (k0_pay66 x) p W (ix3 0 r q) = decay (fun q => p (ix2 0 q)) (fun k => x (ix3 0 r ⟨64 + k.val, by omega⟩)) w q := by
  pointwise [k0_pay69, k0_pay66]
  refine congrArg (fun s => _ * Ideal.logistic (_ + s)) ?_
  exact (sum_stacked hW (u := fun k => Ideal.tanh (x (ix3 0 r k))) q (fun k => .inl (isReal_tanh _)) (isReal_last hw)).trans (sum_last _ _ q)

theorem pay72_row (hW : Stacked W (first w)) (hw : ∀ k q, IsReal (w k q)) (hx : ∀ k : Fin 64, IsReal (x (ix3 0 r ⟨k.val, by omega⟩))) :
    Row (k0_pay72 (k0_pay70 p) (k0_pay71 x) W) r (rate (fun q => p (ix2 0 q)) (fun k => x (ix3 0 r ⟨k.val, by omega⟩)) w) := by
  intro q
  pointwise [k0_pay72, k0_pay71, k0_pay70]
  refine congrArg (fun s => Ideal.logistic (_ + s)) ?_
  refine (sum_stacked hW (u := fun k => x (ix3 0 r k)) q (fun k => ?_) (isReal_first hw)).trans (sum_first _ _ q)
  by_cases h : k.val < 64
  · exact .inl (hx ⟨k.val, h⟩)
  · exact .inr (dif_neg h)

theorem pay73_row {g : Fin 128 → Fin 512 → EReal} (hW : Stacked W g) (hg : ∀ k q, IsReal (g k q)) (q : Fin 512) :
    k0_pay73 x W (ix3 0 r q) = gate (fun k => x (ix3 0 r k)) g q := by
  pointwise [k0_pay73]
  exact sum_stacked hW (u := fun k => Ideal.logistic (x (ix3 0 r k))) q (fun k => .inl (isReal_logistic _)) hg

end Low

section Sections

variable {v : FVec Ideal S256x512 .f32} {s : Fin 512 → EReal}

theorem pay62_row (h : Row v r s) (q : Fin 512) : k0_pay62 v (ix3 0 r q) = s q * Ideal.logistic (s q) := by
  pointwise [k0_pay62]
  rw [h]

theorem pay63_row (h : Row v r s) (q : Fin 512) : k0_pay63 v (ix3 0 r q) = s q * Ideal.logistic (s q) * Ideal.ofBits .f32 0x3E000000#32 := by
  pointwise [k0_pay63]
  rw [h]

theorem pay64_row (h : Row v r s) (q : Fin 512) : k0_pay64 v (ix3 0 r q) = s q := by
  pointwise [k0_pay64]
  rw [h]

theorem pay65_row {a : IVec S256x1 1} {b c d : FVec Ideal S256x512 .f32} {e : Ideal .f32} {f : IVec S256x512 1} (h : Row (k0_pay61 a b c d e f) r s) (q : Fin 512) :
    k0_pay65 a b c d e f (ix3 0 r q) = s q := by
  pointwise [k0_pay65]
  exact h q

variable {u a : FVec Ideal S256x512 .f32} {rr k al : Fin 512 → EReal} {p p' : Vec Ideal S1x512 .f32} {bd : Vec Ideal S512x256 .bf16}

theorem pay83_row (hu : Row u r k) (ha : Row a r al) : Row (k0_pay83 u a p) r (keyed k al fun q => p (ix2 0 q)) := by
  intro q
  pointwise [k0_pay83]
  rw [hu, ha]
  rfl

theorem pay86_row (hu : Row u r k) (ha : Row a r al) (q : Fin 512) : k0_pay86 u a p (ix3 0 r q) = keyed k al (fun q => p (ix2 0 q)) q := by
  pointwise [k0_pay86]
  exact pay83_row hu ha q

theorem pay74_row (hu : Row u r k) : Row (k0_pay74 u p) r fun q => k q * p (ix2 0 q) := by
  intro q
  pointwise [k0_pay74]
  rw [hu]

theorem pay82_row (hbd : OfHeads bd) (hu : Row u r k) (hk : ∀ q, IsReal (k q * p (ix2 0 q))) :
    Row (k0_pay82 (k0_pay74 u p) (k0_pay76 bd) (k0_pay79 u p bd) (k0_pay80 u p) (k0_pay81 u p)) r (unit fun q => k q * p (ix2 0 q)) := by
  have h75 : ∀ q, k0_pay75 u p (ix2 r q) = k q * p (ix2 0 q) * (k q * p (ix2 0 q)) := fun q => by
    pointwise [k0_pay75]
    rw [pay74_row hu q]
  refine halves (fun q => ?_) fun q => ?_
  · pointwise [k0_pay82, k0_pay79, k0_pay80, k0_pay81, k0_pay78, k0_pay77, k0_pay76]
    simp only [h75]
    rw [pay74_row hu _]
    refine congrArg (fun s => Ideal.div _ (max (Ideal.sqrt s) _)) ?_
    exact sum_heads hbd (u := fun x : Fin 256 => k ⟨x.val, by omega⟩ * p (ix2 0 ⟨x.val, by omega⟩) * (k ⟨x.val, by omega⟩ * p (ix2 0 ⟨x.val, by omega⟩))) (fun x => (hk _).mul (hk _)) q
  · pointwise [k0_pay82, k0_pay79, k0_pay80, k0_pay81, k0_pay78, k0_pay77, k0_pay76]
    simp only [h75]
    rw [pay74_row hu _]
    refine congrArg (fun s => Ideal.div _ (max (Ideal.sqrt s) _)) ?_
    refine (sum_heads hbd (u := fun x : Fin 256 => k ⟨256 + x.val, by omega⟩ * p (ix2 0 ⟨256 + x.val, by omega⟩) * (k ⟨256 + x.val, by omega⟩ * p (ix2 0 ⟨256 + x.val, by omega⟩)))
      (fun x => (hk _).mul (hk _)) q).trans ?_
    refine Finset.sum_congr rfl fun x _ => ?_
    have e : (⟨256 + (q.val / 64 * 64 + x.val), by omega⟩ : Fin 512) = col (head ⟨256 + q.val, by omega⟩) x := Fin.ext (by show 256 + (q.val / 64 * 64 + x.val) = (256 + q.val) / 64 * 64 + x.val; omega)
    exact congrArg (fun i => k i * p (ix2 0 i) * (k i * p (ix2 0 i))) e

theorem pay84_row (hbd : OfHeads bd) (hu : Row u r k) (hk : ∀ q, IsReal (k q * p (ix2 0 q))) (q : Fin 512) :
    k0_pay84 (k0_pay74 u p) (k0_pay76 bd) (k0_pay79 u p bd) (k0_pay80 u p) (k0_pay81 u p) (ix3 0 r q) = unit (fun q => k q * p (ix2 0 q)) q := by
  pointwise [k0_pay84]
  exact pay82_row hbd hu hk q

theorem pay85_row (hbd : OfHeads bd) (hu : Row u r k) (hk : ∀ q, IsReal (k q * p (ix2 0 q))) (ha : Row a r al) (q : Fin 512) :
    k0_pay85 a (k0_pay74 u p) (k0_pay76 bd) (k0_pay79 u p bd) (k0_pay80 u p) (k0_pay81 u p) (ix3 0 r q) = unit (fun q => k q * p (ix2 0 q)) q * al q := by
  pointwise [k0_pay85]
  rw [ha]
  exact congrArg (· * al q) (pay82_row hbd hu hk q)

variable {v2 : FVec Ideal S256x512 .f32}

theorem pay1_row (hbd : OfHeads bd) (hr : Row v2 r rr) (hu : Row u r k) (ha : Row a r al) (hv : Row v r s)
    (hs : ∀ q, IsReal (rr q * keyed k al (fun q => p (ix2 0 q)) q * p' (ix2 0 q))) (q : Fin 512) :
    k0_pay1 v (k0_pay88 bd) (k0_pay89 v2 u a p p') (k0_pay90 v2 u a p p') (k0_pay91 v2 u a p p') (ix3 0 r q)
      = bonus (fun q => rr q * keyed k al (fun q => p (ix2 0 q)) q * p' (ix2 0 q)) s q := by
  have h87 : ∀ q, k0_pay87 v2 u a p p' (ix2 r q) = rr q * keyed k al (fun q => p (ix2 0 q)) q * p' (ix2 0 q) := fun q => by
    pointwise [k0_pay87]
    rw [hr, pay83_row hu ha q]
  revert q
  refine halves (fun q => ?_) fun q => ?_
  · pointwise [k0_pay1, k0_pay91, k0_pay90, k0_pay89, k0_pay88]
    simp only [h87]
    rw [hv]
    refine congrArg (· * _) ?_
    exact sum_heads hbd (u := fun x : Fin 256 => rr ⟨x.val, by omega⟩ * keyed k al (fun q => p (ix2 0 q)) ⟨x.val, by omega⟩ * p' (ix2 0 ⟨x.val, by omega⟩)) (fun x => hs _) q
  · pointwise [k0_pay1, k0_pay91, k0_pay90, k0_pay89, k0_pay88]
    simp only [h87]
    rw [hv]
    refine congrArg (· * _) ?_
    refine (sum_heads hbd (u := fun x : Fin 256 => rr ⟨256 + x.val, by omega⟩ * keyed k al (fun q => p (ix2 0 q)) ⟨256 + x.val, by omega⟩ * p' (ix2 0 ⟨256 + x.val, by omega⟩))
      (fun x => hs _) q).trans ?_
    refine Finset.sum_congr rfl fun x _ => ?_
    have e : (⟨256 + (q.val / 64 * 64 + x.val), by omega⟩ : Fin 512) = col (head ⟨256 + q.val, by omega⟩) x := Fin.ext (by show 256 + (q.val / 64 * 64 + x.val) = (256 + q.val) / 64 * 64 + x.val; omega)
    exact congrArg (fun i => rr i * keyed k al (fun q => p (ix2 0 q)) i * p' (ix2 0 i)) e

end Sections

end Kernel

end Cert.Prep

end
-- ==== Proof.Prep.Reads.lean ====
/-
  What the preparation's steps read: the windows' blocks, and the parts of them loaded, of the arguments.
-/
module

public import proofs.«01_k».proof.Proof.Gen.Kernel4Ideal.Value
public import proofs.«01_k».proof.Proof.Prep.Rows
public import Idealize.ShloMosaic.Lib.Pipeline.ValueKit
public import Idealize.ShloMosaic.Lib.StableHlo.RunRead
public import Idealize.ShloMosaic.Lib.Pointwise

@[expose] public section

set_option maxRecDepth 16384

noncomputable section

namespace Cert.Kernel4Ideal.Prep

open Cert.Kernel4Ideal Cert.Kernel4Ideal.Gen Cert.Kernel4Ideal.Value
open Idealize.ShloMosaic
open Idealize.ShloMosaic.TcCoe
open Cert.Prep

variable (m : (ℓ : Loc nD τ sig) → Buf (Elt Ideal) ℓ) (c : Dev nD)

/-- The windows' block indices at point `t = 17 i + j`: sequence `i`, its block `j`; the halos' blocks are a quarter as long. -/
theorem idx : ∀ t : Fin cfg0.N, win0_0.index t = ![t.val / 17, 4 * (t.val % 17) - 1, 0] ∧ win0_1.index t = ![t.val / 17, t.val % 17, 0]
    ∧ win0_2.index t = ![t.val / 17, min (4 * (t.val % 17) + 4) 67, 0] ∧ win0_3.index t = ![t.val / 17, t.val % 17, 3]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] := by
  decide +kernel

theorem idx_out : ∀ t : Fin cfg0.N, win0_11.index t = ![t.val / 17, t.val % 17, 0] ∧ win0_12.index t = ![t.val / 17, t.val % 17, 0]
    ∧ win0_13.index t = ![t.val / 17, t.val % 17, 0] ∧ win0_14.index t = ![t.val / 17, t.val % 17, 0] ∧ win0_15.index t = ![t.val / 17, t.val % 17, 0]
    ∧ win0_16.index t = ![t.val / 17, t.val % 17, 0] ∧ win0_17.index t = ![t.val / 17, t.val % 17, 0] ∧ win0_18.index t = ![t.val / 17, t.val % 17, 0]
    ∧ win0_19.index t = ![t.val / 17, t.val % 17, 0] ∧ win0_20.index t = ![t.val / 17, t.val % 17, 0] ∧ win0_21.index t = ![t.val / 17, t.val % 17, 0] := by
  decide +kernel

/-- The block of point `t`. -/
theorem coord : ∀ t : Fin cfg0.N, (grid0.coords t 1).val = t.val % 17 := by
  decide +kernel

/-- The sequence of point `t`. -/
abbrev seqOf (t : Fin cfg0.N) : Fin 16 := ⟨t.val / 17, by have ht : t.val < 272 := t.isLt; omega⟩

/-- Row `r` of point `t`'s block among the sequence's. -/
abbrev rowOf (t : Fin cfg0.N) (r : Fin 256) : Fin 4352 := ⟨256 * (t.val % 17) + r.val, by omega⟩

/-! ## The blocks -/

theorem main_at (t : Fin cfg0.N) (r : Fin 256) (k : Fin 2560) : iblk m c 1 t (ix3 0 r k) = m ((c : Thread nD τ).loc main_arg0) (ix3 (seqOf t) (rowOf t r) k) := by
  blk_ext [iblk, V, (idx t).2.1]

theorem top_at (t : Fin cfg0.N) (r : Fin 64) (k : Fin 2560) :
    iblk m c 0 t (ix3 0 r k) = m ((c : Thread nD τ).loc main_arg0) (ix3 (seqOf t) ⟨64 * (4 * (t.val % 17) - 1) + r.val, by omega⟩ k) := by
  blk_ext [iblk, V, (idx t).1]

theorem bottom_at (t : Fin cfg0.N) (r : Fin 64) (k : Fin 2560) :
    iblk m c 2 t (ix3 0 r k) = m ((c : Thread nD τ).loc main_arg0) (ix3 (seqOf t) ⟨64 * min (4 * (t.val % 17) + 4) 67 + r.val, by omega⟩ k) := by
  blk_ext [iblk, V, (idx t).2.2.1]

theorem tail_at (t : Fin cfg0.N) (r : Fin 256) (k : Fin 384) :
    iblk m c 3 t (ix3 0 r k) = m ((c : Thread nD τ).loc main_arg1) (ix3 (seqOf t) (rowOf t r) ⟨1152 + k.val, by omega⟩) := by
  blk_ext [iblk, V, (idx t).2.2.2.1]

theorem taps_block (t : Fin cfg0.N) (k : Fin 16) (q : Fin 2560) : iblk m c 4 t (ix2 k q) = V m c main_v2 (ix2 k q) := by
  blk_ext [iblk, (idx t).2.2.2.2.1]

theorem par_block (t : Fin cfg0.N) (k : Fin 8) (q : Fin 512) : iblk m c 5 t (ix2 k q) = V m c main_v8 (ix2 k q) := by
  blk_ext [iblk, (idx t).2.2.2.2.2.1]

theorem wf_block (t : Fin cfg0.N) (k : Fin 384) (q : Fin 512) : iblk m c 6 t (ix2 k q) = V m c main_v23 (ix2 k q) := by
  blk_ext [iblk, (idx t).2.2.2.2.2.2.1]

theorem wb_block (t : Fin cfg0.N) (k : Fin 384) (q : Fin 512) : iblk m c 7 t (ix2 k q) = V m c main_v28 (ix2 k q) := by
  blk_ext [iblk, (idx t).2.2.2.2.2.2.2.1]

theorem a_block (t : Fin cfg0.N) (k : Fin 384) (q : Fin 512) : iblk m c 8 t (ix2 k q) = V m c main_v33 (ix2 k q) := by
  blk_ext [iblk, (idx t).2.2.2.2.2.2.2.2.1]

theorem g_block (t : Fin cfg0.N) (k : Fin 384) (q : Fin 512) : iblk m c 9 t (ix2 k q) = V m c main_v38 (ix2 k q) := by
  blk_ext [iblk, (idx t).2.2.2.2.2.2.2.2.2.1]

theorem heads_block (t : Fin cfg0.N) (k : Fin 512) (q : Fin 256) : iblk m c 10 t (ix2 k q) = V m c main_v48 (ix2 k q) := by
  blk_ext [iblk, (idx t).2.2.2.2.2.2.2.2.2.2]

/-! ## What the host makes of the weights -/

theorem taps_entry (a dc : Fin 3) (ch : Fin 2560) :
    V m c main_v2 (ix2 ⟨3 * a.val + dc.val, by omega⟩ ch) = m ((c : Thread nD τ).loc main_arg2) (ix3 a dc ch) := by
  entry_read
  pointwise
  rw [dif_pos (by omega)]
  refine congrArg₂ (fun i j => m ((c : Thread nD τ).loc main_arg2) (ix3 i j ch)) (Fin.ext ?_) (Fin.ext ?_)
  · show (3 * a.val + dc.val) / 3 = a.val
    omega
  · show (3 * a.val + dc.val) % 3 = dc.val
    omega

/-- The rows of the parameters. -/
theorem par_entry0 (q : Fin 512) : V m c main_v8 (ix2 0 q) = m ((c : Thread nD τ).loc main_arg3) (ix2 0 q) := by
  after_reads_simp
  pointwise

theorem par_entry1 (q : Fin 512) : V m c main_v8 (ix2 1 q) = m ((c : Thread nD τ).loc main_arg3) (ix2 1 q) := by
  after_reads_simp
  pointwise

theorem par_entry2 (q : Fin 512) : V m c main_v8 (ix2 2 q) = m ((c : Thread nD τ).loc main_arg5) (ix1 q) := by
  after_reads_simp
  pointwise
  after_reads_simp
  pointwise

theorem par_entry3 (q : Fin 512) : V m c main_v8 (ix2 3 q) = m ((c : Thread nD τ).loc main_arg8) (ix1 q) := by
  after_reads_simp
  pointwise
  after_reads_simp
  pointwise

theorem par_entry4 (q : Fin 512) : V m c main_v8 (ix2 4 q) = m ((c : Thread nD τ).loc main_arg9) (ix1 q) := by
  after_reads_simp
  pointwise
  after_reads_simp
  pointwise

theorem par_entry5 (q : Fin 512) : V m c main_v8 (ix2 5 q) = m ((c : Thread nD τ).loc main_arg10) (ix2 ⟨q.val / 64, by omega⟩ ⟨q.val % 64, by omega⟩) := by
  after_reads_simp
  pointwise
  after_reads_simp
  pointwise

/-- The low-rank weights. -/
theorem wf_stacked : Stacked (V m c main_v23) (first fun k q => m ((c : Thread nD τ).loc main_arg4) (ix3 0 k q)) := by
  intro k q
  unfold first
  refine ⟨?_, ?_, ?_⟩
  all_goals
    after_reads_simp
    pointwise
    after_reads_simp
    pointwise
    after_reads_simp
    pointwise
    try rfl

theorem wb_stacked : Stacked (V m c main_v28) (last fun k q => m ((c : Thread nD τ).loc main_arg4) (ix3 1 k q)) := by
  intro k q
  unfold last
  refine ⟨?_, ?_, ?_⟩
  all_goals
    after_reads_simp
    pointwise
    after_reads_simp
    pointwise
    after_reads_simp
    pointwise
    try rfl

theorem a_stacked : Stacked (V m c main_v33) (first fun k q => m ((c : Thread nD τ).loc main_arg6) (ix2 k q)) := by
  intro k q
  unfold first
  refine ⟨?_, ?_, ?_⟩
  all_goals
    after_reads_simp
    pointwise
    after_reads_simp
    pointwise
    after_reads_simp
    pointwise
    try rfl

theorem g_stacked : Stacked (V m c main_v38) (fun k q => m ((c : Thread nD τ).loc main_arg7) (ix2 k q)) := by
  intro k q
  refine ⟨?_, ?_, ?_⟩
  all_goals
    after_reads_simp
    pointwise
    after_reads_simp
    pointwise
    try rfl

/-- The matrix of the heads. -/
theorem quotient : ∀ k : Fin 256, IntOp.divsi ArithUnit.host (BitVec.ofNat 32 k.val) 64#32 = BitVec.ofNat 32 (k.val / 64) := by
  decide +kernel

theorem equal : ∀ a b : Fin 4, IntOp.cmpi .eq (BitVec.ofNat 32 a.val) (BitVec.ofNat 32 b.val) = if a.val = b.val then 1#1 else 0#1 := by
  decide +kernel

theorem heads_entry (k q : Fin 256) : V m c main_v48 (ix2 ⟨k.val, by omega⟩ q) = ((if k.val / 64 = q.val / 64 then 1 else 0 : EReal) : EReal) := by
  after_reads_simp
  pointwise
  rw [quotient, quotient, equal ⟨k.val / 64, by omega⟩ ⟨q.val / 64, by omega⟩]
  by_cases h : k.val / 64 = q.val / 64
  · rw [if_pos h, if_pos h]
    show (((1#1 : BitVec 1).toNat : ℝ) : EReal) = 1
    simp
  · rw [if_neg h, if_neg h]
    show (((0#1 : BitVec 1).toNat : ℝ) : EReal) = 0
    simp

theorem heads_at (t : Fin cfg0.N) : Cert.Outproj.OfHeads (iblk m c 10 t) := fun k q =>
  (heads_block m c t _ q).trans (heads_entry m c k q)

theorem wf_at (t : Fin cfg0.N) : Stacked (iblk m c 6 t) (first fun k q => m ((c : Thread nD τ).loc main_arg4) (ix3 0 k q)) := fun k q =>
  ⟨(wf_block m c t _ q).trans (wf_stacked m c k q).1, (wf_block m c t _ q).trans (wf_stacked m c k q).2.1, (wf_block m c t _ q).trans (wf_stacked m c k q).2.2⟩

theorem wb_at (t : Fin cfg0.N) : Stacked (iblk m c 7 t) (last fun k q => m ((c : Thread nD τ).loc main_arg4) (ix3 1 k q)) := fun k q =>
  ⟨(wb_block m c t _ q).trans (wb_stacked m c k q).1, (wb_block m c t _ q).trans (wb_stacked m c k q).2.1, (wb_block m c t _ q).trans (wb_stacked m c k q).2.2⟩

theorem a_at (t : Fin cfg0.N) : Stacked (iblk m c 8 t) (first fun k q => m ((c : Thread nD τ).loc main_arg6) (ix2 k q)) := fun k q =>
  ⟨(a_block m c t _ q).trans (a_stacked m c k q).1, (a_block m c t _ q).trans (a_stacked m c k q).2.1, (a_block m c t _ q).trans (a_stacked m c k q).2.2⟩

theorem g_at (t : Fin cfg0.N) : Stacked (iblk m c 9 t) (fun k q => m ((c : Thread nD τ).loc main_arg7) (ix2 k q)) := fun k q =>
  ⟨(g_block m c t _ q).trans (g_stacked m c k q).1, (g_block m c t _ q).trans (g_stacked m c k q).2.1, (g_block m c t _ q).trans (g_stacked m c k q).2.2⟩

/-! ## The parts loaded -/

theorem ld_main (X : Vec Ideal S1x256x2560 .f32) (o : ℕ) (ho : o + 512 ≤ 2560) (i) (r : Fin 256) (q : Fin 512) :
    View.ld X (Rect.unit ![0, 0, o] ![1, 256, 512] i) (ix3 0 r q) = X (ix3 0 r ⟨o + q.val, by omega⟩) := by
  pointwise

theorem ld_halo (X : Vec Ideal S1x64x2560 .f32) (o : ℕ) (ho : o + 512 ≤ 2560) (i) (r : Fin 64) (q : Fin 512) :
    View.ld X (Rect.unit ![0, 0, o] ![1, 64, 512] i) (ix3 0 r q) = X (ix3 0 r ⟨o + q.val, by omega⟩) := by
  pointwise

theorem ld_taps (X : Vec Ideal S16x2560 .f32) (a : Fin 3) (o : ℕ) (ho : o + 512 ≤ 2560) (i) (k : Fin 3) (q : Fin 512) :
    View.ld X (Rect.unit ![3 * a.val, o] ![3, 512] i) (ix2 k q) = X (ix2 ⟨3 * a.val + k.val, by omega⟩ ⟨o + q.val, by omega⟩) := by
  pointwise

theorem ld_tail (X : Vec Ideal S1x256x384 .f32) (o : ℕ) (ho : o + 128 ≤ 384) (i) (r : Fin 256) (k : Fin 128) :
    View.ld X (Rect.unit ![0, 0, o] ![1, 256, 128] i) (ix3 0 r k) = X (ix3 0 r ⟨o + k.val, by omega⟩) := by
  pointwise

theorem ld_par (X : Vec Ideal S8x512 .f32) (o : Fin 8) (i) (q : Fin 512) :
    View.ld X (Rect.unit ![o.val, 0] ![1, 512] i) (ix2 0 q) = X (ix2 o q) := by
  pointwise

/-! ## Where the results' blocks lie -/

theorem place_11 (t : Fin cfg0.N) (r : Fin 256) (q : Fin 512) :
    ((cfg0.win 11).blk t).view.emb (ix3 0 r q) = (ix3 (seqOf t) (rowOf t r) q : S16x4352x512.Idx) := by
  blk_ext [(idx_out t).1]

theorem place_12 (t : Fin cfg0.N) (r : Fin 256) (q : Fin 512) :
    ((cfg0.win 12).blk t).view.emb (ix3 0 r q) = (ix3 (seqOf t) (rowOf t r) q : S16x4352x512.Idx) := by
  blk_ext [(idx_out t).2.1]

theorem place_13 (t : Fin cfg0.N) (r : Fin 256) (q : Fin 512) :
    ((cfg0.win 13).blk t).view.emb (ix3 0 r q) = (ix3 (seqOf t) (rowOf t r) q : S16x4352x512.Idx) := by
  blk_ext [(idx_out t).2.2.1]

theorem place_14 (t : Fin cfg0.N) (r : Fin 256) (q : Fin 512) :
    ((cfg0.win 14).blk t).view.emb (ix3 0 r q) = (ix3 (seqOf t) (rowOf t r) q : S16x4352x512.Idx) := by
  blk_ext [(idx_out t).2.2.2.1]

theorem place_15 (t : Fin cfg0.N) (r : Fin 256) (q : Fin 512) :
    ((cfg0.win 15).blk t).view.emb (ix3 0 r q) = (ix3 (seqOf t) (rowOf t r) q : S16x4352x512.Idx) := by
  blk_ext [(idx_out t).2.2.2.2.1]

theorem place_16 (t : Fin cfg0.N) (r : Fin 256) (q : Fin 512) :
    ((cfg0.win 16).blk t).view.emb (ix3 0 r q) = (ix3 (seqOf t) (rowOf t r) q : S16x4352x512.Idx) := by
  blk_ext [(idx_out t).2.2.2.2.2.1]

theorem place_17 (t : Fin cfg0.N) (r : Fin 256) (q : Fin 512) :
    ((cfg0.win 17).blk t).view.emb (ix3 0 r q) = (ix3 (seqOf t) (rowOf t r) q : S16x4352x512.Idx) := by
  blk_ext [(idx_out t).2.2.2.2.2.2.1]

theorem place_18 (t : Fin cfg0.N) (r : Fin 256) (q : Fin 512) :
    ((cfg0.win 18).blk t).view.emb (ix3 0 r q) = (ix3 (seqOf t) (rowOf t r) q : S16x4352x512.Idx) := by
  blk_ext [(idx_out t).2.2.2.2.2.2.2.1]

theorem place_19 (t : Fin cfg0.N) (r : Fin 256) (q : Fin 512) :
    ((cfg0.win 19).blk t).view.emb (ix3 0 r q) = (ix3 (seqOf t) (rowOf t r) q : S16x4352x512.Idx) := by
  blk_ext [(idx_out t).2.2.2.2.2.2.2.2.1]

theorem place_20 (t : Fin cfg0.N) (r : Fin 256) (q : Fin 512) :
    ((cfg0.win 20).blk t).view.emb (ix3 0 r q) = (ix3 (seqOf t) (rowOf t r) q : S16x4352x512.Idx) := by
  blk_ext [(idx_out t).2.2.2.2.2.2.2.2.2.1]

theorem place_21 (t : Fin cfg0.N) (r : Fin 256) (q : Fin 512) :
    ((cfg0.win 21).blk t).view.emb (ix3 0 r q) = (ix3 (seqOf t) (rowOf t r) q : S16x4352x512.Idx) := by
  blk_ext [(idx_out t).2.2.2.2.2.2.2.2.2.2]

end Cert.Kernel4Ideal.Prep

end
-- ==== Proof.Prep.Conv.lean ====
/-
  The depthwise convolution of the preparation: its value at a token, and the kernel's way to it, a block of 256 rows with a halo of 64 on either side.
-/
module

public import Idealize.ShloMosaic.PureOps.Ideal
public import Idealize.ShloMosaic.Lib.Pointwise

@[expose] public section

set_option maxRecDepth 16384

noncomputable section

namespace Cert.Prep

open Idealize.ShloMosaic

variable (pc : (⟨3, ![16, 4352, 2560]⟩ : Shape).Idx → EReal) (w : (⟨3, ![3, 3, 2560]⟩ : Shape).Idx → EReal)

/-- Token `n - 65` of sequence `b` where it is of those from `lo` to `hi`, else zero. -/
def within (b : Fin 16) (lo hi n : ℕ) (ch : Fin 2560) : EReal :=
  if h : lo + 65 ≤ n ∧ n < hi + 65 ∧ n < 4352 + 65 then pc (ix3 b ⟨n - 65, by omega⟩ ch) else 0

/-- What token `g`'s convolution takes at row `dr` and column `dc` of the 3 by 3 about it. The 256 tokens of the context are a line of their own, the others a grid 64 wide. -/
def tap (b : Fin 16) (g : ℕ) (dr dc : Fin 3) (ch : Fin 2560) : EReal :=
  if g < 256 then (if dr = 1 then within pc b 0 256 (g + 64 * dr.val + dc.val) ch else 0)
  else if 1 ≤ g % 64 + dc.val ∧ g % 64 + dc.val < 65 then within pc b 256 4352 (g + 64 * dr.val + dc.val) ch else 0

/-- The convolution's column `dc`. -/
def convCol (b : Fin 16) (g : ℕ) (ch : Fin 2560) (dc : Fin 3) : EReal :=
  tap pc b g 0 dc ch * w (ix3 0 dc ch) + tap pc b g 1 dc ch * w (ix3 1 dc ch) + tap pc b g 2 dc ch * w (ix3 2 dc ch)

/-- The convolution at token `g`. -/
def conv (b : Fin 16) (g : ℕ) (ch : Fin 2560) : EReal := convCol pc w b g ch 0 + convCol pc w b g ch 1 + convCol pc w b g ch 2

/-- Row `k` of the 384 about block `j` of sequence `b`: 64 before the block, its 256, 64 after; zero where the halo is not of the grid. -/
def rows (b : Fin 16) (j : ℕ) (ch : Fin 2560) (k : ℕ) : EReal :=
  if h : (64 ≤ k ∨ 2 ≤ j) ∧ (k < 320 ∨ 1 ≤ j ∧ j < 16) ∧ 64 ≤ 256 * j + k ∧ 256 * j + k - 64 < 4352 then pc (ix3 b ⟨256 * j + k - 64, h.2.2.2⟩ ch) else 0

/-- A column of the convolution over 384 rows `x` by weights `u`, the outer rows' scaled by `v`. -/
def blockCol (x : ℕ → EReal) (u : Fin 3 → Fin 3 → EReal) (v : EReal) (dc : Fin 3) (r : ℕ) : EReal :=
  x r * (u 0 dc * v) + x (64 + r) * u 1 dc + x (128 + r) * (u 2 dc * v)

/-- The kernel's convolution at row `r`: the outer columns a row up and a row down, where the row has them. -/
def blockConv (L R : Prop) [Decidable L] [Decidable R] (x : ℕ → EReal) (u : Fin 3 → Fin 3 → EReal) (v : EReal) (r : ℕ) : EReal :=
  (if L then blockCol x u v 0 ((r + 256 - 1) % 256) else 0) + blockCol x u v 1 r + (if R then blockCol x u v 2 ((r + 256 - 255) % 256) else 0)

/-- The first column of a row, and the last, of block `j`. -/
def isLeft (j r : ℕ) : Prop := if j = 0 then r = 0 else r % 64 = 0
def isRight (j r : ℕ) : Prop := if j = 0 then r = 255 else r % 64 = 63

instance (j r : ℕ) : Decidable (isLeft j r) := by unfold isLeft; infer_instance
instance (j r : ℕ) : Decidable (isRight j r) := by unfold isRight; infer_instance

/-- The scale of the outer rows: the context has none. -/
def vert (j : ℕ) : EReal := if j = 0 then 0 else 1

variable {pc}

theorem rows_within (b : Fin 16) {j : ℕ} (hj : 1 ≤ j) (hj' : j < 17) (ch : Fin 2560) {k : ℕ} (hk : k < 384) :
    rows pc b j ch k = within pc b 256 4352 (256 * j + k + 1) ch := by
  unfold rows within
  by_cases h : (64 ≤ k ∨ 2 ≤ j) ∧ (k < 320 ∨ 1 ≤ j ∧ j < 16) ∧ 64 ≤ 256 * j + k ∧ 256 * j + k - 64 < 4352
  · rw [dif_pos h, dif_pos (by omega)]
    exact congrArg (fun n => pc (ix3 b n ch)) (Fin.ext (by show 256 * j + k - 64 = 256 * j + k + 1 - 65; omega))
  · rw [dif_neg h, dif_neg (by omega)]

theorem rows_context (b : Fin 16) (ch : Fin 2560) {k : ℕ} (hk : k < 256) :
    rows pc b 0 ch (64 + k) = within pc b 0 256 (64 + k + 1) ch := by
  unfold rows within
  rw [dif_pos (by omega), dif_pos (by omega)]
  exact congrArg (fun n => pc (ix3 b n ch)) (Fin.ext (by show 256 * 0 + (64 + k) - 64 = 64 + k + 1 - 65; omega))

/-- A column's tap, the token being one of the grid with that column. -/
theorem tap_grid (b : Fin 16) {j r : ℕ} (hj : 1 ≤ j) (hj' : j < 17) (dr dc : Fin 3) (ch : Fin 2560) (hl : 1 ≤ r % 64 + dc.val) (hr : r % 64 + dc.val < 65)
    (h : r < 256) : tap pc b (256 * j + r) dr dc ch = rows pc b j ch (64 * dr.val + (r + dc.val - 1)) := by
  unfold tap
  rw [if_neg (by omega), if_pos (by omega), rows_within b hj hj' ch (by omega)]
  congr 1
  omega

theorem tap_edge (b : Fin 16) {j r : ℕ} (hj : 1 ≤ j) (dr dc : Fin 3) (ch : Fin 2560) (h : ¬ (1 ≤ r % 64 + dc.val ∧ r % 64 + dc.val < 65)) :
    tap pc b (256 * j + r) dr dc ch = 0 := by
  unfold tap
  rw [if_neg (by omega), if_neg (by omega)]

theorem tap_line (b : Fin 16) {r : ℕ} (dc : Fin 3) (ch : Fin 2560) (h : r < 256) (hl : 1 ≤ r + dc.val) (hr : r + dc.val < 257) :
    tap pc b (256 * 0 + r) 1 dc ch = rows pc b 0 ch (64 + (r + dc.val - 1)) := by
  unfold tap
  rw [if_pos (by omega), if_pos rfl, rows_context b ch (by omega)]
  congr 1
  show 256 * 0 + r + 64 * 1 + dc.val = 64 + (r + dc.val - 1) + 1
  omega

theorem tap_end (b : Fin 16) {r : ℕ} (dc : Fin 3) (ch : Fin 2560) (h : r < 256) (hl : ¬ (1 ≤ r + dc.val ∧ r + dc.val < 257)) :
    tap pc b (256 * 0 + r) 1 dc ch = 0 := by
  unfold tap
  rw [if_pos (by omega), if_pos rfl]
  unfold within
  rw [dif_neg]
  show ¬ (0 + 65 ≤ 256 * 0 + r + 64 * 1 + dc.val ∧ _)
  omega

theorem tap_off (b : Fin 16) {r : ℕ} (dr dc : Fin 3) (ch : Fin 2560) (h : r < 256) (hd : dr ≠ 1) : tap pc b (256 * 0 + r) dr dc ch = 0 := by
  unfold tap
  rw [if_pos (by omega), if_neg hd]

variable {w}

/-- A column that the block has. -/
theorem convCol_block (b : Fin 16) {j r : ℕ} (hj' : j < 17) (h : r < 256) (dc : Fin 3) (ch : Fin 2560)
    (hc : if j = 0 then 1 ≤ r + dc.val ∧ r + dc.val < 257 else 1 ≤ r % 64 + dc.val ∧ r % 64 + dc.val < 65) {r' : ℕ} (hr' : r' = r + dc.val - 1) :
    blockCol (rows pc b j ch) (fun dr dc => w (ix3 dr dc ch)) (vert j) dc r' = convCol pc w b (256 * j + r) ch dc := by
  subst hr'
  unfold blockCol convCol vert
  by_cases h0 : j = 0
  · subst h0
    rw [if_pos rfl] at hc ⊢
    rw [tap_off b 0 dc ch h (by decide), tap_off b 2 dc ch h (by decide), tap_line b dc ch h hc.1 hc.2]
    simp
  · rw [if_neg h0] at hc ⊢
    rw [tap_grid b (by omega) hj' 0 dc ch hc.1 hc.2 h, tap_grid b (by omega) hj' 1 dc ch hc.1 hc.2 h, tap_grid b (by omega) hj' 2 dc ch hc.1 hc.2 h]
    simp

/-- A column that it has not. -/
theorem convCol_none (b : Fin 16) {j r : ℕ} (h : r < 256) (dc : Fin 3) (ch : Fin 2560)
    (hc : ¬ if j = 0 then 1 ≤ r + dc.val ∧ r + dc.val < 257 else 1 ≤ r % 64 + dc.val ∧ r % 64 + dc.val < 65) : convCol pc w b (256 * j + r) ch dc = 0 := by
  unfold convCol
  by_cases h0 : j = 0
  · subst h0
    rw [if_pos rfl] at hc
    rw [tap_off b 0 dc ch h (by decide), tap_off b 2 dc ch h (by decide), tap_end b dc ch h hc]
    simp
  · rw [if_neg h0] at hc
    rw [tap_edge b (by omega) 0 dc ch hc, tap_edge b (by omega) 1 dc ch hc, tap_edge b (by omega) 2 dc ch hc]
    simp

/-- The kernel's convolution over a block's rows is the convolution. -/
theorem blockConv_eq (b : Fin 16) {j r : ℕ} (hj : j < 17) (h : r < 256) (ch : Fin 2560) :
    blockConv (¬ isLeft j r) (¬ isRight j r) (rows pc b j ch) (fun dr dc => w (ix3 dr dc ch)) (vert j) r = conv pc w b (256 * j + r) ch := by
  unfold blockConv conv
  congr 1
  · congr 1
    · by_cases hl : isLeft j r
      · rw [if_neg (not_not.2 hl)]
        refine (convCol_none b h 0 ch ?_).symm
        unfold isLeft at hl
        split at hl <;> simp_all
      · rw [if_pos hl]
        unfold isLeft at hl
        refine convCol_block b hj h 0 ch ?_ ?_
        · split at hl <;> simp_all <;> omega
        · show (r + 256 - 1) % 256 = r + 0 - 1
          split at hl <;> omega
    · refine convCol_block b hj h 1 ch ?_ rfl
      show if j = 0 then 1 ≤ r + 1 ∧ r + 1 < 257 else 1 ≤ r % 64 + 1 ∧ r % 64 + 1 < 65
      split <;> omega
  · by_cases hr : isRight j r
    · rw [if_neg (not_not.2 hr)]
      refine (convCol_none b h 2 ch ?_).symm
      unfold isRight at hr
      show ¬ if j = 0 then 1 ≤ r + 2 ∧ r + 2 < 257 else 1 ≤ r % 64 + 2 ∧ r % 64 + 2 < 65
      split at hr <;> simp_all
    · rw [if_pos hr]
      unfold isRight at hr
      refine convCol_block b hj h 2 ch ?_ ?_
      · show if j = 0 then 1 ≤ r + 2 ∧ r + 2 < 257 else 1 ≤ r % 64 + 2 ∧ r % 64 + 2 < 65
        split at hr <;> simp_all <;> omega
      · show (r + 256 - 255) % 256 = r + 2 - 1
        split at hr <;> omega

end Cert.Prep

end
-- ==== Proof.Prep.Meant.lean ====
/-
  The preparation's results over whole arrays: each an entry at sequence `b`, token `g` and column `q`.
-/
module

public import proofs.«01_k».proof.Proof.Prep.Conv
public import proofs.«01_k».proof.Proof.Prep.Rows

@[expose] public section

set_option maxRecDepth 16384

noncomputable section

namespace Cert.Prep

open Idealize.ShloMosaic

variable (pc : (⟨3, ![16, 4352, 2560]⟩ : Shape).Idx → EReal) (pn : (⟨3, ![16, 4352, 1536]⟩ : Shape).Idx → EReal) (cw : (⟨3, ![3, 3, 2560]⟩ : Shape).Idx → EReal)
  (w0 : (⟨2, ![2, 512]⟩ : Shape).Idx → EReal) (wB : (⟨3, ![2, 64, 512]⟩ : Shape).Idx → EReal) (a0 : (⟨1, ![512]⟩ : Shape).Idx → EReal)
  (aB : (⟨2, ![64, 512]⟩ : Shape).Idx → EReal) (gB : (⟨2, ![128, 512]⟩ : Shape).Idx → EReal) (kk ka : (⟨1, ![512]⟩ : Shape).Idx → EReal)
  (bn : (⟨2, ![8, 64]⟩ : Shape).Idx → EReal) (b : Fin 16) (g : Fin 4352)

/-- Part `s` of the convolution's five. -/
def part (s : Fin 5) (q : Fin 512) : EReal := conv pc cw b g.val ⟨512 * s.val + q.val, by omega⟩

/-- The columns of the other projection the low-rank products take. -/
def lowRank (k : Fin 384) : EReal := pn (ix3 b g ⟨1152 + k.val, by omega⟩)

def qEntry (q : Fin 512) : EReal := part pc cw b g 0 q * Ideal.logistic (part pc cw b g 0 q)

def kEntry (q : Fin 512) : EReal := part pc cw b g 1 q * Ideal.logistic (part pc cw b g 1 q) * Ideal.ofBits .f32 0x3E000000#32

/-- The decay of direction `d`. -/
def decayEntry (d : Fin 2) (q : Fin 512) : EReal :=
  decay (fun q => w0 (ix2 d q)) (fun k => lowRank pn b g ⟨64 * d.val + k.val, by omega⟩) (fun k q => wB (ix3 d k q)) q

def rateEntry (q : Fin 512) : EReal :=
  rate (fun q => a0 (ix1 q)) (fun k => lowRank pn b g ⟨128 + k.val, by omega⟩) (fun k q => aB (ix2 k q)) q

def gateEntry (q : Fin 512) : EReal := gate (fun k => lowRank pn b g ⟨256 + k.val, by omega⟩) (fun k q => gB (ix2 k q)) q

def keyedEntry (q : Fin 512) : EReal := keyed (part pc cw b g 3) (rateEntry pn a0 aB b g) (fun q => ka (ix1 q)) q

/-- A key times its gain. -/
def gained (q : Fin 512) : EReal := part pc cw b g 3 q * kk (ix1 q)

def unitEntry (q : Fin 512) : EReal := unit (gained pc cw kk b g) q

/-- What the bonus sums over a head. -/
def scored (q : Fin 512) : EReal :=
  part pc cw b g 2 q * keyedEntry pc pn cw a0 aB ka b g q * bn (ix2 ⟨q.val / 64, by omega⟩ ⟨q.val % 64, by omega⟩)

def bonusEntry (q : Fin 512) : EReal := bonus (scored pc pn cw a0 aB ka bn b g) (part pc cw b g 4) q

end Cert.Prep

end
-- ==== Proof.Prep.Sections.lean ====
/-
  The sections of the preparation's convolution: a block's rows in the scratch, and the convolution over them.
-/
module

public import proofs.«01_k».proof.Proof.Prep.Reads
public import proofs.«01_k».proof.Proof.Prep.Meant
public import Idealize.ShloMosaic.Lib.Pipeline.ReadBack

@[expose] public section

set_option maxRecDepth 16384

noncomputable section

namespace Cert.Kernel4Ideal.Prep

open Cert.Kernel4Ideal Cert.Kernel4Ideal.Gen Cert.Kernel4Ideal.Value
open Idealize.ShloMosaic
open Idealize.ShloMosaic.TcCoe
open Cert.Prep
open Cert.Outproj (head col)

variable (m : (ℓ : Loc nD τ sig) → Buf (Elt Ideal) ℓ) (c : Dev nD)

/-! ## What the grid's point decides -/

theorem left_bits : ∀ (j : Fin 17) (r : Fin 256), IntOp.cmpi CmpIPredicate.ne
      (Scalar.select (Scalar.cmpi CmpIPredicate.eq (BitVec.ofNat 32 j.val) 0#32) (BitVec.ofNat 32 r.val)
        (Scalar.select
          (IntOp.andi
            (IntOp.xori (IntOp.cmpi CmpIPredicate.slt (IntOp.remsi ArithUnit.vector (BitVec.ofNat 32 r.val) (Scalar.select (Scalar.cmpi CmpIPredicate.eq 64#32 0#32) 1#32 64#32)) 0#32)
              (Scalar.cmpi CmpIPredicate.slt (Scalar.select (Scalar.cmpi CmpIPredicate.eq 64#32 0#32) 1#32 64#32) 0#32))
            (IntOp.cmpi CmpIPredicate.ne (IntOp.remsi ArithUnit.vector (BitVec.ofNat 32 r.val) (Scalar.select (Scalar.cmpi CmpIPredicate.eq 64#32 0#32) 1#32 64#32)) 0#32))
          (IntOp.addi (IntOp.remsi ArithUnit.vector (BitVec.ofNat 32 r.val) (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 r.val) (Scalar.select (Scalar.cmpi CmpIPredicate.eq 64#32 0#32) 1#32 64#32))))
      0#32 = if isLeft j.val r.val then 0#1 else 1#1 := by
  decide +kernel

theorem left_at (i : grid0.Coords) (r : Fin 256) : k0_pay3 i (ix2 r 0) = if isLeft (i 1).val r.val then 0#1 else 1#1 := by
  pointwise [k0_pay3, k0_pay2]
  exact left_bits (i 1) r

theorem right_bits : ∀ (j : Fin 17) (r : Fin 256), IntOp.cmpi CmpIPredicate.ne
      (Scalar.select (Scalar.cmpi CmpIPredicate.eq (BitVec.ofNat 32 j.val) 0#32) (BitVec.ofNat 32 r.val)
        (Scalar.select
          (IntOp.andi
            (IntOp.xori (IntOp.cmpi CmpIPredicate.slt (IntOp.remsi ArithUnit.vector (BitVec.ofNat 32 r.val) (Scalar.select (Scalar.cmpi CmpIPredicate.eq 64#32 0#32) 1#32 64#32)) 0#32)
              (Scalar.cmpi CmpIPredicate.slt (Scalar.select (Scalar.cmpi CmpIPredicate.eq 64#32 0#32) 1#32 64#32) 0#32))
            (IntOp.cmpi CmpIPredicate.ne (IntOp.remsi ArithUnit.vector (BitVec.ofNat 32 r.val) (Scalar.select (Scalar.cmpi CmpIPredicate.eq 64#32 0#32) 1#32 64#32)) 0#32))
          (IntOp.addi (IntOp.remsi ArithUnit.vector (BitVec.ofNat 32 r.val) (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 r.val) (Scalar.select (Scalar.cmpi CmpIPredicate.eq 64#32 0#32) 1#32 64#32))))
      (Scalar.select (Scalar.cmpi CmpIPredicate.eq (BitVec.ofNat 32 j.val) 0#32) 255#32 63#32) = if isRight j.val r.val then 0#1 else 1#1 := by
  decide +kernel

theorem right_at (i : grid0.Coords) (r : Fin 256) : k0_pay4 i (ix2 r 0) = if isRight (i 1).val r.val then 0#1 else 1#1 := by
  pointwise [k0_pay4, k0_pay2]
  exact right_bits (i 1) r

theorem zero_bit : ∀ j : Fin 17, Scalar.cmpi CmpIPredicate.eq (BitVec.ofNat 32 j.val) 0#32 = if j.val = 0 then 1#1 else 0#1 := by
  decide +kernel

theorem vert_at (i : grid0.Coords) : k0_pay5 (F := Ideal) i = vert (i 1).val := by
  unfold k0_pay5 vert
  show Scalar.select (Scalar.cmpi CmpIPredicate.eq (BitVec.ofNat 32 (i 1).val) 0#32) (Ideal.ofBits .f32 0x00000000#32) (Ideal.ofBits .f32 0x3F800000#32) = _
  rw [show Scalar.cmpi CmpIPredicate.eq (BitVec.ofNat 32 (i 1).val) 0#32 = _ from zero_bit (i 1)]
  by_cases h : (i 1).val = 0
  · rw [if_pos h, if_pos h]
    exact Ideal.ofBits_zero_f32
  · rw [if_neg h, if_neg h]
    exact Ideal.ofBits_one_f32

theorem grid_bit : ∀ j : Fin 17, Scalar.cmpi .sge (BitVec.ofNat 32 j.val) 2#32 = if 2 ≤ j.val then 1#1 else 0#1 := by
  decide +kernel

theorem next_bit : ∀ j : Fin 17, Scalar.andi (Scalar.cmpi .sge (BitVec.ofNat 32 j.val) 1#32) (Scalar.cmpi .slt (BitVec.ofNat 32 j.val) 16#32) =
    if 1 ≤ j.val ∧ j.val < 16 then 1#1 else 0#1 := by
  decide +kernel

/-! ## A section's rows -/

theorem select_if {α : Type} (p : Prop) [Decidable p] (x y : α) : Scalar.select (if p then 1#1 else 0#1) x y = if p then x else y := by
  by_cases h : p
  · rw [if_pos h, if_pos h]
    rfl
  · rw [if_neg h, if_neg h]
    rfl

theorem select_unless {α : Type} (p : Prop) [Decidable p] (x y : α) : Scalar.select (if p then 0#1 else 1#1) x y = if ¬ p then x else y := by
  by_cases h : p
  · rw [if_pos h, if_neg (not_not.2 h)]
    rfl
  · rw [if_neg h, if_pos h]
    rfl

/-- What a tile of the scratch holds, by the three pieces last written. -/
theorem tile_at (a1 a3 : Vec Ideal S64x512 .f32) (a2 : Vec Ideal S256x512 .f32) (x : Fin 512 → ℕ → EReal) (L) (i1 i2 i3)
    (h1 : ∀ (r : Fin 64) q, a1 (ix2 r q) = x q r.val) (h2 : ∀ (r : Fin 256) q, a2 (ix2 r q) = x q (64 + r.val))
    (h3 : ∀ (r : Fin 64) q, a3 (ix2 r q) = x q (320 + r.val)) (o : ℕ) (ho : o ≤ 128) (io) (r : Fin 256) (q : Fin 512) :
    (View.whole cc0_scratch0).readCov (Val := Elt Ideal) (⟨Rect.unit ![320, 0] ![64, 512] i3, a3⟩ :: ⟨Rect.unit ![64, 0] ![256, 512] i2, a2⟩ :: ⟨Rect.unit ![0, 0] ![64, 512] i1, a1⟩ :: L)
      (Rect.unit (s := S384x512) ![o, 0] ![256, 512] io).toLoadRect (ix2 r q) = x q (o + r.val) := by
  rw [View.readCov_eq_canon']
  have e : ((Rect.unit (s := S384x512) ![o, 0] ![256, 512] io).toLoadRect.idx (ix2 r q) : S384x512.Idx) = ix2 ⟨o + r.val, by omega⟩ q := by
    funext a
    refine Fin.ext ?_
    fin_cases a
    · show o + 1 * r.val = o + r.val
      omega
    · show 0 + 1 * q.val = q.val
      omega
  show View.canon _ ((Rect.unit (s := S384x512) ![o, 0] ![256, 512] io).toLoadRect.idx (ix2 r q)) = _
  rw [e]
  refine (View.canon_append_of_piecesOf (fun y : S384x512.Idx => x (y 1) (y 0).val) L
    [⟨Rect.unit ![320, 0] ![64, 512] i3, a3⟩, ⟨Rect.unit ![64, 0] ![256, 512] i2, a2⟩, ⟨Rect.unit ![0, 0] ![64, 512] i1, a1⟩] ⟨fun y => ?_, fun y => ?_, fun y => ?_, trivial⟩ _ ?_)
  · idx_vars y
    refine (h3 y0 y1).trans (congrArg₂ x (Fin.ext ?_) ?_)
    · show y1.val = 0 + 1 * y1.val
      omega
    · show 320 + y0.val = 320 + 1 * y0.val
      omega
  · idx_vars y
    refine (h2 y0 y1).trans (congrArg₂ x (Fin.ext ?_) ?_)
    · show y1.val = 0 + 1 * y1.val
      omega
    · show 64 + y0.val = 64 + 1 * y0.val
      omega
  · idx_vars y
    refine (h1 y0 y1).trans (congrArg₂ x (Fin.ext ?_) ?_)
    · show y1.val = 0 + 1 * y1.val
      omega
    · show y0.val = 0 + 1 * y0.val
      omega
  · by_cases c1 : o + r.val < 64
    · refine ⟨_, List.mem_cons_of_mem _ (List.mem_cons_of_mem _ List.mem_cons_self), ?_⟩
      refine (Rect.mem_set_unit (s := S384x512) (inb := i1)).2 fun a => ?_
      fin_cases a
      · exact ⟨Nat.zero_le _, by show o + r.val < 0 + 64; omega⟩
      · exact ⟨Nat.zero_le _, by show q.val < 0 + 512; omega⟩
    · by_cases c2 : o + r.val < 320
      · refine ⟨_, List.mem_cons_of_mem _ List.mem_cons_self, ?_⟩
        refine (Rect.mem_set_unit (s := S384x512) (inb := i2)).2 fun a => ?_
        fin_cases a
        · exact ⟨by show 64 ≤ o + r.val; omega, by show o + r.val < 64 + 256; omega⟩
        · exact ⟨Nat.zero_le _, by show q.val < 0 + 512; omega⟩
      · refine ⟨_, List.mem_cons_self, ?_⟩
        refine (Rect.mem_set_unit (s := S384x512) (inb := i3)).2 fun a => ?_
        fin_cases a
        · exact ⟨by show 320 ≤ o + r.val; omega, by show o + r.val < 320 + 64; omega⟩
        · exact ⟨Nat.zero_le _, by show q.val < 0 + 512; omega⟩

/-- The convolution's payload at an index. -/
theorem section_row (v24 v27 : IVec S256x1 1) (v28 : Ideal .f32) (w0 w1 w2 : Vec Ideal S3x512 .f32) (x0 x1 x2 : Vec Ideal S256x512 .f32) (x : Fin 512 → ℕ → EReal)
    (u : Fin 3 → Fin 3 → Fin 512 → EReal) {j : ℕ} (h24 : ∀ r : Fin 256, v24 (ix2 r 0) = if isLeft j r.val then 0#1 else 1#1)
    (h27 : ∀ r : Fin 256, v27 (ix2 r 0) = if isRight j r.val then 0#1 else 1#1) (h28 : v28 = vert j)
    (hw0 : ∀ k q, w0 (ix2 k q) = u 0 k q) (hw1 : ∀ k q, w1 (ix2 k q) = u 1 k q) (hw2 : ∀ k q, w2 (ix2 k q) = u 2 k q)
    (hx0 : ∀ (r : Fin 256) q, x0 (ix2 r q) = x q r.val) (hx1 : ∀ (r : Fin 256) q, x1 (ix2 r q) = x q (64 + r.val)) (hx2 : ∀ (r : Fin 256) q, x2 (ix2 r q) = x q (128 + r.val))
    (r : Fin 256) (q : Fin 512) :
    k0_pay15 v24 v27 v28 (k0_pay10 v28 w0 x0) x1 (k0_pay12 v28 w0 x0 w1 x1) (k0_pay13 v28 w0 x0 w1 x1) (k0_pay14 w1) w2 x2 (ix2 r q) =
      blockConv (¬ isLeft j r.val) (¬ isRight j r.val) (x q) (fun dr dc => u dr dc q) (vert j) r.val := by
  pointwise [k0_pay15, k0_pay10, k0_pay12, k0_pay13, k0_pay14, k0_pay9, k0_pay11]
  simp only [h24, h27, hw0, hw1, hw2, hx0, hx1, hx2, h28, select_unless]
  rfl

/-- The arguments, and the sections' channels. -/
abbrev kPc : S16x4352x2560.Idx → EReal := m ((c : Thread nD τ).loc main_arg0)
abbrev kCw : S3x3x2560.Idx → EReal := m ((c : Thread nD τ).loc main_arg2)
abbrev chan (s : Fin 5) (q : Fin 512) : Fin 2560 := ⟨512 * s.val + q.val, by omega⟩

theorem top_rows (t : Fin cfg0.N) (s : Fin 5) (o : ℕ) (ho : o = 512 * s.val) (i) (r : Fin 64) (q : Fin 512) :
    Scalar.select (α := EReal) (Scalar.cmpi .sge (BitVec.ofNat 32 (grid0.coords t 1).val) 2#32) (View.ld (iblk m c 0 t) (Rect.unit ![0, 0, o] ![1, 64, 512] i) (ix3 0 r q)) 0 =
      rows (kPc m c) (seqOf t) (t.val % 17) (chan s q) r.val := by
  subst ho
  have ht : t.val < 272 := t.isLt
  have hb : Scalar.cmpi .sge (BitVec.ofNat 32 (grid0.coords t 1).val) 2#32 = if 2 ≤ t.val % 17 then 1#1 else 0#1 := by
    rw [coord]
    exact grid_bit ⟨t.val % 17, Nat.mod_lt _ (by decide)⟩
  rw [hb, select_if]
  unfold rows
  by_cases h : 2 ≤ t.val % 17
  · rw [if_pos h, dif_pos (by omega)]
    refine ((ld_halo _ _ (by omega) i r q).trans (top_at m c t r _)).trans (congrArg (fun g => kPc m c (ix3 (seqOf t) g (chan s q))) (Fin.ext ?_))
    show 64 * (4 * (t.val % 17) - 1) + r.val = 256 * (t.val % 17) + r.val - 64
    omega
  · rw [if_neg h, dif_neg (by omega)]

theorem main_rows (t : Fin cfg0.N) (s : Fin 5) (o : ℕ) (ho : o = 512 * s.val) (i) (r : Fin 256) (q : Fin 512) :
    View.ld (iblk m c 1 t) (Rect.unit ![0, 0, o] ![1, 256, 512] i) (ix3 0 r q) = rows (kPc m c) (seqOf t) (t.val % 17) (chan s q) (64 + r.val) := by
  subst ho
  have ht : t.val < 272 := t.isLt
  unfold rows
  rw [dif_pos (by omega)]
  refine ((ld_main _ _ (by omega) i r q).trans (main_at m c t r _)).trans (congrArg (fun g => kPc m c (ix3 (seqOf t) g (chan s q))) (Fin.ext ?_))
  show 256 * (t.val % 17) + r.val = 256 * (t.val % 17) + (64 + r.val) - 64
  omega

theorem bottom_rows (t : Fin cfg0.N) (s : Fin 5) (o : ℕ) (ho : o = 512 * s.val) (i) (r : Fin 64) (q : Fin 512) :
    Scalar.select (α := EReal) (Scalar.andi (Scalar.cmpi .sge (BitVec.ofNat 32 (grid0.coords t 1).val) 1#32) (Scalar.cmpi .slt (BitVec.ofNat 32 (grid0.coords t 1).val) 16#32))
      (View.ld (iblk m c 2 t) (Rect.unit ![0, 0, o] ![1, 64, 512] i) (ix3 0 r q)) 0 =
      rows (kPc m c) (seqOf t) (t.val % 17) (chan s q) (320 + r.val) := by
  subst ho
  have ht : t.val < 272 := t.isLt
  have hb : Scalar.andi (Scalar.cmpi .sge (BitVec.ofNat 32 (grid0.coords t 1).val) 1#32) (Scalar.cmpi .slt (BitVec.ofNat 32 (grid0.coords t 1).val) 16#32) =
      if 1 ≤ t.val % 17 ∧ t.val % 17 < 16 then 1#1 else 0#1 := by
    rw [coord]
    exact next_bit ⟨t.val % 17, Nat.mod_lt _ (by decide)⟩
  rw [hb, select_if]
  unfold rows
  by_cases h : 1 ≤ t.val % 17 ∧ t.val % 17 < 16
  · rw [if_pos h, dif_pos (by omega)]
    refine ((ld_halo _ _ (by omega) i r q).trans (bottom_at m c t r _)).trans (congrArg (fun g => kPc m c (ix3 (seqOf t) g (chan s q))) (Fin.ext ?_))
    show 64 * min (4 * (t.val % 17) + 4) 67 + r.val = 256 * (t.val % 17) + (320 + r.val) - 64
    omega
  · rw [if_neg h, dif_neg (by omega)]

theorem taps_rows (t : Fin cfg0.N) (s : Fin 5) (o : ℕ) (ho : o = 512 * s.val) (a : Fin 3) (i) (k : Fin 3) (q : Fin 512) :
    View.ld (iblk m c 4 t) (Rect.unit ![3 * a.val, o] ![3, 512] i) (ix2 k q) = kCw m c (ix3 a k (chan s q)) := by
  subst ho
  exact ((ld_taps _ a _ (by omega) i k q).trans (taps_block m c t _ _)).trans (taps_entry m c a k _)

/-- The taps loaded, and a tile of the scratch. -/
abbrev tapsOf (X : Vec Ideal S16x2560 .f32) (a o : ℕ) (i : ∀ d, ![a, o] d + ![3, 512] d ≤ S16x2560.size d) : Vec Ideal S3x512 .f32 :=
  View.ld X (Rect.unit (s := S16x2560) ![a, o] ![3, 512] i)

abbrev tileOf (L : List (View.Piece (Elt Ideal) S384x512 (.f32 : EltTy))) (p : ℕ) (i : ∀ d, ![p, 0] d + ![256, 512] d ≤ S384x512.size d) : Vec Ideal S256x512 .f32 :=
  (View.whole cc0_scratch0).readCov (Val := Elt Ideal) L (Rect.unit (s := S384x512) ![p, 0] ![256, 512] i).toLoadRect

/-- A section: the pieces it writes, the loads it makes, and the convolution of its channels. -/
theorem section_at (t : Fin cfg0.N) (s : Fin 5) (o : ℕ) (ho : o = 512 * s.val) {a1 a3 : Vec Ideal S64x512 .f32} {a2 : Vec Ideal S256x512 .f32} {L} {P : List (View.Piece (Elt Ideal) S384x512 (.f32 : EltTy))} {i1 i2 i3 j0 j1 j2 k0 k1 k2 l0 l1 l2}
    (hP : P = (⟨Rect.unit ![320, 0] ![64, 512] i3, a3⟩ :: ⟨Rect.unit ![64, 0] ![256, 512] i2, a2⟩ :: ⟨Rect.unit ![0, 0] ![64, 512] i1, a1⟩ :: L))
    (h1 : ∀ (r : Fin 64) q, a1 (ix2 r q) = Scalar.select (α := EReal) (Scalar.cmpi .sge (BitVec.ofNat 32 (grid0.coords t 1).val) 2#32) (View.ld (iblk m c 0 t) (Rect.unit ![0, 0, o] ![1, 64, 512] l0) (ix3 0 r q)) 0)
    (h2 : ∀ (r : Fin 256) q, a2 (ix2 r q) = View.ld (iblk m c 1 t) (Rect.unit ![0, 0, o] ![1, 256, 512] l1) (ix3 0 r q))
    (h3 : ∀ (r : Fin 64) q, a3 (ix2 r q) = Scalar.select (α := EReal) (Scalar.andi (Scalar.cmpi .sge (BitVec.ofNat 32 (grid0.coords t 1).val) 1#32) (Scalar.cmpi .slt (BitVec.ofNat 32 (grid0.coords t 1).val) 16#32))
      (View.ld (iblk m c 2 t) (Rect.unit ![0, 0, o] ![1, 64, 512] l2) (ix3 0 r q)) 0) (r : Fin 256) (q : Fin 512) :
    k0_pay15 (k0_pay3 (grid0.coords t)) (k0_pay4 (grid0.coords t)) (k0_pay5 (grid0.coords t)) (k0_pay10 (k0_pay5 (grid0.coords t)) (tapsOf (iblk m c 4 t) 0 o k0) (tileOf P 0 j0)) (tileOf P 64 j1)
      (k0_pay12 (k0_pay5 (grid0.coords t)) (tapsOf (iblk m c 4 t) 0 o k0) (tileOf P 0 j0) (tapsOf (iblk m c 4 t) 3 o k1) (tileOf P 64 j1)) (k0_pay13 (k0_pay5 (grid0.coords t)) (tapsOf (iblk m c 4 t) 0 o k0) (tileOf P 0 j0) (tapsOf (iblk m c 4 t) 3 o k1) (tileOf P 64 j1)) (k0_pay14 (tapsOf (iblk m c 4 t) 3 o k1)) (tapsOf (iblk m c 4 t) 6 o k2) (tileOf P 128 j2) (ix2 r q) =
      part (kPc m c) (kCw m c) (seqOf t) (rowOf t r) s q := by
  subst hP
  have g1 := fun r q => (h1 r q).trans (top_rows m c t s o ho l0 r q)
  have g2 := fun r q => (h2 r q).trans (main_rows m c t s o ho l1 r q)
  have g3 := fun r q => (h3 r q).trans (bottom_rows m c t s o ho l2 r q)
  have hx := fun (p : ℕ) (hp : p ≤ 128) i r q => tile_at a1 a3 a2 (fun q k => rows (kPc m c) (seqOf t) (t.val % 17) (chan s q) k) L i1 i2 i3 g1 g2 g3 p hp i r q
  have e := coord t
  refine (section_row _ _ _ _ _ _ _ _ _ (fun q k => rows (kPc m c) (seqOf t) (t.val % 17) (chan s q) k) (fun dr dc q => kCw m c (ix3 dr dc (chan s q))) (j := t.val % 17)
    (fun r => by rw [left_at, e]) (fun r => by rw [right_at, e]) (by rw [vert_at, e])
    (fun k q => taps_rows m c t s o ho 0 k0 k q) (fun k q => taps_rows m c t s o ho 1 k1 k q) (fun k q => taps_rows m c t s o ho 2 k2 k q)
    (fun r q => (hx 0 (by omega) j0 r q).trans (congrArg (rows _ _ _ _) (by omega))) (hx 64 (by omega) j1) (hx 128 (by omega) j2) r q).trans ?_
  exact blockConv_eq (seqOf t) (Nat.mod_lt _ (by decide)) r.isLt (chan s q)

end Cert.Kernel4Ideal.Prep

end
-- ==== Proof.Prep.Parts.lean ====
/-
  The five sections of the preparation's convolution, and what must be real.
-/
module

public import proofs.«01_k».proof.Proof.Prep.Sections

@[expose] public section

set_option maxRecDepth 16384

noncomputable section

namespace Cert.Kernel4Ideal.Prep

open Cert.Kernel4Ideal Cert.Kernel4Ideal.Gen Cert.Kernel4Ideal.Value
open Idealize.ShloMosaic
open Idealize.ShloMosaic.TcCoe
open Cert.Prep
open Cert.Outproj (head col IsReal)

variable (m : (ℓ : Loc nD τ sig) → Buf (Elt Ideal) ℓ) (c : Dev nD)

/-- The other arguments. -/
abbrev kPn : S16x4352x1536.Idx → EReal := m ((c : Thread nD τ).loc main_arg1)
abbrev kW0 : S2x512.Idx → EReal := m ((c : Thread nD τ).loc main_arg3)
abbrev kWB : S2x64x512.Idx → EReal := m ((c : Thread nD τ).loc main_arg4)
abbrev kA0 : S512.Idx → EReal := m ((c : Thread nD τ).loc main_arg5)
abbrev kAB : S64x512.Idx → EReal := m ((c : Thread nD τ).loc main_arg6)
abbrev kGB : S128x512.Idx → EReal := m ((c : Thread nD τ).loc main_arg7)
abbrev kKk : S512.Idx → EReal := m ((c : Thread nD τ).loc main_arg8)
abbrev kKa : S512.Idx → EReal := m ((c : Thread nD τ).loc main_arg9)
abbrev kBn : S8x64.Idx → EReal := m ((c : Thread nD τ).loc main_arg10)

/-! ## What must be real -/

/-- What the low-rank products and the heads' sums are of. -/
structure Reals : Prop where
  pc : ∀ b g (k : Fin 1024), IsReal (kPc m c (ix3 b g ⟨1024 + k.val, by omega⟩))
  cw : ∀ a d (k : Fin 1024), IsReal (kCw m c (ix3 a d ⟨1024 + k.val, by omega⟩))
  pn : ∀ b g (k : Fin 64), IsReal (kPn m c (ix3 b g ⟨1280 + k.val, by omega⟩))
  wB : ∀ i, IsReal (kWB m c i)
  aB : ∀ i, IsReal (kAB m c i)
  gB : ∀ i, IsReal (kGB m c i)
  kk : ∀ i, IsReal (kKk m c i)
  ka : ∀ i, IsReal (kKa m c i)
  bn : ∀ i, IsReal (kBn m c i)

theorem isReal_zero : IsReal 0 := ⟨0, EReal.coe_zero.symm⟩

theorem isReal_within {pc : S16x4352x2560.Idx → EReal} {ch : Fin 2560} (h : ∀ b g, IsReal (pc (ix3 b g ch))) (b : Fin 16) (lo hi n : ℕ) : IsReal (within pc b lo hi n ch) := by
  unfold within
  split
  · exact h _ _
  · exact isReal_zero

theorem isReal_tap {pc : S16x4352x2560.Idx → EReal} {ch : Fin 2560} (h : ∀ b g, IsReal (pc (ix3 b g ch))) (b : Fin 16) (g : ℕ) (dr dc : Fin 3) : IsReal (tap pc b g dr dc ch) := by
  unfold tap
  split
  · split
    · exact isReal_within h _ _ _ _
    · exact isReal_zero
  · split
    · exact isReal_within h _ _ _ _
    · exact isReal_zero

theorem isReal_conv {pc : S16x4352x2560.Idx → EReal} {cw : S3x3x2560.Idx → EReal} {ch : Fin 2560} (h : ∀ b g, IsReal (pc (ix3 b g ch))) (hw : ∀ a d, IsReal (cw (ix3 a d ch)))
    (b : Fin 16) (g : ℕ) : IsReal (conv pc cw b g ch) := by
  have hc (dc : Fin 3) : IsReal (convCol pc cw b g ch dc) :=
    (((isReal_tap h b g 0 dc).mul (hw 0 dc)).add ((isReal_tap h b g 1 dc).mul (hw 1 dc))).add ((isReal_tap h b g 2 dc).mul (hw 2 dc))
  exact ((hc 0).add (hc 1)).add (hc 2)

variable {m c}

theorem real_part (hz : Reals m c) (b : Fin 16) (g : Fin 4352) (s : Fin 5) (hs : s = 2 ∨ s = 3) (q : Fin 512) : IsReal (part (kPc m c) (kCw m c) b g s q) := by
  have e : ∃ k : Fin 1024, 512 * s.val + q.val = 1024 + k.val := by
    rcases hs with rfl | rfl
    · exact ⟨⟨q.val, by omega⟩, rfl⟩
    · exact ⟨⟨512 + q.val, by omega⟩, by show 512 * 3 + q.val = 1024 + (512 + q.val); omega⟩
  obtain ⟨k, hk⟩ := e
  have e' : (⟨512 * s.val + q.val, by omega⟩ : Fin 2560) = ⟨1024 + k.val, by omega⟩ := Fin.ext hk
  unfold part
  rw [e']
  exact isReal_conv (fun b g => hz.pc b g k) (fun a d => hz.cw a d k) b g.val

theorem real_gained (hz : Reals m c) (b : Fin 16) (g : Fin 4352) (q : Fin 512) : IsReal (gained (kPc m c) (kCw m c) (kKk m c) b g q) :=
  (real_part hz b g 3 (.inr rfl) q).mul (hz.kk _)

theorem real_scored (hz : Reals m c) (b : Fin 16) (g : Fin 4352) (q : Fin 512) :
    IsReal (scored (kPc m c) (kPn m c) (kCw m c) (kA0 m c) (kAB m c) (kKa m c) (kBn m c) b g q) :=
  ((real_part hz b g 2 (.inl rfl) q).mul (isReal_keyed (real_part hz b g 3 (.inr rfl)) (fun q => isReal_logistic _) (fun q => hz.ka _) q)).mul (hz.bn _)

variable (m c)

/-! ## The pieces the scratch is stored by -/

section Pieces

variable (b : BitVec 1) (X : Vec Ideal S1x64x512 .f32) (Y : Vec Ideal S1x256x512 .f32) (r : Fin 64) (r' : Fin 256) (q : Fin 512)

theorem top0 (t : Fin cfg0.N) : k0_pay6 (grid0.coords t) X (ix2 r q) = Scalar.select (α := EReal) (Scalar.cmpi .sge (BitVec.ofNat 32 (grid0.coords t 1).val) 2#32) (X (ix3 0 r q)) 0 := by
  pointwise [k0_pay6]

theorem main0 : k0_pay7 Y (ix2 r' q) = Y (ix3 0 r' q) := by
  pointwise [k0_pay7]

theorem bottom0 : k0_pay8 b X (ix2 r q) = Scalar.select (α := EReal) b (X (ix3 0 r q)) 0 := by
  pointwise [k0_pay8]

theorem top1 : k0_pay16 b X (ix2 r q) = Scalar.select (α := EReal) b (X (ix3 0 r q)) 0 := by
  pointwise [k0_pay16]

theorem main1 : k0_pay18 (k0_pay17 Y) (ix2 r' q) = Y (ix3 0 r' q) := by
  pointwise [k0_pay18, k0_pay17]

theorem bottom1 : k0_pay19 b X (ix2 r q) = Scalar.select (α := EReal) b (X (ix3 0 r q)) 0 := by
  pointwise [k0_pay19]

theorem top2 : k0_pay28 b X (ix2 r q) = Scalar.select (α := EReal) b (X (ix3 0 r q)) 0 := by
  pointwise [k0_pay28]

theorem main2 : k0_pay29 Y (ix2 r' q) = Y (ix3 0 r' q) := by
  pointwise [k0_pay29]

theorem bottom2 : k0_pay30 b X (ix2 r q) = Scalar.select (α := EReal) b (X (ix3 0 r q)) 0 := by
  pointwise [k0_pay30]

theorem top3 : k0_pay39 b X (ix2 r q) = Scalar.select (α := EReal) b (X (ix3 0 r q)) 0 := by
  pointwise [k0_pay39]

theorem main3 : k0_pay40 Y (ix2 r' q) = Y (ix3 0 r' q) := by
  pointwise [k0_pay40]

theorem bottom3 : k0_pay42 (k0_pay41 b X) (ix2 r q) = Scalar.select (α := EReal) b (X (ix3 0 r q)) 0 := by
  pointwise [k0_pay42, k0_pay41]

theorem top4 : k0_pay51 b X (ix2 r q) = Scalar.select (α := EReal) b (X (ix3 0 r q)) 0 := by
  pointwise [k0_pay51]

theorem main4 : k0_pay52 Y (ix2 r' q) = Y (ix3 0 r' q) := by
  pointwise [k0_pay52]

theorem bottom4 : k0_pay53 b X (ix2 r q) = Scalar.select (α := EReal) b (X (ix3 0 r q)) 0 := by
  pointwise [k0_pay53]

end Pieces

/-! ## The sections -/

abbrev haloOf (X : Vec Ideal S1x64x2560 .f32) (o : ℕ) (i : ∀ d, ![0, 0, o] d + ![1, 64, 512] d ≤ S1x64x2560.size d) : Vec Ideal S1x64x512 .f32 :=
  View.ld X (Rect.unit (s := S1x64x2560) ![0, 0, o] ![1, 64, 512] i)

abbrev bodyOf (X : Vec Ideal S1x256x2560 .f32) (o : ℕ) (i : ∀ d, ![0, 0, o] d + ![1, 256, 512] d ≤ S1x256x2560.size d) : Vec Ideal S1x256x512 .f32 :=
  View.ld X (Rect.unit (s := S1x256x2560) ![0, 0, o] ![1, 256, 512] i)

abbrev topBit (t : Fin cfg0.N) : BitVec 1 := Scalar.cmpi .sge (BitVec.ofNat 32 (grid0.coords t 1).val) 2#32

abbrev nextBit (t : Fin cfg0.N) : BitVec 1 :=
  Scalar.andi (Scalar.cmpi .sge (BitVec.ofNat 32 (grid0.coords t 1).val) 1#32) (Scalar.cmpi .slt (BitVec.ofNat 32 (grid0.coords t 1).val) 16#32)

abbrev written (a1 : Vec Ideal S64x512 .f32) (a2 : Vec Ideal S256x512 .f32) (a3 : Vec Ideal S64x512 .f32) (L : List (View.Piece (Elt Ideal) S384x512 (.f32 : EltTy))) :
    List (View.Piece (Elt Ideal) S384x512 (.f32 : EltTy)) :=
  ⟨Rect.unit (s := S384x512) ![320, 0] ![64, 512] inb_S384x512_S64x512_320_0, a3⟩ :: ⟨Rect.unit (s := S384x512) ![64, 0] ![256, 512] inb_S384x512_S256x512_64_0, a2⟩
    :: ⟨Rect.unit (s := S384x512) ![0, 0] ![64, 512] inb_S384x512_S64x512_0_0, a1⟩ :: L

section Same

variable {v24 v27 : IVec S256x1 1} {v28 : Ideal .f32} {w0 w1 w2 : Vec Ideal S3x512 .f32} {x0 x1 x2 : Vec Ideal S256x512 .f32} {r : Fin 256} {f : Fin 512 → EReal}

/-- The first section's payload; the others' are the same function. -/
abbrev convPay (v24 v27 : IVec S256x1 1) (v28 : Ideal .f32) (w0 w1 w2 : Vec Ideal S3x512 .f32) (x0 x1 x2 : Vec Ideal S256x512 .f32) : FVec Ideal S256x512 .f32 :=
  k0_pay15 v24 v27 v28 (k0_pay10 v28 w0 x0) x1 (k0_pay12 v28 w0 x0 w1 x1) (k0_pay13 v28 w0 x0 w1 x1) (k0_pay14 w1) w2 x2

theorem second_same (h : Row (convPay v24 v27 v28 w0 w1 w2 x0 x1 x2) r f) : Row (k0_pay27 v24 v27 (k0_pay22 v28 w0 x0 w1 x1) (k0_pay23 v28 w0 x0 w1 x1) (k0_pay24 v28 w0 x0 w1 x1) (k0_pay25 w2) (k0_pay26 v28) x2) r f := h

theorem third_same (h : Row (convPay v24 v27 v28 w0 w1 w2 x0 x1 x2) r f) : Row (k0_pay38 v24 v27 (k0_pay33 v28 w0 x0 w1 x1) (k0_pay34 v28 w0 x0 w1 x1) (k0_pay35 v28 w0 x0 w1 x1) (k0_pay36 v28 w2) x2 (k0_pay37 v28 w2 x2)) r f := h

theorem fourth_same (h : Row (convPay v24 v27 v28 w0 w1 w2 x0 x1 x2) r f) : Row (k0_pay50 v24 v27 (k0_pay45 v28 w0 x0 w1 x1) x2 (k0_pay47 v28 w0 x0 w1 x1 w2 x2) (k0_pay48 v28 w0 x0 w1 x1 w2 x2) (k0_pay49 v28 w2)) r f := h

theorem fifth_same (h : Row (convPay v24 v27 v28 w0 w1 w2 x0 x1 x2) r f) : Row (k0_pay61 v27 (k0_pay57 v28 w0 x0 w1 x1 w2 x2) (k0_pay58 v28 w0 x0 w1 x1 w2 x2) (k0_pay59 v28 w0 x0 w1 x1 w2 x2) (Scalar.ofBits .f32 0x00000000#32) (k0_pay60 v24)) r f := h

end Same

section At

variable (L : List (View.Piece (Elt Ideal) S384x512 (.f32 : EltTy))) (t : Fin cfg0.N) (r : Fin 256)

abbrev firstPieces : List (View.Piece (Elt Ideal) S384x512 (.f32 : EltTy)) :=
  written (k0_pay6 (grid0.coords t) (haloOf (iblk m c 0 t) 0 inb_S1x64x2560_S1x64x512_0_0_0)) (k0_pay7 (bodyOf (iblk m c 1 t) 0 inb_S1x256x2560_S1x256x512_0_0_0)) (k0_pay8 (nextBit t) (haloOf (iblk m c 2 t) 0 inb_S1x64x2560_S1x64x512_0_0_0)) []

theorem first_row : Row (convPay (k0_pay3 (grid0.coords t)) (k0_pay4 (grid0.coords t)) (k0_pay5 (grid0.coords t)) (tapsOf (iblk m c 4 t) 0 0 inb_S16x2560_S3x512_0_0) (tapsOf (iblk m c 4 t) 3 0 inb_S16x2560_S3x512_3_0) (tapsOf (iblk m c 4 t) 6 0 inb_S16x2560_S3x512_6_0) (tileOf (firstPieces m c t) 0 inb_S384x512_S256x512_0_0) (tileOf (firstPieces m c t) 64 inb_S384x512_S256x512_64_0) (tileOf (firstPieces m c t) 128 inb_S384x512_S256x512_128_0)) r (part (kPc m c) (kCw m c) (seqOf t) (rowOf t r) 0) := fun q => by
  refine section_at m c t 0 0 rfl (l0 := inb_S1x64x2560_S1x64x512_0_0_0) (l1 := inb_S1x256x2560_S1x256x512_0_0_0) (l2 := inb_S1x64x2560_S1x64x512_0_0_0) rfl ?_ ?_ ?_ r q <;> intro r q
  · exact top0 _ r q _
  · exact main0 _ r q
  · exact bottom0 _ _ r q

abbrev secondPieces : List (View.Piece (Elt Ideal) S384x512 (.f32 : EltTy)) :=
  written (k0_pay16 (topBit t) (haloOf (iblk m c 0 t) 512 inb_S1x64x2560_S1x64x512_0_0_512)) (k0_pay18 <| k0_pay17 (bodyOf (iblk m c 1 t) 512 inb_S1x256x2560_S1x256x512_0_0_512)) (k0_pay19 (nextBit t) (haloOf (iblk m c 2 t) 512 inb_S1x64x2560_S1x64x512_0_0_512)) L

theorem second_row : Row (k0_pay27 (k0_pay3 (grid0.coords t)) (k0_pay4 (grid0.coords t)) (k0_pay22 (k0_pay5 (grid0.coords t)) (tapsOf (iblk m c 4 t) 0 512 inb_S16x2560_S3x512_0_512) (tileOf (secondPieces m c L t) 0 inb_S384x512_S256x512_0_0) (tapsOf (iblk m c 4 t) 3 512 inb_S16x2560_S3x512_3_512) (tileOf (secondPieces m c L t) 64 inb_S384x512_S256x512_64_0))
      (k0_pay23 (k0_pay5 (grid0.coords t)) (tapsOf (iblk m c 4 t) 0 512 inb_S16x2560_S3x512_0_512) (tileOf (secondPieces m c L t) 0 inb_S384x512_S256x512_0_0) (tapsOf (iblk m c 4 t) 3 512 inb_S16x2560_S3x512_3_512) (tileOf (secondPieces m c L t) 64 inb_S384x512_S256x512_64_0))
      (k0_pay24 (k0_pay5 (grid0.coords t)) (tapsOf (iblk m c 4 t) 0 512 inb_S16x2560_S3x512_0_512) (tileOf (secondPieces m c L t) 0 inb_S384x512_S256x512_0_0) (tapsOf (iblk m c 4 t) 3 512 inb_S16x2560_S3x512_3_512) (tileOf (secondPieces m c L t) 64 inb_S384x512_S256x512_64_0)) (k0_pay25 (tapsOf (iblk m c 4 t) 6 512 inb_S16x2560_S3x512_6_512)) (k0_pay26 (k0_pay5 (grid0.coords t))) (tileOf (secondPieces m c L t) 128 inb_S384x512_S256x512_128_0)) r (part (kPc m c) (kCw m c) (seqOf t) (rowOf t r) 1) := second_same fun q => by
  refine section_at m c t 1 512 rfl (l0 := inb_S1x64x2560_S1x64x512_0_0_512) (l1 := inb_S1x256x2560_S1x256x512_0_0_512) (l2 := inb_S1x64x2560_S1x64x512_0_0_512) rfl ?_ ?_ ?_ r q <;> intro r q
  · exact top1 _ _ r q
  · exact main1 _ r q
  · exact bottom1 _ _ r q

abbrev thirdPieces : List (View.Piece (Elt Ideal) S384x512 (.f32 : EltTy)) :=
  written (k0_pay28 (topBit t) (haloOf (iblk m c 0 t) 1024 inb_S1x64x2560_S1x64x512_0_0_1024)) (k0_pay29 (bodyOf (iblk m c 1 t) 1024 inb_S1x256x2560_S1x256x512_0_0_1024)) (k0_pay30 (nextBit t) (haloOf (iblk m c 2 t) 1024 inb_S1x64x2560_S1x64x512_0_0_1024)) L

theorem third_row : Row (k0_pay38 (k0_pay3 (grid0.coords t)) (k0_pay4 (grid0.coords t)) (k0_pay33 (k0_pay5 (grid0.coords t)) (tapsOf (iblk m c 4 t) 0 1024 inb_S16x2560_S3x512_0_1024) (tileOf (thirdPieces m c L t) 0 inb_S384x512_S256x512_0_0) (tapsOf (iblk m c 4 t) 3 1024 inb_S16x2560_S3x512_3_1024) (tileOf (thirdPieces m c L t) 64 inb_S384x512_S256x512_64_0)) (k0_pay34 (k0_pay5 (grid0.coords t)) (tapsOf (iblk m c 4 t) 0 1024 inb_S16x2560_S3x512_0_1024) (tileOf (thirdPieces m c L t) 0 inb_S384x512_S256x512_0_0) (tapsOf (iblk m c 4 t) 3 1024 inb_S16x2560_S3x512_3_1024) (tileOf (thirdPieces m c L t) 64 inb_S384x512_S256x512_64_0)) (k0_pay35 (k0_pay5 (grid0.coords t)) (tapsOf (iblk m c 4 t) 0 1024 inb_S16x2560_S3x512_0_1024) (tileOf (thirdPieces m c L t) 0 inb_S384x512_S256x512_0_0) (tapsOf (iblk m c 4 t) 3 1024 inb_S16x2560_S3x512_3_1024) (tileOf (thirdPieces m c L t) 64 inb_S384x512_S256x512_64_0)) (k0_pay36 (k0_pay5 (grid0.coords t)) (tapsOf (iblk m c 4 t) 6 1024 inb_S16x2560_S3x512_6_1024)) (tileOf (thirdPieces m c L t) 128 inb_S384x512_S256x512_128_0) (k0_pay37 (k0_pay5 (grid0.coords t)) (tapsOf (iblk m c 4 t) 6 1024 inb_S16x2560_S3x512_6_1024) (tileOf (thirdPieces m c L t) 128 inb_S384x512_S256x512_128_0))) r (part (kPc m c) (kCw m c) (seqOf t) (rowOf t r) 2) := third_same fun q => by
  refine section_at m c t 2 1024 rfl (l0 := inb_S1x64x2560_S1x64x512_0_0_1024) (l1 := inb_S1x256x2560_S1x256x512_0_0_1024) (l2 := inb_S1x64x2560_S1x64x512_0_0_1024) rfl ?_ ?_ ?_ r q <;> intro r q
  · exact top2 _ _ r q
  · exact main2 _ r q
  · exact bottom2 _ _ r q

abbrev fourthPieces : List (View.Piece (Elt Ideal) S384x512 (.f32 : EltTy)) :=
  written (k0_pay39 (topBit t) (haloOf (iblk m c 0 t) 1536 inb_S1x64x2560_S1x64x512_0_0_1536)) (k0_pay40 (bodyOf (iblk m c 1 t) 1536 inb_S1x256x2560_S1x256x512_0_0_1536)) (k0_pay42 <| k0_pay41 (nextBit t) (haloOf (iblk m c 2 t) 1536 inb_S1x64x2560_S1x64x512_0_0_1536)) L

theorem fourth_row : Row (k0_pay50 (k0_pay3 (grid0.coords t)) (k0_pay4 (grid0.coords t)) (k0_pay45 (k0_pay5 (grid0.coords t)) (tapsOf (iblk m c 4 t) 0 1536 inb_S16x2560_S3x512_0_1536) (tileOf (fourthPieces m c L t) 0 inb_S384x512_S256x512_0_0) (tapsOf (iblk m c 4 t) 3 1536 inb_S16x2560_S3x512_3_1536) (tileOf (fourthPieces m c L t) 64 inb_S384x512_S256x512_64_0)) (tileOf (fourthPieces m c L t) 128 inb_S384x512_S256x512_128_0) (k0_pay47 (k0_pay5 (grid0.coords t)) (tapsOf (iblk m c 4 t) 0 1536 inb_S16x2560_S3x512_0_1536) (tileOf (fourthPieces m c L t) 0 inb_S384x512_S256x512_0_0) (tapsOf (iblk m c 4 t) 3 1536 inb_S16x2560_S3x512_3_1536) (tileOf (fourthPieces m c L t) 64 inb_S384x512_S256x512_64_0) (tapsOf (iblk m c 4 t) 6 1536 inb_S16x2560_S3x512_6_1536) (tileOf (fourthPieces m c L t) 128 inb_S384x512_S256x512_128_0)) (k0_pay48 (k0_pay5 (grid0.coords t)) (tapsOf (iblk m c 4 t) 0 1536 inb_S16x2560_S3x512_0_1536) (tileOf (fourthPieces m c L t) 0 inb_S384x512_S256x512_0_0) (tapsOf (iblk m c 4 t) 3 1536 inb_S16x2560_S3x512_3_1536) (tileOf (fourthPieces m c L t) 64 inb_S384x512_S256x512_64_0) (tapsOf (iblk m c 4 t) 6 1536 inb_S16x2560_S3x512_6_1536) (tileOf (fourthPieces m c L t) 128 inb_S384x512_S256x512_128_0)) (k0_pay49 (k0_pay5 (grid0.coords t)) (tapsOf (iblk m c 4 t) 6 1536 inb_S16x2560_S3x512_6_1536))) r (part (kPc m c) (kCw m c) (seqOf t) (rowOf t r) 3) := fourth_same fun q => by
  refine section_at m c t 3 1536 rfl (l0 := inb_S1x64x2560_S1x64x512_0_0_1536) (l1 := inb_S1x256x2560_S1x256x512_0_0_1536) (l2 := inb_S1x64x2560_S1x64x512_0_0_1536) rfl ?_ ?_ ?_ r q <;> intro r q
  · exact top3 _ _ r q
  · exact main3 _ r q
  · exact bottom3 _ _ r q

abbrev fifthPieces : List (View.Piece (Elt Ideal) S384x512 (.f32 : EltTy)) :=
  written (k0_pay51 (topBit t) (haloOf (iblk m c 0 t) 2048 inb_S1x64x2560_S1x64x512_0_0_2048)) (k0_pay52 (bodyOf (iblk m c 1 t) 2048 inb_S1x256x2560_S1x256x512_0_0_2048)) (k0_pay53 (nextBit t) (haloOf (iblk m c 2 t) 2048 inb_S1x64x2560_S1x64x512_0_0_2048)) L

theorem fifth_row : Row (k0_pay61 (k0_pay4 (grid0.coords t)) (k0_pay57 (k0_pay5 (grid0.coords t)) (tapsOf (iblk m c 4 t) 0 2048 inb_S16x2560_S3x512_0_2048) (tileOf (fifthPieces m c L t) 0 inb_S384x512_S256x512_0_0) (tapsOf (iblk m c 4 t) 3 2048 inb_S16x2560_S3x512_3_2048) (tileOf (fifthPieces m c L t) 64 inb_S384x512_S256x512_64_0) (tapsOf (iblk m c 4 t) 6 2048 inb_S16x2560_S3x512_6_2048) (tileOf (fifthPieces m c L t) 128 inb_S384x512_S256x512_128_0)) (k0_pay58 (k0_pay5 (grid0.coords t)) (tapsOf (iblk m c 4 t) 0 2048 inb_S16x2560_S3x512_0_2048) (tileOf (fifthPieces m c L t) 0 inb_S384x512_S256x512_0_0) (tapsOf (iblk m c 4 t) 3 2048 inb_S16x2560_S3x512_3_2048) (tileOf (fifthPieces m c L t) 64 inb_S384x512_S256x512_64_0) (tapsOf (iblk m c 4 t) 6 2048 inb_S16x2560_S3x512_6_2048) (tileOf (fifthPieces m c L t) 128 inb_S384x512_S256x512_128_0)) (k0_pay59 (k0_pay5 (grid0.coords t)) (tapsOf (iblk m c 4 t) 0 2048 inb_S16x2560_S3x512_0_2048) (tileOf (fifthPieces m c L t) 0 inb_S384x512_S256x512_0_0) (tapsOf (iblk m c 4 t) 3 2048 inb_S16x2560_S3x512_3_2048) (tileOf (fifthPieces m c L t) 64 inb_S384x512_S256x512_64_0) (tapsOf (iblk m c 4 t) 6 2048 inb_S16x2560_S3x512_6_2048) (tileOf (fifthPieces m c L t) 128 inb_S384x512_S256x512_128_0)) (Scalar.ofBits .f32 0x00000000#32) (k0_pay60 (k0_pay3 (grid0.coords t)))) r (part (kPc m c) (kCw m c) (seqOf t) (rowOf t r) 4) := fifth_same fun q => by
  refine section_at m c t 4 2048 rfl (l0 := inb_S1x64x2560_S1x64x512_0_0_2048) (l1 := inb_S1x256x2560_S1x256x512_0_0_2048) (l2 := inb_S1x64x2560_S1x64x512_0_0_2048) rfl ?_ ?_ ?_ r q <;> intro r q
  · exact top4 _ _ r q
  · exact main4 _ r q
  · exact bottom4 _ _ r q

end At

end Cert.Kernel4Ideal.Prep

end
-- ==== Proof.Prep.Loads.lean ====
/-
  The rows the preparation's body loads, and its result arrays.
-/
module

public import proofs.«01_k».proof.Proof.Prep.Parts

@[expose] public section

set_option maxRecDepth 16384

noncomputable section

namespace Cert.Kernel4Ideal.Prep

open Cert.Kernel4Ideal Cert.Kernel4Ideal.Gen Cert.Kernel4Ideal.Value
open Idealize.ShloMosaic
open Idealize.ShloMosaic.TcCoe
open Cert.Prep
open Cert.Outproj (head col IsReal)

variable (m : (ℓ : Loc nD τ sig) → Buf (Elt Ideal) ℓ) (c : Dev nD)

/-! ## The rows loaded -/

section Loads

variable (t : Fin cfg0.N) (r : Fin 256)

theorem tail_row (o : ℕ) (ho : o + 128 ≤ 384) (i) (k : Fin 128) :
    View.ld (iblk m c 3 t) (Rect.unit (s := S1x256x384) ![0, 0, o] ![1, 256, 128] i) (ix3 0 r k) = lowRank (kPn m c) (seqOf t) (rowOf t r) ⟨o + k.val, by omega⟩ :=
  (ld_tail _ o ho i r k).trans (tail_at m c t r _)

theorem par0 (i) (q : Fin 512) : View.ld (iblk m c 5 t) (Rect.unit (s := S8x512) ![0, 0] ![1, 512] i) (ix2 0 q) = kW0 m c (ix2 0 q) :=
  (ld_par _ 0 i q).trans ((par_block m c t 0 q).trans (par_entry0 m c q))

theorem par1 (i) (q : Fin 512) : View.ld (iblk m c 5 t) (Rect.unit (s := S8x512) ![1, 0] ![1, 512] i) (ix2 0 q) = kW0 m c (ix2 1 q) :=
  (ld_par _ 1 i q).trans ((par_block m c t 1 q).trans (par_entry1 m c q))

theorem par2 (i) (q : Fin 512) : View.ld (iblk m c 5 t) (Rect.unit (s := S8x512) ![2, 0] ![1, 512] i) (ix2 0 q) = kA0 m c (ix1 q) :=
  (ld_par _ 2 i q).trans ((par_block m c t 2 q).trans (par_entry2 m c q))

theorem par3 (i) (q : Fin 512) : View.ld (iblk m c 5 t) (Rect.unit (s := S8x512) ![3, 0] ![1, 512] i) (ix2 0 q) = kKk m c (ix1 q) :=
  (ld_par _ 3 i q).trans ((par_block m c t 3 q).trans (par_entry3 m c q))

theorem par4 (i) (q : Fin 512) : View.ld (iblk m c 5 t) (Rect.unit (s := S8x512) ![4, 0] ![1, 512] i) (ix2 0 q) = kKa m c (ix1 q) :=
  (ld_par _ 4 i q).trans ((par_block m c t 4 q).trans (par_entry4 m c q))

theorem par5 (i) (q : Fin 512) : View.ld (iblk m c 5 t) (Rect.unit (s := S8x512) ![5, 0] ![1, 512] i) (ix2 0 q) = kBn m c (ix2 ⟨q.val / 64, by omega⟩ ⟨q.val % 64, by omega⟩) :=
  (ld_par _ 5 i q).trans ((par_block m c t 5 q).trans (par_entry5 m c q))

end Loads

/-! ## Rows equal entry by entry -/

theorem decay_congr {w0 w0' : Fin 512 → EReal} {l l' : Fin 64 → EReal} {w : Fin 64 → Fin 512 → EReal} (h0 : ∀ q, w0 q = w0' q) (h1 : ∀ k, l k = l' k) (q : Fin 512) :
    decay w0 l w q = decay w0' l' w q := by
  rw [funext h0, funext h1]

theorem rate_congr {w0 w0' : Fin 512 → EReal} {l l' : Fin 64 → EReal} {w : Fin 64 → Fin 512 → EReal} (h0 : ∀ q, w0 q = w0' q) (h1 : ∀ k, l k = l' k) (q : Fin 512) :
    rate w0 l w q = rate w0' l' w q := by
  rw [funext h0, funext h1]

theorem gate_congr {l l' : Fin 128 → EReal} {w : Fin 128 → Fin 512 → EReal} (h : ∀ k, l k = l' k) (q : Fin 512) : gate l w q = gate l' w q := by
  rw [funext h]

theorem keyed_congr {k a p p' : Fin 512 → EReal} (h : ∀ q, p q = p' q) (q : Fin 512) : keyed k a p q = keyed k a p' q := by
  rw [funext h]

theorem unit_congr {z z' : Fin 512 → EReal} (h : ∀ q, z q = z' q) (q : Fin 512) : unit z q = unit z' q := by
  rw [funext h]

theorem bonus_congr {z z' s : Fin 512 → EReal} (h : ∀ q, z q = z' q) (q : Fin 512) : bonus z s q = bonus z' s q := by
  rw [funext h]

/-- The rates' row. -/
theorem rate_row (hz : Reals m c) (t : Fin cfg0.N) (r : Fin 256) (i i') :
    Row (k0_pay72 (k0_pay70 (View.ld (iblk m c 5 t) (Rect.unit (s := S8x512) ![2, 0] ![1, 512] i))) (k0_pay71 (View.ld (iblk m c 3 t) (Rect.unit (s := S1x256x384) ![0, 0, 128] ![1, 256, 128] i'))) (iblk m c 8 t))
      r (rateEntry (kPn m c) (kA0 m c) (kAB m c) (seqOf t) (rowOf t r)) := by
  have hl (k : Fin 64) : View.ld (iblk m c 3 t) (Rect.unit (s := S1x256x384) ![0, 0, 128] ![1, 256, 128] i') (ix3 0 r ⟨k.val, by omega⟩) =
      lowRank (kPn m c) (seqOf t) (rowOf t r) ⟨128 + k.val, by omega⟩ := tail_row m c t r 128 (by omega) i' _
  refine fun q => (pay72_row (a_at m c t) (fun k q => hz.aB _) (fun k => ?_) q).trans (rate_congr (par2 m c t i) hl q)
  rw [hl]
  have e : (⟨1152 + (128 + k.val), by omega⟩ : Fin 1536) = ⟨1280 + k.val, by omega⟩ := Fin.ext (by show 1152 + (128 + k.val) = 1280 + k.val; omega)
  show IsReal (kPn m c (ix3 _ _ ⟨1152 + (128 + k.val), _⟩))
  rw [e]
  exact hz.pn _ _ k

/-! ## What the heads' sums are of -/

section Sums

variable (t : Fin cfg0.N) (r : Fin 256)

theorem gain_row (i) (q : Fin 512) :
    part (kPc m c) (kCw m c) (seqOf t) (rowOf t r) 3 q * View.ld (iblk m c 5 t) (Rect.unit (s := S8x512) ![3, 0] ![1, 512] i) (ix2 0 q) =
      gained (kPc m c) (kCw m c) (kKk m c) (seqOf t) (rowOf t r) q :=
  congrArg (_ * ·) (par3 m c t i q)

theorem real_gain (hz : Reals m c) (t : Fin cfg0.N) (r : Fin 256) (i) (q : Fin 512) :
    IsReal (part (kPc m c) (kCw m c) (seqOf t) (rowOf t r) 3 q * View.ld (iblk m c 5 t) (Rect.unit (s := S8x512) ![3, 0] ![1, 512] i) (ix2 0 q)) := by
  rw [gain_row]
  exact real_gained hz _ _ q

theorem score_row (i i') (q : Fin 512) :
    part (kPc m c) (kCw m c) (seqOf t) (rowOf t r) 2 q *
        keyed (part (kPc m c) (kCw m c) (seqOf t) (rowOf t r) 3) (rateEntry (kPn m c) (kA0 m c) (kAB m c) (seqOf t) (rowOf t r))
          (fun q => View.ld (iblk m c 5 t) (Rect.unit (s := S8x512) ![4, 0] ![1, 512] i) (ix2 0 q)) q *
        View.ld (iblk m c 5 t) (Rect.unit (s := S8x512) ![5, 0] ![1, 512] i') (ix2 0 q) =
      scored (kPc m c) (kPn m c) (kCw m c) (kA0 m c) (kAB m c) (kKa m c) (kBn m c) (seqOf t) (rowOf t r) q :=
  congrArg₂ (· * ·) (congrArg (_ * ·) (keyed_congr (par4 m c t i) q)) (par5 m c t i' q)

theorem real_score (hz : Reals m c) (t : Fin cfg0.N) (r : Fin 256) (i i') (q : Fin 512) :
    IsReal (part (kPc m c) (kCw m c) (seqOf t) (rowOf t r) 2 q *
        keyed (part (kPc m c) (kCw m c) (seqOf t) (rowOf t r) 3) (rateEntry (kPn m c) (kA0 m c) (kAB m c) (seqOf t) (rowOf t r))
          (fun q => View.ld (iblk m c 5 t) (Rect.unit (s := S8x512) ![4, 0] ![1, 512] i) (ix2 0 q)) q *
        View.ld (iblk m c 5 t) (Rect.unit (s := S8x512) ![5, 0] ![1, 512] i') (ix2 0 q)) := by
  rw [score_row]
  exact real_scored hz _ _ q

end Sums

/-! ## The result arrays -/

abbrev qResult : S16x4352x512.Idx → EReal := fun i => qEntry (kPc m c) (kCw m c) (i 0) (i 1) (i 2)

abbrev kResult : S16x4352x512.Idx → EReal := fun i => kEntry (kPc m c) (kCw m c) (i 0) (i 1) (i 2)

abbrev rResult : S16x4352x512.Idx → EReal := fun i => part (kPc m c) (kCw m c) (i 0) (i 1) 2 (i 2)

abbrev keyedResult : S16x4352x512.Idx → EReal := fun i => keyedEntry (kPc m c) (kPn m c) (kCw m c) (kA0 m c) (kAB m c) (kKa m c) (i 0) (i 1) (i 2)

abbrev vResult : S16x4352x512.Idx → EReal := fun i => part (kPc m c) (kCw m c) (i 0) (i 1) 4 (i 2)

abbrev unitResult : S16x4352x512.Idx → EReal := fun i => unitEntry (kPc m c) (kCw m c) (kKk m c) (i 0) (i 1) (i 2)

abbrev ratedResult : S16x4352x512.Idx → EReal := fun i => unitEntry (kPc m c) (kCw m c) (kKk m c) (i 0) (i 1) (i 2) * rateEntry (kPn m c) (kA0 m c) (kAB m c) (i 0) (i 1) (i 2)

abbrev firstResult : S16x4352x512.Idx → EReal := fun i => decayEntry (kPn m c) (kW0 m c) (kWB m c) (i 0) (i 1) 0 (i 2)

abbrev secondResult : S16x4352x512.Idx → EReal := fun i => decayEntry (kPn m c) (kW0 m c) (kWB m c) (i 0) (i 1) 1 (i 2)

abbrev gateResult : S16x4352x512.Idx → EReal := fun i => gateEntry (kPn m c) (kGB m c) (i 0) (i 1) (i 2)

abbrev bonusResult : S16x4352x512.Idx → EReal := fun i => bonusEntry (kPc m c) (kPn m c) (kCw m c) (kA0 m c) (kAB m c) (kKa m c) (kBn m c) (i 0) (i 1) (i 2)

end Cert.Kernel4Ideal.Prep

end
-- ==== Proof.Prep.Value.lean ====
/-
  The preparation's results: each block stored, and the arrays after the run, are the entries meant.
-/
module

public import proofs.«01_k».proof.Proof.Prep.Loads

@[expose] public section

set_option maxRecDepth 16384

noncomputable section

namespace Cert.Kernel4Ideal.Prep

open Cert.Kernel4Ideal Cert.Kernel4Ideal.Gen Cert.Kernel4Ideal.Value
open Idealize.ShloMosaic
open Idealize.ShloMosaic.TcCoe
open Cert.Prep
open Cert.Outproj (head col IsReal)

variable (m : (ℓ : Loc nD τ sig) → Buf (Elt Ideal) ℓ) (c : Dev nD)

/-! ## The blocks stored, and the arrays after the run -/

theorem q_block (t : Fin cfg0.N) (y : S1x256x512.Idx) : (dats m 0 c).flushed 11 t y = qResult m c (((cfg0.win 11).blk t).view.emb y) := by
  idx_vars y
  obtain rfl : y0 = 0 := Subsingleton.elim _ _
  rw [place_11, flushed11_A m c t]
  frame_out
  exact pay62_row (first_row m c t y1) y2

theorem q_final : (dats m 0 c).arrAt 11 cfg0.N = qResult m c := by
  refine (dats m 0 c).arrAt_eq_of_covers 11 (qResult m c) (by decide +kernel) fun t hf y => ?_
  exact q_block m c t y

theorem k_block (t : Fin cfg0.N) (y : S1x256x512.Idx) : (dats m 0 c).flushed 12 t y = kResult m c (((cfg0.win 12).blk t).view.emb y) := by
  idx_vars y
  obtain rfl : y0 = 0 := Subsingleton.elim _ _
  rw [place_12, flushed12_A m c t]
  frame_out
  exact pay63_row (second_row m c _ t y1) y2

theorem k_final : (dats m 0 c).arrAt 12 cfg0.N = kResult m c := by
  refine (dats m 0 c).arrAt_eq_of_covers 12 (kResult m c) (by decide +kernel) fun t hf y => ?_
  exact k_block m c t y

theorem r_block (t : Fin cfg0.N) (y : S1x256x512.Idx) : (dats m 0 c).flushed 13 t y = rResult m c (((cfg0.win 13).blk t).view.emb y) := by
  idx_vars y
  obtain rfl : y0 = 0 := Subsingleton.elim _ _
  rw [place_13, flushed13_A m c t]
  frame_out
  exact pay64_row (third_row m c _ t y1) y2

theorem r_final : (dats m 0 c).arrAt 13 cfg0.N = rResult m c := by
  refine (dats m 0 c).arrAt_eq_of_covers 13 (rResult m c) (by decide +kernel) fun t hf y => ?_
  exact r_block m c t y

theorem keyed_block (hz : Reals m c) (t : Fin cfg0.N) (y : S1x256x512.Idx) : (dats m 0 c).flushed 14 t y = keyedResult m c (((cfg0.win 14).blk t).view.emb y) := by
  idx_vars y
  obtain rfl : y0 = 0 := Subsingleton.elim _ _
  rw [place_14, flushed14_A m c t]
  frame_out
  exact (pay86_row (fourth_row m c _ t y1) (rate_row m c hz t y1 _ _) y2).trans (keyed_congr (par4 m c t _) y2)

theorem keyed_final (hz : Reals m c) : (dats m 0 c).arrAt 14 cfg0.N = keyedResult m c := by
  refine (dats m 0 c).arrAt_eq_of_covers 14 (keyedResult m c) (by decide +kernel) fun t hf y => ?_
  exact keyed_block m c hz t y

theorem v_block (t : Fin cfg0.N) (y : S1x256x512.Idx) : (dats m 0 c).flushed 15 t y = vResult m c (((cfg0.win 15).blk t).view.emb y) := by
  idx_vars y
  obtain rfl : y0 = 0 := Subsingleton.elim _ _
  rw [place_15, flushed15_A m c t]
  frame_out
  exact pay65_row (fifth_row m c _ t y1) y2

theorem v_final : (dats m 0 c).arrAt 15 cfg0.N = vResult m c := by
  refine (dats m 0 c).arrAt_eq_of_covers 15 (vResult m c) (by decide +kernel) fun t hf y => ?_
  exact v_block m c t y

theorem unit_block (hz : Reals m c) (t : Fin cfg0.N) (y : S1x256x512.Idx) : (dats m 0 c).flushed 16 t y = unitResult m c (((cfg0.win 16).blk t).view.emb y) := by
  idx_vars y
  obtain rfl : y0 = 0 := Subsingleton.elim _ _
  rw [place_16, flushed16_A m c t]
  frame_out
  exact (pay84_row (heads_at m c t) (fourth_row m c _ t y1) (real_gain m c hz t y1 _) y2).trans (unit_congr (gain_row m c t y1 _) y2)

theorem unit_final (hz : Reals m c) : (dats m 0 c).arrAt 16 cfg0.N = unitResult m c := by
  refine (dats m 0 c).arrAt_eq_of_covers 16 (unitResult m c) (by decide +kernel) fun t hf y => ?_
  exact unit_block m c hz t y

theorem rated_block (hz : Reals m c) (t : Fin cfg0.N) (y : S1x256x512.Idx) : (dats m 0 c).flushed 17 t y = ratedResult m c (((cfg0.win 17).blk t).view.emb y) := by
  idx_vars y
  obtain rfl : y0 = 0 := Subsingleton.elim _ _
  rw [place_17, flushed17_A m c t]
  frame_out
  exact (pay85_row (heads_at m c t) (fourth_row m c _ t y1) (real_gain m c hz t y1 _) (rate_row m c hz t y1 _ _) y2).trans
    (congrArg (· * _) (unit_congr (gain_row m c t y1 _) y2))

theorem rated_final (hz : Reals m c) : (dats m 0 c).arrAt 17 cfg0.N = ratedResult m c := by
  refine (dats m 0 c).arrAt_eq_of_covers 17 (ratedResult m c) (by decide +kernel) fun t hf y => ?_
  exact rated_block m c hz t y

theorem first_block (hz : Reals m c) (t : Fin cfg0.N) (y : S1x256x512.Idx) : (dats m 0 c).flushed 18 t y = firstResult m c (((cfg0.win 18).blk t).view.emb y) := by
  idx_vars y
  obtain rfl : y0 = 0 := Subsingleton.elim _ _
  rw [place_18, flushed18_A m c t]
  frame_out
  exact (pay68_row (wf_at m c t) (fun k q => hz.wB _) y2).trans (decay_congr (par0 m c t _)
    (fun k => (tail_row m c t y1 0 (by omega) _ _).trans (congrArg (lowRank _ _ _) (Fin.ext (by show 0 + k.val = 64 * 0 + k.val; omega)))) y2)

theorem first_final (hz : Reals m c) : (dats m 0 c).arrAt 18 cfg0.N = firstResult m c := by
  refine (dats m 0 c).arrAt_eq_of_covers 18 (firstResult m c) (by decide +kernel) fun t hf y => ?_
  exact first_block m c hz t y

theorem second_block (hz : Reals m c) (t : Fin cfg0.N) (y : S1x256x512.Idx) : (dats m 0 c).flushed 19 t y = secondResult m c (((cfg0.win 19).blk t).view.emb y) := by
  idx_vars y
  obtain rfl : y0 = 0 := Subsingleton.elim _ _
  rw [place_19, flushed19_A m c t]
  frame_out
  exact (pay69_row (wb_at m c t) (fun k q => hz.wB _) y2).trans (decay_congr (par1 m c t _)
    (fun k => (tail_row m c t y1 0 (by omega) _ _).trans (congrArg (lowRank _ _ _) (Fin.ext (by show 0 + (64 + k.val) = 64 * 1 + k.val; omega)))) y2)

theorem second_final (hz : Reals m c) : (dats m 0 c).arrAt 19 cfg0.N = secondResult m c := by
  refine (dats m 0 c).arrAt_eq_of_covers 19 (secondResult m c) (by decide +kernel) fun t hf y => ?_
  exact second_block m c hz t y

theorem gate_block (hz : Reals m c) (t : Fin cfg0.N) (y : S1x256x512.Idx) : (dats m 0 c).flushed 20 t y = gateResult m c (((cfg0.win 20).blk t).view.emb y) := by
  idx_vars y
  obtain rfl : y0 = 0 := Subsingleton.elim _ _
  rw [place_20, flushed20_A m c t]
  frame_out
  exact (pay73_row (g_at m c t) (fun k q => hz.gB _) y2).trans (gate_congr (tail_row m c t y1 256 (by omega) _) y2)

theorem gate_final (hz : Reals m c) : (dats m 0 c).arrAt 20 cfg0.N = gateResult m c := by
  refine (dats m 0 c).arrAt_eq_of_covers 20 (gateResult m c) (by decide +kernel) fun t hf y => ?_
  exact gate_block m c hz t y

theorem bonus_block (hz : Reals m c) (t : Fin cfg0.N) (y : S1x256x512.Idx) : (dats m 0 c).flushed 21 t y = bonusResult m c (((cfg0.win 21).blk t).view.emb y) := by
  idx_vars y
  obtain rfl : y0 = 0 := Subsingleton.elim _ _
  rw [place_21, flushed21_A m c t]
  frame_out
  exact (pay1_row (heads_at m c t) (third_row m c _ t y1) (fourth_row m c _ t y1) (rate_row m c hz t y1 _ _) (fifth_row m c _ t y1) (real_score m c hz t y1 _ _) y2).trans
    (bonus_congr (score_row m c t y1 _ _) y2)

theorem bonus_final (hz : Reals m c) : (dats m 0 c).arrAt 21 cfg0.N = bonusResult m c := by
  refine (dats m 0 c).arrAt_eq_of_covers 21 (bonusResult m c) (by decide +kernel) fun t hf y => ?_
  exact bonus_block m c hz t y

end Cert.Kernel4Ideal.Prep

end
-- ==== Proof.Prep.Range.lean ====
/-
  What the precondition says of the preparation's arguments: what its splits are of is real.
-/
module

public import proofs.«01_k».proof.Proof.Gen.Pre_prep_finite
public import proofs.«01_k».proof.Proof.Outproj.Range
public import Idealize.ShloMosaic.Lib.ReduceAll

@[expose] public section

set_option maxRecDepth 16384

noncomputable section

namespace Cert.Prep.Range

open Idealize.ShloMosaic
open Cert.Pre_prep_finite Cert.Pre_prep_finite.Gen
open Cert.Outproj (IsReal)
open Cert.Outproj.Range (real_of_below)

variable {pc : FVec Ideal S16x4352x2560 .f32} {pn : FVec Ideal S16x4352x1536 .f32} {cw : FVec Ideal S3x3x2560 .f32} {w0 : FVec Ideal S2x512 .f32}
  {wB : FVec Ideal S2x64x512 .f32} {a0 : FVec Ideal S512 .f32} {aB : FVec Ideal S64x512 .f32} {gB : FVec Ideal S128x512 .f32}
  {kk ka : FVec Ideal S512 .f32} {bn : FVec Ideal S8x64 .f32}

instance : Subsingleton S_.Idx := ⟨fun a b => funext fun i => i.elim0⟩

theorem pc_slice (h : S16x4352x2560.Slices ![0, 0, 1024] S16x4352x1024) (b : Fin 16) (g : Fin 4352) (k : Fin 1024) :
    extractStridedSlice S16x4352x1024 ![0, 0, 1024] pc h (ix3 b g k) = pc (ix3 b g ⟨1024 + k.val, by omega⟩) := by
  pointwise

theorem cw_slice (h : S3x3x2560.Slices ![0, 0, 1024] S3x3x1024) (a d : Fin 3) (k : Fin 1024) :
    extractStridedSlice S3x3x1024 ![0, 0, 1024] cw h (ix3 a d k) = cw (ix3 a d ⟨1024 + k.val, by omega⟩) := by
  pointwise

theorem pn_slice (h : S16x4352x1536.Slices ![0, 0, 1280] S16x4352x64) (b : Fin 16) (g : Fin 4352) (k : Fin 64) :
    extractStridedSlice S16x4352x64 ![0, 0, 1280] pn h (ix3 b g k) = pn (ix3 b g ⟨1280 + k.val, by omega⟩) := by
  pointwise

theorem reals (h : fn pc pn cw w0 wB a0 aB gB kk ka bn = fun _ => 1#1) :
    (∀ b g (k : Fin 1024), IsReal (pc (ix3 b g ⟨1024 + k.val, by omega⟩))) ∧ (∀ a d (k : Fin 1024), IsReal (cw (ix3 a d ⟨1024 + k.val, by omega⟩)))
      ∧ (∀ b g (k : Fin 64), IsReal (pn (ix3 b g ⟨1280 + k.val, by omega⟩))) ∧ (∀ i, IsReal (wB i)) ∧ (∀ i, IsReal (aB i)) ∧ (∀ i, IsReal (gB i))
      ∧ (∀ i, IsReal (kk i)) ∧ (∀ i, IsReal (ka i)) ∧ (∀ i, IsReal (bn i)) := by
  have h0 := congrFun h (fun i => i.elim0)
  obtain ⟨h1, h10⟩ := IntOp.andi_eq_one.1 h0
  obtain ⟨h2, h9⟩ := IntOp.andi_eq_one.1 h1
  obtain ⟨h3, h8⟩ := IntOp.andi_eq_one.1 h2
  obtain ⟨h4, h7⟩ := IntOp.andi_eq_one.1 h3
  obtain ⟨h5, h6⟩ := IntOp.andi_eq_one.1 h4
  obtain ⟨hA, hE⟩ := IntOp.andi_eq_one.1 h5
  obtain ⟨hB, hD⟩ := IntOp.andi_eq_one.1 hA
  obtain ⟨hP, hC⟩ := IntOp.andi_eq_one.1 hB
  refine ⟨fun b g k => ?_, fun a d k => ?_, fun b g k => ?_, fun i => real_of_below (Host.reduce_andi_all _ _ _ _ _ hE i),
    fun i => real_of_below (Host.reduce_andi_all _ _ _ _ _ h6 i), fun i => real_of_below (Host.reduce_andi_all _ _ _ _ _ h7 i),
    fun i => real_of_below (Host.reduce_andi_all _ _ _ _ _ h8 i), fun i => real_of_below (Host.reduce_andi_all _ _ _ _ _ h9 i),
    fun i => real_of_below (Host.reduce_andi_all _ _ _ _ _ h10 i)⟩
  · rw [← pc_slice (pc := pc) Facts.slices_S16x4352x2560_S16x4352x1024_0_0_1024]
    exact real_of_below (Host.reduce_andi_all _ _ _ _ _ hP (ix3 b g k))
  · rw [← cw_slice (cw := cw) Facts.slices_S3x3x2560_S3x3x1024_0_0_1024]
    exact real_of_below (Host.reduce_andi_all _ _ _ _ _ hC (ix3 a d k))
  · rw [← pn_slice (pn := pn) Facts.slices_S16x4352x1536_S16x4352x64_0_0_1280]
    exact real_of_below (Host.reduce_andi_all _ _ _ _ _ hD (ix3 b g k))

end Cert.Prep.Range

end
-- ==== Proof.Prep.Reference.lean ====
/-
  The preparation's reference, read at an index.
-/
module

public import proofs.«01_k».proof.Proof.Gen.Reference4Ideal.Run
public import proofs.«01_k».proof.Proof.Prep.Meant

@[expose] public section

set_option maxRecDepth 16384

noncomputable section

namespace Cert.Prep

open Idealize.ShloMosaic Idealize.SL.Sem
open Idealize.ShloMosaic.TcCoe
open Cert.Reference4Ideal Cert.Reference4Ideal.Gen Cert.Reference4Ideal.Value
open Cert.Outproj (head col head_col)

variable (A : Valuation τ sig (Elt Ideal))

/-- The arguments. -/
abbrev rPc : S16x4352x2560.Idx → EReal := A (Proc.devRef .tc main_arg0)
abbrev rPn : S16x4352x1536.Idx → EReal := A (Proc.devRef .tc main_arg1)
abbrev rCw : S3x3x2560.Idx → EReal := A (Proc.devRef .tc main_arg2)

/-! ## The convolution -/

theorem sitofp_zero : (FloatOps.sitofp FTy.f32 0#32 : Ideal .f32) = (0 : EReal) := by
  show (((0#32 : BitVec 32).toInt : ℝ) : EReal) = 0
  simp

theorem v3_at (b : Fin 16) (n : Fin 258) (ch : Fin 2560) : res_main_v3 A (ix3 b n ch) = within (rPc A) b 0 256 (n.val + 64) ch := by
  pointwise [res_main_v3]
  unfold within
  by_cases h : 1 ≤ n.val ∧ n.val - 1 < 256
  · rw [dif_pos h, dif_pos (by omega)]
    exact congrArg (fun i => rPc A (ix3 b i ch)) (Fin.ext (by show n.val - 1 = n.val + 64 - 65; omega))
  · rw [dif_neg h, dif_neg (by omega)]
    exact sitofp_zero

theorem v28_at (b : Fin 16) (i j : Fin 66) (ch : Fin 2560) :
    res_main_v28 A (ix4 b i j ch) = if 1 ≤ j.val ∧ j.val < 65 then within (rPc A) b 256 4352 (256 + 64 * i.val + j.val) ch else 0 := by
  pointwise [res_main_v28]
  unfold within
  by_cases h : (1 ≤ i.val ∧ i.val - 1 < 64) ∧ 1 ≤ j.val ∧ j.val - 1 < 64
  · rw [dif_pos h, if_pos (by omega), dif_pos (by omega)]
    exact congrArg (fun i => rPc A (ix3 b i ch)) (Fin.ext (by show 256 + ((i.val - 1) * 64 + (j.val - 1)) = 256 + 64 * i.val + j.val - 65; omega))
  · rw [dif_neg h]
    refine sitofp_zero.trans ?_
    by_cases hj : 1 ≤ j.val ∧ j.val < 65
    · rw [if_pos hj, dif_neg (by omega)]
    · rw [if_neg hj]

theorem ctx_tap (b : Fin 16) (g : Fin 256) (dc : Fin 3) (ch : Fin 2560) (n : Fin 258) (hn : n.val = dc.val + g.val) :
    res_main_v3 A (ix3 b n ch) = tap (rPc A) b g.val 1 dc ch := by
  unfold tap
  rw [v3_at, if_pos g.isLt, if_pos rfl]
  exact congrArg (within (rPc A) b 0 256 · ch) (by rw [hn]; show dc.val + g.val + 64 = g.val + 64 * 1 + dc.val; omega)

theorem lat_tap (b : Fin 16) (g : Fin 4096) (dr dc : Fin 3) (ch : Fin 2560) (i j : Fin 66) (hi : i.val = dr.val + g.val / 64) (hj : j.val = dc.val + g.val % 64) :
    res_main_v28 A (ix4 b i j ch) = tap (rPc A) b (256 + g.val) dr dc ch := by
  unfold tap
  rw [v28_at, if_neg (show ¬ 256 + g.val < 256 by omega)]
  by_cases h : 1 ≤ j.val ∧ j.val < 65
  · rw [if_pos h, if_pos (by omega)]
    exact congrArg (within (rPc A) b 256 4352 · ch) (by omega)
  · rw [if_neg h, if_neg (by omega)]

theorem tap_ctx_zero (pc : (⟨3, ![16, 4352, 2560]⟩ : Shape).Idx → EReal) (b : Fin 16) {g : ℕ} (hg : g < 256) {dr : Fin 3} (h : dr ≠ 1) (dc : Fin 3) (ch : Fin 2560) : tap pc b g dr dc ch = 0 := by
  unfold tap
  rw [if_pos hg, if_neg h]

theorem conv_ctx (b : Fin 16) (g : Fin 256) (ch : Fin 2560) : res_main_v94 A (ix3 b ⟨g.val, by omega⟩ ch) = conv (rPc A) (rCw A) b g.val ch := by
  pointwise [res_main_v94, res_main_v2]
  rw [ctx_tap A b g 0 ch _ (by show g.val = 0 + g.val; omega), ctx_tap A b g 1 ch _ rfl, ctx_tap A b g 2 ch _ rfl]
  unfold conv convCol
  simp only [tap_ctx_zero (rPc A) b g.isLt (show (0 : Fin 3) ≠ 1 by decide), tap_ctx_zero (rPc A) b g.isLt (show (2 : Fin 3) ≠ 1 by decide), zero_mul, zero_add, add_zero]

/-- The grid's nine products in either order. -/
theorem nine (t : Fin 3 → Fin 3 → EReal) :
    t 0 0 + t 0 1 + t 0 2 + t 1 0 + t 1 1 + t 1 2 + t 2 0 + t 2 1 + t 2 2
      = t 0 0 + t 1 0 + t 2 0 + (t 0 1 + t 1 1 + t 2 1) + (t 0 2 + t 1 2 + t 2 2) := by
  ac_rfl

theorem conv_lat (b : Fin 16) (g : Fin 4096) (ch : Fin 2560) : res_main_v94 A (ix3 b ⟨256 + g.val, by omega⟩ ch) = conv (rPc A) (rCw A) b (256 + g.val) ch := by
  pointwise [res_main_v94, res_main_v2]
  rw [lat_tap A b g 0 0 ch _ _ (Nat.zero_add _).symm (Nat.zero_add _).symm, lat_tap A b g 0 1 ch _ _ (Nat.zero_add _).symm rfl, lat_tap A b g 0 2 ch _ _ (Nat.zero_add _).symm rfl,
    lat_tap A b g 1 0 ch _ _ rfl (Nat.zero_add _).symm, lat_tap A b g 1 1 ch _ _ rfl rfl, lat_tap A b g 1 2 ch _ _ rfl rfl,
    lat_tap A b g 2 0 ch _ _ rfl (Nat.zero_add _).symm, lat_tap A b g 2 1 ch _ _ rfl rfl, lat_tap A b g 2 2 ch _ _ rfl rfl]
  exact nine fun dr dc => tap (rPc A) b (256 + g.val) dr dc ch * rCw A (ix3 dr dc ch)

theorem conv_at (b : Fin 16) (g : Fin 4352) (ch : Fin 2560) : res_main_v94 A (ix3 b g ch) = conv (rPc A) (rCw A) b g.val ch := by
  by_cases h : g.val < 256
  · exact conv_ctx A b ⟨g.val, h⟩ ch
  · have e := conv_lat A b ⟨g.val - 256, by omega⟩ ch
    have hg : (⟨256 + (g.val - 256), by omega⟩ : Fin 4352) = g := Fin.ext (by show 256 + (g.val - 256) = g.val; omega)
    have hn : 256 + (g.val - 256) = g.val := by omega
    rw [show (⟨256 + (⟨g.val - 256, by omega⟩ : Fin 4096).val, by omega⟩ : Fin 4352) = g from hg, show 256 + (⟨g.val - 256, by omega⟩ : Fin 4096).val = g.val from hn] at e
    exact e

/-! ## The results -/

variable (b : Fin 16) (g : Fin 4352)

theorem v95_at (q : Fin 512) : res_main_v95 A (ix3 b g q) = part (rPc A) (rCw A) b g 0 q := by
  pointwise [res_main_v95]
  rw [conv_at]
  exact congrArg (conv _ _ b g.val) (Fin.ext (by show q.val = 512 * 0 + q.val; omega))

theorem v96_at (q : Fin 512) : res_main_v96 A (ix3 b g q) = part (rPc A) (rCw A) b g 1 q := by
  pointwise [res_main_v96]
  rw [conv_at]
  rfl

theorem v97_at (q : Fin 512) (i) : extractStridedSlice S16x4352x512 ![0, 0, 1024] (res_main_v94 A) i (ix3 b g q) = part (rPc A) (rCw A) b g 2 q := by
  pointwise
  rw [conv_at]
  rfl

theorem v98_at (q : Fin 512) : res_main_v98 A (ix3 b g q) = part (rPc A) (rCw A) b g 3 q := by
  pointwise [res_main_v98]
  rw [conv_at]
  rfl

theorem v99_at (q : Fin 512) : res_main_v99 A (ix3 b g q) = part (rPc A) (rCw A) b g 4 q := by
  pointwise [res_main_v99]
  rw [conv_at]
  rfl

abbrev rKa : S512.Idx → EReal := A (Proc.devRef .tc main_arg9)
abbrev rKk : S512.Idx → EReal := A (Proc.devRef .tc main_arg8)
abbrev rA0 : S512.Idx → EReal := A (Proc.devRef .tc main_arg5)
abbrev rAB : S64x512.Idx → EReal := A (Proc.devRef .tc main_arg6)
abbrev rGB : S128x512.Idx → EReal := A (Proc.devRef .tc main_arg7)
abbrev rBn : S8x64.Idx → EReal := A (Proc.devRef .tc main_arg10)
abbrev rW0 : S2x512.Idx → EReal := A (Proc.devRef .tc main_arg3)
abbrev rWB : S2x64x512.Idx → EReal := A (Proc.devRef .tc main_arg4)

theorem v152_at (q : Fin 512) : res_main_v152 A (ix3 b g q) = rateEntry (rPn A) (rA0 A) (rAB A) b g q := by
  pointwise [res_main_v152, res_main_v100]
  rfl

theorem v163_at (h : Fin 8) (k : Fin 64) : res_main_v163 A (ix4 b g h k) = gained (rPc A) (rCw A) (rKk A) b g (col h k) := by
  pointwise [res_main_v163]
  rw [v98_at]
  rfl

theorem col_divmod (q : Fin 512) (h) (h') : col (⟨q.val / 64, h⟩ : Fin 8) ⟨q.val % 64, h'⟩ = q :=
  Fin.ext (by show q.val / 64 * 64 + q.val % 64 = q.val; omega)

end Cert.Prep

end
-- ==== Proof.Prep.Results.lean ====
/-
  The reference's results are the entries meant.
-/
module

public import proofs.«01_k».proof.Proof.Prep.Reference

@[expose] public section

set_option maxRecDepth 16384

noncomputable section

namespace Cert.Prep

open Idealize.ShloMosaic Idealize.SL.Sem
open Idealize.ShloMosaic.TcCoe
open Cert.Reference4Ideal Cert.Reference4Ideal.Gen Cert.Reference4Ideal.Value
open Cert.Outproj (head col head_col)

variable (A : Valuation τ sig (Elt Ideal))

theorem q_at (b : Fin 16) (g : Fin 4352) (q : Fin 512) :
    (truncf .bf16 (mulf (res_main_v95 A) (Host.divf (broadcastInDim S16x4352x512 ![] bcast_S_S16x4352x512 (constant S_ .f32 0x3F800000#32)) (addf (broadcastInDim S16x4352x512 ![] bcast_S_S16x4352x512 (constant S_ .f32 0x3F800000#32)) (Host.exp (Host.negf (res_main_v95 A)))))) bitsLt_bf16_f32 : FVec Ideal S16x4352x512 .bf16) (ix3 b g q) =
      qEntry (rPc A) (rCw A) b g q := by
  pointwise
  rw [v95_at]
  rfl

theorem k_at (b : Fin 16) (g : Fin 4352) (q : Fin 512) :
    (truncf .bf16 (mulf (mulf (res_main_v96 A) (Host.divf (broadcastInDim S16x4352x512 ![] bcast_S_S16x4352x512 (constant S_ .f32 0x3F800000#32)) (addf (broadcastInDim S16x4352x512 ![] bcast_S_S16x4352x512 (constant S_ .f32 0x3F800000#32)) (Host.exp (Host.negf (res_main_v96 A)))))) (broadcastInDim S16x4352x512 ![] bcast_S_S16x4352x512 (constant S_ .f32 0x3E000000#32))) bitsLt_bf16_f32 : FVec Ideal S16x4352x512 .bf16) (ix3 b g q) =
      kEntry (rPc A) (rCw A) b g q := by
  pointwise
  rw [v96_at]
  rfl

theorem r_at (b : Fin 16) (g : Fin 4352) (q : Fin 512) :
    (extractStridedSlice S16x4352x512 ![0, 0, 1024] (res_main_v94 A) slices_S16x4352x2560_S16x4352x512_0_0_1024 : FVec Ideal S16x4352x512 .f32) (ix3 b g q) =
      part (rPc A) (rCw A) b g 2 q := by
  exact v97_at A b g q _

theorem keyed_at (b : Fin 16) (g : Fin 4352) (q : Fin 512) :
    (mulf (res_main_v98 A) (addf (broadcastInDim S16x4352x512 ![] bcast_S_S16x4352x512 (constant S_ .f32 0x3F800000#32)) (mulf (subf (res_main_v152 A) (broadcastInDim S16x4352x512 ![] bcast_S_S16x4352x512 (constant S_ .f32 0x3F800000#32))) (broadcastInDim S16x4352x512 ![0, 1, 2] bcast_S1x1x512_S16x4352x512_0_1_2 (broadcastInDim S1x1x512 ![2] bcast_S512_S1x1x512_2 (A (Proc.devRef .tc main_arg9)))))) : FVec Ideal S16x4352x512 .f32) (ix3 b g q) =
      keyedEntry (rPc A) (rPn A) (rCw A) (rA0 A) (rAB A) (rKa A) b g q := by
  pointwise
  rw [v98_at, v152_at]
  rfl

theorem val_at (b : Fin 16) (g : Fin 4352) (q : Fin 512) :
    (truncf .bf16 (res_main_v99 A) bitsLt_bf16_f32 : FVec Ideal S16x4352x512 .bf16) (ix3 b g q) =
      part (rPc A) (rCw A) b g 4 q := by
  pointwise
  rw [v99_at]

theorem normed_at (z : FVec Ideal S16x4352x8x64 .f32) (b : Fin 16) (g : Fin 4352) (q : Fin 512) :
    (shapeCast S16x4352x512 (Host.divf z (broadcastInDim S16x4352x8x64 ![0, 1, 2, 3] bcast_S16x4352x8x1_S16x4352x8x64_0_1_2_3 (maximumf (Host.sqrt (broadcastInDim S16x4352x8x1 ![0, 1, 2] bcast_S16x4352x8_S16x4352x8x1_0_1_2 (Host.reduceAdd (mulf z z) (constant S_ .f32 0x00000000#32) reducesTo_S16x4352x8x64_S16x4352x8_d3 h_S_))) (broadcastInDim S16x4352x8x1 ![] bcast_S_S16x4352x8x1 (constant S_ .f32 0x2B8CBCCC#32))))) shapeCasts_S16x4352x8x64_S16x4352x512 : FVec Ideal S16x4352x512 .f32) (ix3 b g q) =
      Ideal.div (z (ix4 b g (head q) ⟨q.val % 64, by omega⟩)) (max (Ideal.sqrt (∑ k, z (ix4 b g (head q) k) * z (ix4 b g (head q) k))) (Ideal.ofBits .f32 0x2B8CBCCC#32)) := by
  pointwise
  rfl

theorem normed_unit (b : Fin 16) (g : Fin 4352) (q : Fin 512) : Ideal.div (res_main_v163 A (ix4 b g (head q) ⟨q.val % 64, by omega⟩)) (max (Ideal.sqrt (∑ k, (show S16x4352x8x64.Idx → EReal from res_main_v163 A) (ix4 b g (head q) k) * (show S16x4352x8x64.Idx → EReal from res_main_v163 A) (ix4 b g (head q) k))) (Ideal.ofBits .f32 0x2B8CBCCC#32)) = unitEntry (rPc A) (rCw A) (rKk A) b g q := by
  refine congrArg₂ (fun x y : EReal => Ideal.div x y) ((v163_at A b g _ _).trans (congrArg (gained (rPc A) (rCw A) (rKk A) b g) (col_divmod q _ _)))
    (congrArg (fun x : EReal => max (Ideal.sqrt x) (Ideal.ofBits .f32 0x2B8CBCCC#32)) (Finset.sum_congr rfl fun k _ => ?_))
  exact congrArg₂ (fun x y : EReal => x * y) (v163_at A b g _ k) (v163_at A b g _ k)

theorem unit_at (b : Fin 16) (g : Fin 4352) (q : Fin 512) :
    (shapeCast S16x4352x512 (Host.divf (res_main_v163 A) (broadcastInDim S16x4352x8x64 ![0, 1, 2, 3] bcast_S16x4352x8x1_S16x4352x8x64_0_1_2_3 (maximumf (Host.sqrt (broadcastInDim S16x4352x8x1 ![0, 1, 2] bcast_S16x4352x8_S16x4352x8x1_0_1_2 (Host.reduceAdd (mulf (res_main_v163 A) (res_main_v163 A)) (constant S_ .f32 0x00000000#32) reducesTo_S16x4352x8x64_S16x4352x8_d3 h_S_))) (broadcastInDim S16x4352x8x1 ![] bcast_S_S16x4352x8x1 (constant S_ .f32 0x2B8CBCCC#32))))) shapeCasts_S16x4352x8x64_S16x4352x512 : FVec Ideal S16x4352x512 .f32) (ix3 b g q) =
      unitEntry (rPc A) (rCw A) (rKk A) b g q :=
  (normed_at (res_main_v163 A) b g q).trans (normed_unit A b g q)

theorem product_at (x y : FVec Ideal S16x4352x512 .f32) (i : S16x4352x512.Idx) {p q : EReal} (hx : x i = p) (hy : y i = q) : mulf x y i = p * q :=
  congrArg₂ (fun x y : EReal => x * y) hx hy

theorem unit_rate_at (b : Fin 16) (g : Fin 4352) (q : Fin 512) :
    (mulf (shapeCast _ (Host.divf (res_main_v163 A) (broadcastInDim S16x4352x8x64 ![0, 1, 2, 3] bcast_S16x4352x8x1_S16x4352x8x64_0_1_2_3 (maximumf (Host.sqrt (broadcastInDim S16x4352x8x1 ![0, 1, 2] bcast_S16x4352x8_S16x4352x8x1_0_1_2 (Host.reduceAdd (mulf (res_main_v163 A) (res_main_v163 A)) (constant S_ .f32 0x00000000#32) reducesTo_S16x4352x8x64_S16x4352x8_d3 h_S_))) (broadcastInDim S16x4352x8x1 ![] bcast_S_S16x4352x8x1 (constant S_ .f32 0x2B8CBCCC#32))))) shapeCasts_S16x4352x8x64_S16x4352x512) (res_main_v152 A) : FVec Ideal S16x4352x512 .f32) (ix3 b g q) =
      unitEntry (rPc A) (rCw A) (rKk A) b g q * rateEntry (rPn A) (rA0 A) (rAB A) b g q :=
  product_at _ _ _ (unit_at A b g q) (v152_at A b g q)

theorem first_decay_at (b : Fin 16) (g : Fin 4352) (q : Fin 512) :
    (mulf (broadcastInDim S16x4352x512 ![] bcast_S_S16x4352x512 (constant S_ .f32 0xBF1B4598#32)) (Host.divf (broadcastInDim S16x4352x512 ![] bcast_S_S16x4352x512 (constant S_ .f32 0x3F800000#32)) (addf (broadcastInDim S16x4352x512 ![] bcast_S_S16x4352x512 (constant S_ .f32 0x3F800000#32)) (Host.exp (Host.negf (addf (broadcastInDim S16x4352x512 ![0, 1, 2] bcast_S1x1x512_S16x4352x512_0_1_2 (broadcastInDim S1x1x512 ![2] bcast_S512_S1x1x512_2 (shapeCast _ (extractStridedSlice S1x512 ![0, 0] (A (Proc.devRef .tc main_arg3)) slices_S2x512_S1x512_0_0) shapeCasts_S1x512_S512))) (Host.dotGeneral (φ₁ := .f32) (φ₂ := .f32) dot_S16x4352x64_S64x512_S16x4352x512_2_0_01_1_n_n none (Host.tanh (extractStridedSlice S16x4352x64 ![0, 0, 0] (res_main_v100 A) slices_S16x4352x384_S16x4352x64_0_0_0)) (shapeCast _ (extractStridedSlice S1x64x512 ![0, 0, 0] (A (Proc.devRef .tc main_arg4)) slices_S2x64x512_S1x64x512_0_0_0) shapeCasts_S1x64x512_S64x512))))))) : FVec Ideal S16x4352x512 .f32) (ix3 b g q) =
      decayEntry (rPn A) (rW0 A) (rWB A) b g 0 q := by
  pointwise [res_main_v100]
  rfl

theorem second_decay_at (b : Fin 16) (g : Fin 4352) (q : Fin 512) :
    (mulf (broadcastInDim S16x4352x512 ![] bcast_S_S16x4352x512 (constant S_ .f32 0xBF1B4598#32)) (Host.divf (broadcastInDim S16x4352x512 ![] bcast_S_S16x4352x512 (constant S_ .f32 0x3F800000#32)) (addf (broadcastInDim S16x4352x512 ![] bcast_S_S16x4352x512 (constant S_ .f32 0x3F800000#32)) (Host.exp (Host.negf (addf (broadcastInDim S16x4352x512 ![0, 1, 2] bcast_S1x1x512_S16x4352x512_0_1_2 (broadcastInDim S1x1x512 ![2] bcast_S512_S1x1x512_2 (shapeCast _ (extractStridedSlice S1x512 ![1, 0] (A (Proc.devRef .tc main_arg3)) slices_S2x512_S1x512_1_0) shapeCasts_S1x512_S512))) (Host.dotGeneral (φ₁ := .f32) (φ₂ := .f32) dot_S16x4352x64_S64x512_S16x4352x512_2_0_01_1_n_n none (Host.tanh (extractStridedSlice S16x4352x64 ![0, 0, 64] (res_main_v100 A) slices_S16x4352x384_S16x4352x64_0_0_64)) (shapeCast _ (extractStridedSlice S1x64x512 ![1, 0, 0] (A (Proc.devRef .tc main_arg4)) slices_S2x64x512_S1x64x512_1_0_0) shapeCasts_S1x64x512_S64x512))))))) : FVec Ideal S16x4352x512 .f32) (ix3 b g q) =
      decayEntry (rPn A) (rW0 A) (rWB A) b g 1 q := by
  pointwise [res_main_v100]
  rfl

theorem gate_at (b : Fin 16) (g : Fin 4352) (q : Fin 512) :
    (Host.dotGeneral (φ₁ := .f32) (φ₂ := .f32) dot_S16x4352x128_S128x512_S16x4352x512_2_0_01_1_n_n none (Host.divf (broadcastInDim S16x4352x128 ![] bcast_S_S16x4352x128 (constant S_ .f32 0x3F800000#32)) (addf (broadcastInDim S16x4352x128 ![] bcast_S_S16x4352x128 (constant S_ .f32 0x3F800000#32)) (Host.exp (Host.negf (extractStridedSlice S16x4352x128 ![0, 0, 256] (res_main_v100 A) slices_S16x4352x384_S16x4352x128_0_0_256))))) (A (Proc.devRef .tc main_arg7)) : FVec Ideal S16x4352x512 .f32) (ix3 b g q) =
      gateEntry (rPn A) (rGB A) b g q := by
  pointwise [res_main_v100]
  rfl

theorem score_at (rx kx ax vx : FVec Ideal S16x4352x512 .f32) (ka : FVec Ideal S512 .f32) (bn : FVec Ideal S8x64 .f32) (b : Fin 16) (g : Fin 4352) (q : Fin 512) :
    (shapeCast S16x4352x512 (mulf (broadcastInDim S16x4352x8x64 ![0, 1, 2, 3] bcast_S16x4352x8x1_S16x4352x8x64_0_1_2_3 (broadcastInDim S16x4352x8x1 ![0, 1, 2] bcast_S16x4352x8_S16x4352x8x1_0_1_2 (Host.reduceAdd (mulf (shapeCast S16x4352x8x64 (mulf rx (mulf kx (addf (broadcastInDim S16x4352x512 ![] bcast_S_S16x4352x512 (constant S_ .f32 0x3F800000#32)) (mulf (subf ax (broadcastInDim S16x4352x512 ![] bcast_S_S16x4352x512 (constant S_ .f32 0x3F800000#32))) (broadcastInDim S16x4352x512 ![0, 1, 2] bcast_S1x1x512_S16x4352x512_0_1_2 (broadcastInDim S1x1x512 ![2] bcast_S512_S1x1x512_2 ka)))))) shapeCasts_S16x4352x512_S16x4352x8x64) (broadcastInDim S16x4352x8x64 ![0, 1, 2, 3] bcast_S1x1x8x64_S16x4352x8x64_0_1_2_3 (broadcastInDim S1x1x8x64 ![2, 3] bcast_S8x64_S1x1x8x64_2_3 bn))) (constant S_ .f32 0x00000000#32) reducesTo_S16x4352x8x64_S16x4352x8_d3 h_S_))) (shapeCast S16x4352x8x64 vx shapeCasts_S16x4352x512_S16x4352x8x64)) shapeCasts_S16x4352x8x64_S16x4352x512 : FVec Ideal S16x4352x512 .f32) (ix3 b g q) =
      (∑ k, rx (ix3 b g (col (head q) k)) * keyed (fun q => kx (ix3 b g q)) (fun q => ax (ix3 b g q)) (fun q => ka (ix1 q)) (col (head q) k) * bn (ix2 (head q) k)) * vx (ix3 b g q) := by
  pointwise
  rfl

theorem bonus_at (b : Fin 16) (g : Fin 4352) (q : Fin 512) :
    (shapeCast S16x4352x512 (mulf (broadcastInDim S16x4352x8x64 ![0, 1, 2, 3] bcast_S16x4352x8x1_S16x4352x8x64_0_1_2_3 (broadcastInDim S16x4352x8x1 ![0, 1, 2] bcast_S16x4352x8_S16x4352x8x1_0_1_2 (Host.reduceAdd (mulf (shapeCast _ (mulf (extractStridedSlice S16x4352x512 ![0, 0, 1024] (res_main_v94 A) slices_S16x4352x2560_S16x4352x512_0_0_1024) (mulf (res_main_v98 A) (addf (broadcastInDim S16x4352x512 ![] bcast_S_S16x4352x512 (constant S_ .f32 0x3F800000#32)) (mulf (subf (res_main_v152 A) (broadcastInDim S16x4352x512 ![] bcast_S_S16x4352x512 (constant S_ .f32 0x3F800000#32))) (broadcastInDim S16x4352x512 ![0, 1, 2] bcast_S1x1x512_S16x4352x512_0_1_2 (broadcastInDim S1x1x512 ![2] bcast_S512_S1x1x512_2 (A (Proc.devRef .tc main_arg9)))))))) shapeCasts_S16x4352x512_S16x4352x8x64) (broadcastInDim S16x4352x8x64 ![0, 1, 2, 3] bcast_S1x1x8x64_S16x4352x8x64_0_1_2_3 (broadcastInDim S1x1x8x64 ![2, 3] bcast_S8x64_S1x1x8x64_2_3 (A (Proc.devRef .tc main_arg10))))) (constant S_ .f32 0x00000000#32) reducesTo_S16x4352x8x64_S16x4352x8_d3 h_S_))) (shapeCast _ (res_main_v99 A) shapeCasts_S16x4352x512_S16x4352x8x64)) shapeCasts_S16x4352x8x64_S16x4352x512 : FVec Ideal S16x4352x512 .f32) (ix3 b g q) =
      bonusEntry (rPc A) (rPn A) (rCw A) (rA0 A) (rAB A) (rKa A) (rBn A) b g q := by
  refine (score_at _ _ _ _ _ _ b g q).trans ?_
  refine congrArg₂ (fun x y : EReal => x * y) (Finset.sum_congr rfl fun k _ => ?_) (v99_at A b g q)
  unfold scored
  rw [v97_at, show (fun q => res_main_v98 A (ix3 b g q)) = part (rPc A) (rCw A) b g 3 from funext (v98_at A b g),
    show (fun q => res_main_v152 A (ix3 b g q)) = rateEntry (rPn A) (rA0 A) (rAB A) b g from funext (v152_at A b g)]
  refine congrArg₂ (fun x y : EReal => x * y) rfl (congrArg (rBn A) (congrArg₂ ix2 (head_col _ k).symm ?_))
  exact Fin.ext (by show k.val = ((head q).val * 64 + k.val) % 64; omega)

/-- The reference's run: its results are the entries meant. -/
theorem run_meant (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ b g q, r.2.mem ((c.tc : Thread nD τ).loc main_v192) (ix3 b g q) = qEntry (rPc (StableHlo.launchContents m c)) (rCw (StableHlo.launchContents m c)) b g q)
      ∧ (∀ b g q, r.2.mem ((c.tc : Thread nD τ).loc main_v193) (ix3 b g q) = kEntry (rPc (StableHlo.launchContents m c)) (rCw (StableHlo.launchContents m c)) b g q)
      ∧ (∀ b g q, r.2.mem ((c.tc : Thread nD τ).loc main_v97) (ix3 b g q) = part (rPc (StableHlo.launchContents m c)) (rCw (StableHlo.launchContents m c)) b g 2 q)
      ∧ (∀ b g q, r.2.mem ((c.tc : Thread nD τ).loc main_v180) (ix3 b g q) = keyedEntry (rPc (StableHlo.launchContents m c)) (rPn (StableHlo.launchContents m c)) (rCw (StableHlo.launchContents m c)) (rA0 (StableHlo.launchContents m c)) (rAB (StableHlo.launchContents m c)) (rKa (StableHlo.launchContents m c)) b g q)
      ∧ (∀ b g q, r.2.mem ((c.tc : Thread nD τ).loc main_v194) (ix3 b g q) = part (rPc (StableHlo.launchContents m c)) (rCw (StableHlo.launchContents m c)) b g 4 q)
      ∧ (∀ b g q, r.2.mem ((c.tc : Thread nD τ).loc main_v172) (ix3 b g q) = unitEntry (rPc (StableHlo.launchContents m c)) (rCw (StableHlo.launchContents m c)) (rKk (StableHlo.launchContents m c)) b g q)
      ∧ (∀ b g q, r.2.mem ((c.tc : Thread nD τ).loc main_v195) (ix3 b g q) = unitEntry (rPc (StableHlo.launchContents m c)) (rCw (StableHlo.launchContents m c)) (rKk (StableHlo.launchContents m c)) b g q * rateEntry (rPn (StableHlo.launchContents m c)) (rA0 (StableHlo.launchContents m c)) (rAB (StableHlo.launchContents m c)) b g q)
      ∧ (∀ b g q, r.2.mem ((c.tc : Thread nD τ).loc main_v125) (ix3 b g q) = decayEntry (rPn (StableHlo.launchContents m c)) (rW0 (StableHlo.launchContents m c)) (rWB (StableHlo.launchContents m c)) b g 0 q)
      ∧ (∀ b g q, r.2.mem ((c.tc : Thread nD τ).loc main_v142) (ix3 b g q) = decayEntry (rPn (StableHlo.launchContents m c)) (rW0 (StableHlo.launchContents m c)) (rWB (StableHlo.launchContents m c)) b g 1 q)
      ∧ (∀ b g q, r.2.mem ((c.tc : Thread nD τ).loc main_v159) (ix3 b g q) = gateEntry (rPn (StableHlo.launchContents m c)) (rGB (StableHlo.launchContents m c)) b g q)
      ∧ (∀ b g q, r.2.mem ((c.tc : Thread nD τ).loc main_v191) (ix3 b g q) = bonusEntry (rPc (StableHlo.launchContents m c)) (rPn (StableHlo.launchContents m c)) (rCw (StableHlo.launchContents m c)) (rA0 (StableHlo.launchContents m c)) (rAB (StableHlo.launchContents m c)) (rKa (StableHlo.launchContents m c)) (rBn (StableHlo.launchContents m c)) b g q)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun r h c => by
    obtain ⟨h0, h1, h2, h3, h4, h5, h6, h7, h8, h9, h10, hr⟩ := h c
    exact ⟨fun b g q => (congrFun h0 _).trans (q_at _ b g q),
      fun b g q => (congrFun h1 _).trans (k_at _ b g q),
      fun b g q => (congrFun h2 _).trans (r_at _ b g q),
      fun b g q => (congrFun h3 _).trans (keyed_at _ b g q),
      fun b g q => (congrFun h4 _).trans (val_at _ b g q),
      fun b g q => (congrFun h5 _).trans (unit_at _ b g q),
      fun b g q => (congrFun h6 _).trans (unit_rate_at _ b g q),
      fun b g q => (congrFun h7 _).trans (first_decay_at _ b g q),
      fun b g q => (congrFun h8 _).trans (second_decay_at _ b g q),
      fun b g q => (congrFun h9 _).trans (gate_at _ b g q),
      fun b g q => (congrFun h10 _).trans (bonus_at _ b g q), hr⟩)
    (Cert.Reference4Ideal.Value.run (F := Ideal) m ρ)

end Cert.Prep

end
-- ==== Proof.Prep.Claims.lean ====
/-
  The claims about the preparation of the mixers' inputs.
-/
module

public import proofs.«01_k».proof.Defs
public import proofs.«01_k».proof.Proof.Gen.Kernel4.Frame
public import proofs.«01_k».proof.Proof.Prep.Value
public import proofs.«01_k».proof.Proof.Prep.Range
public import proofs.«01_k».proof.Proof.Prep.Results
public import Idealize.ShloMosaic.Lib.Quiescent

@[expose] public section

set_option maxRecDepth 16384

noncomputable section

namespace Cert.Prep

open Idealize.ShloMosaic Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_ideal_finite : Cert.quiescent_Kernel4Ideal_pre_prep_finite := fun m ρ _ => Cert.Kernel4Ideal.Gen.frame m ρ

/-- The reference runs and leaves its arguments; it has no semaphore. -/
theorem frame_reference : Cert.quiescent_Reference4Ideal := fun m ρ _ =>
  (θ_run _ _ _).mono (fun r h => ⟨fun c => (h c).2.2.2.2.2.2.2.2.2.2.2, sem_eq_zero_of_no_sems (by decide) r.2⟩) (run_meant m ρ)

theorem frame_reference_finite : Cert.quiescent_Reference4Ideal_pre_prep_finite := fun m ρ _ => frame_reference m ρ True.intro

/-- The precondition makes what the splits are of real. -/
theorem reals {m : (ℓ : Loc Cert.Kernel4Ideal.nD Cert.Kernel4Ideal.τ Cert.Kernel4Ideal.sig) → Buf (Elt Ideal) ℓ} (h : Cert.Pre_Kernel4Ideal_prep_finite m)
    (c : Dev Cert.Kernel4Ideal.nD) : Cert.Kernel4Ideal.Prep.Reals m c := by
  obtain ⟨h0, h1, h2, h3, h4, h5, h6, h7, h8⟩ := Range.reals (h c)
  exact ⟨h0, h1, h2, h3, h4, h5, h6, h7, h8⟩

set_option maxHeartbeats 2000000 in
/-- The kernel's eleven result arrays and the reference's are the same functions of the arguments. -/
theorem values : Cert.algebraic_Kernel4Ideal_Reference4Ideal_pre_prep_finite := by
  intro m ρ m' ρ' hP hA
  refine ⟨fun c => Cert.Kernel4Ideal.Prep.qResult m c, fun c => Cert.Kernel4Ideal.Prep.kResult m c, fun c => Cert.Kernel4Ideal.Prep.rResult m c, fun c => Cert.Kernel4Ideal.Prep.keyedResult m c, fun c => Cert.Kernel4Ideal.Prep.vResult m c, fun c => Cert.Kernel4Ideal.Prep.unitResult m c, fun c => Cert.Kernel4Ideal.Prep.ratedResult m c, fun c => Cert.Kernel4Ideal.Prep.firstResult m c, fun c => Cert.Kernel4Ideal.Prep.secondResult m c, fun c => Cert.Kernel4Ideal.Prep.gateResult m c, fun c => Cert.Kernel4Ideal.Prep.bonusResult m c, ?_, ?_⟩
  · refine (θ_run _ _ _).mono (fun r h c => ?_) (Cert.Kernel4Ideal.Value.run_blocks (F := Ideal) m ρ)
    obtain ⟨h0, h1, h2, h3, h4, h5, h6, h7, h8, h9, h10, hr⟩ := h c
    exact ⟨h0.trans (Cert.Kernel4Ideal.Prep.q_final m c), h1.trans (Cert.Kernel4Ideal.Prep.k_final m c), h2.trans (Cert.Kernel4Ideal.Prep.r_final m c), h3.trans (Cert.Kernel4Ideal.Prep.keyed_final m c (reals hP c)), h4.trans (Cert.Kernel4Ideal.Prep.v_final m c), h5.trans (Cert.Kernel4Ideal.Prep.unit_final m c (reals hP c)), h6.trans (Cert.Kernel4Ideal.Prep.rated_final m c (reals hP c)), h7.trans (Cert.Kernel4Ideal.Prep.first_final m c (reals hP c)), h8.trans (Cert.Kernel4Ideal.Prep.second_final m c (reals hP c)), h9.trans (Cert.Kernel4Ideal.Prep.gate_final m c (reals hP c)), h10.trans (Cert.Kernel4Ideal.Prep.bonus_final m c (reals hP c)), hr⟩
  · refine (θ_run _ _ _).mono (fun r h c => ?_) (run_meant m' ρ')
    obtain ⟨a0, a1, a2, a3, a4, a5, a6, a7, a8, a9, a10⟩ := hA c
    obtain ⟨h0, h1, h2, h3, h4, h5, h6, h7, h8, h9, h10, hr⟩ := h c
    have e0 : rPc (StableHlo.launchContents m' c) = Cert.Kernel4Ideal.Prep.kPc m c := a0
    have e1 : rPn (StableHlo.launchContents m' c) = Cert.Kernel4Ideal.Prep.kPn m c := a1
    have e2 : rCw (StableHlo.launchContents m' c) = Cert.Kernel4Ideal.Prep.kCw m c := a2
    have e3 : rW0 (StableHlo.launchContents m' c) = Cert.Kernel4Ideal.Prep.kW0 m c := a3
    have e4 : rWB (StableHlo.launchContents m' c) = Cert.Kernel4Ideal.Prep.kWB m c := a4
    have e5 : rA0 (StableHlo.launchContents m' c) = Cert.Kernel4Ideal.Prep.kA0 m c := a5
    have e6 : rAB (StableHlo.launchContents m' c) = Cert.Kernel4Ideal.Prep.kAB m c := a6
    have e7 : rGB (StableHlo.launchContents m' c) = Cert.Kernel4Ideal.Prep.kGB m c := a7
    have e8 : rKk (StableHlo.launchContents m' c) = Cert.Kernel4Ideal.Prep.kKk m c := a8
    have e9 : rKa (StableHlo.launchContents m' c) = Cert.Kernel4Ideal.Prep.kKa m c := a9
    have e10 : rBn (StableHlo.launchContents m' c) = Cert.Kernel4Ideal.Prep.kBn m c := a10
    simp only [e0, e1, e2, e3, e4, e5, e6, e7, e8, e9, e10] at h0 h1 h2 h3 h4 h5 h6 h7 h8 h9 h10
    refine ⟨funext fun i => ?_, funext fun i => ?_, funext fun i => ?_, funext fun i => ?_, funext fun i => ?_, funext fun i => ?_, funext fun i => ?_, funext fun i => ?_, funext fun i => ?_, funext fun i => ?_, funext fun i => ?_, hr⟩
    all_goals idx_vars i
    · exact h0 i0 i1 i2
    · exact h1 i0 i1 i2
    · exact h2 i0 i1 i2
    · exact h3 i0 i1 i2
    · exact h4 i0 i1 i2
    · exact h5 i0 i1 i2
    · exact h6 i0 i1 i2
    · exact h7 i0 i1 i2
    · exact h8 i0 i1 i2
    · exact h9 i0 i1 i2
    · exact h10 i0 i1 i2

end Cert.Prep

end
-- ==== Proof.lean ====
/-
  The certificate's claims, proved: see `Proof/Experts/Claims.lean`, `Proof/Inproj/Claims.lean`, `Proof/Outproj/Claims.lean` and
  `Proof/Prep/Claims.lean`.
-/
module

public import proofs.«01_k».proof.Defs
public import proofs.«01_k».proof.Proof.Experts.Claims
public import proofs.«01_k».proof.Proof.Inproj.Claims
public import proofs.«01_k».proof.Proof.Outproj.Claims
public import proofs.«01_k».proof.Proof.Prep.Claims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts,
    Cert.Reference4Ideal.Gen.facts, Cert.Pre_tables_in_range.Gen.facts, Cert.Pre_scans_finite.Gen.facts, Cert.Pre_prep_finite.Gen.facts,
    Cert.Experts.frame_kernel, Cert.Experts.frame_ideal, Cert.Experts.frame_reference,
    Cert.Inproj.frame_kernel, Cert.Inproj.frame_ideal, Cert.Inproj.frame_reference,
    Cert.Outproj.frame_kernel, Cert.Outproj.frame_ideal, Cert.Outproj.frame_ideal_finite, Cert.Outproj.frame_reference, Cert.Outproj.frame_reference_finite,
    Cert.Prep.frame_kernel, Cert.Prep.frame_ideal, Cert.Prep.frame_ideal_finite, Cert.Prep.frame_reference, Cert.Prep.frame_reference_finite,
    trivial, Cert.Experts.values, trivial, Cert.Inproj.values, trivial, Cert.Outproj.values, trivial, Cert.Prep.values⟩

end Cert.Proof

end
